-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnOdd (m : (ℓ : Loc Cert.FfnOdd.nD Cert.FfnOdd.τ Cert.FfnOdd.sig) → Buf (Elt Bits) ℓ) : Prop :=
  True

def Pre_FfnOddIdeal (m : (ℓ : Loc Cert.FfnOddIdeal.nD Cert.FfnOddIdeal.τ Cert.FfnOddIdeal.sig) → Buf (Elt Ideal) ℓ) : Prop :=
  True

def Pre_FfnOddRefIdeal (m : (ℓ : Loc Cert.FfnOddRefIdeal.nD Cert.FfnOddRefIdeal.τ Cert.FfnOddRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjOdd (m : (ℓ : Loc Cert.InProjOdd.nD Cert.InProjOdd.τ Cert.InProjOdd.sig) → Buf (Elt Bits) ℓ) : Prop :=
  True

def Pre_InProjOddIdeal (m : (ℓ : Loc Cert.InProjOddIdeal.nD Cert.InProjOddIdeal.τ Cert.InProjOddIdeal.sig) → Buf (Elt Ideal) ℓ) : Prop :=
  True

def Pre_InProjOddRefIdeal (m : (ℓ : Loc Cert.InProjOddRefIdeal.nD Cert.InProjOddRefIdeal.τ Cert.InProjOddRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_MemProjOdd (m : (ℓ : Loc Cert.MemProjOdd.nD Cert.MemProjOdd.τ Cert.MemProjOdd.sig) → Buf (Elt Bits) ℓ) : Prop :=
  True

def Pre_MemProjOddIdeal (m : (ℓ : Loc Cert.MemProjOddIdeal.nD Cert.MemProjOddIdeal.τ Cert.MemProjOddIdeal.sig) → Buf (Elt Ideal) ℓ) : Prop :=
  True

def Pre_MemProjOddRefIdeal (m : (ℓ : Loc Cert.MemProjOddRefIdeal.nD Cert.MemProjOddRefIdeal.τ Cert.MemProjOddRefIdeal.sig) → Buf (Elt Ideal) ℓ) : Prop :=
  True

def Pre_PostMix (m : (ℓ : Loc Cert.PostMix.nD Cert.PostMix.τ Cert.PostMix.sig) → Buf (Elt Bits) ℓ) : Prop :=
  True

def Pre_PostMixIdeal (m : (ℓ : Loc Cert.PostMixIdeal.nD Cert.PostMixIdeal.τ Cert.PostMixIdeal.sig) → Buf (Elt Ideal) ℓ) : Prop :=
  True

def Pre_PostMixIdeal_post_mix_finite [hPre_post_mix_finite : Cert.Pre_post_mix_finite.Facts] (m : (ℓ : Loc Cert.PostMixIdeal.nD Cert.PostMixIdeal.τ Cert.PostMixIdeal.sig) → Buf (Elt Ideal) ℓ) : Prop :=
  ∀ c : Dev Cert.PostMixIdeal.nD,
    (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).1 = (fun _ => 1#1)
    ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.1 = (fun _ => 1#1)
    ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.1 = (fun _ => 1#1)
    ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.1 = (fun _ => 1#1)
    ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.2.1 = (fun _ => 1#1)
    ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.2.2.1 = (fun _ => 1#1)
    ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.2.2.2 = (fun _ => 1#1)

def Pre_PostMixRefIdeal (m : (ℓ : Loc Cert.PostMixRefIdeal.nD Cert.PostMixRefIdeal.τ Cert.PostMixRefIdeal.sig) → Buf (Elt Ideal) ℓ) : Prop :=
  True

def Pre_PostMixRefIdeal_post_mix_finite [hPre_post_mix_finite : Cert.Pre_post_mix_finite.Facts] (m : (ℓ : Loc Cert.PostMixRefIdeal.nD Cert.PostMixRefIdeal.τ Cert.PostMixRefIdeal.sig) → Buf (Elt Ideal) ℓ) : Prop :=
  ∀ c : Dev Cert.PostMixRefIdeal.nD,
    (Cert.Pre_post_mix_finite.fn (F := Ideal) (m ((c.tc : Thread Cert.PostMixRefIdeal.nD Cert.PostMixRefIdeal.τ).loc Cert.PostMixRefIdeal.main_arg0)) (m ((c.tc : Thread Cert.PostMixRefIdeal.nD Cert.PostMixRefIdeal.τ).loc Cert.PostMixRefIdeal.main_arg1)) (m ((c.tc : Thread Cert.PostMixRefIdeal.nD Cert.PostMixRefIdeal.τ).loc Cert.PostMixRefIdeal.main_arg2)) (m ((c.tc : Thread Cert.PostMixRefIdeal.nD Cert.PostMixRefIdeal.τ).loc Cert.PostMixRefIdeal.main_arg3)) (m ((c.tc : Thread Cert.PostMixRefIdeal.nD Cert.PostMixRefIdeal.τ).loc Cert.PostMixRefIdeal.main_arg4)) (m ((c.tc : Thread Cert.PostMixRefIdeal.nD Cert.PostMixRefIdeal.τ).loc Cert.PostMixRefIdeal.main_arg5)) (m ((c.tc : Thread Cert.PostMixRefIdeal.nD Cert.PostMixRefIdeal.τ).loc Cert.PostMixRefIdeal.main_arg6)) (m ((c.tc : Thread Cert.PostMixRefIdeal.nD Cert.PostMixRefIdeal.τ).loc Cert.PostMixRefIdeal.main_arg7))).1 = (fun _ => 1#1)
    ∧ (Cert.Pre_post_mix_finite.fn (F := Ideal) (m ((c.tc : Thread Cert.PostMixRefIdeal.nD Cert.PostMixRefIdeal.τ).loc Cert.PostMixRefIdeal.main_arg0)) (m ((c.tc : Thread Cert.PostMixRefIdeal.nD Cert.PostMixRefIdeal.τ).loc Cert.PostMixRefIdeal.main_arg1)) (m ((c.tc : Thread Cert.PostMixRefIdeal.nD Cert.PostMixRefIdeal.τ).loc Cert.PostMixRefIdeal.main_arg2)) (m ((c.tc : Thread Cert.PostMixRefIdeal.nD Cert.PostMixRefIdeal.τ).loc Cert.PostMixRefIdeal.main_arg3)) (m ((c.tc : Thread Cert.PostMixRefIdeal.nD Cert.PostMixRefIdeal.τ).loc Cert.PostMixRefIdeal.main_arg4)) (m ((c.tc : Thread Cert.PostMixRefIdeal.nD Cert.PostMixRefIdeal.τ).loc Cert.PostMixRefIdeal.main_arg5)) (m ((c.tc : Thread Cert.PostMixRefIdeal.nD Cert.PostMixRefIdeal.τ).loc Cert.PostMixRefIdeal.main_arg6)) (m ((c.tc : Thread Cert.PostMixRefIdeal.nD Cert.PostMixRefIdeal.τ).loc Cert.PostMixRefIdeal.main_arg7))).2.1 = (fun _ => 1#1)
    ∧ (Cert.Pre_post_mix_finite.fn (F := Ideal) (m ((c.tc : Thread Cert.PostMixRefIdeal.nD Cert.PostMixRefIdeal.τ).loc Cert.PostMixRefIdeal.main_arg0)) (m ((c.tc : Thread Cert.PostMixRefIdeal.nD Cert.PostMixRefIdeal.τ).loc Cert.PostMixRefIdeal.main_arg1)) (m ((c.tc : Thread Cert.PostMixRefIdeal.nD Cert.PostMixRefIdeal.τ).loc Cert.PostMixRefIdeal.main_arg2)) (m ((c.tc : Thread Cert.PostMixRefIdeal.nD Cert.PostMixRefIdeal.τ).loc Cert.PostMixRefIdeal.main_arg3)) (m ((c.tc : Thread Cert.PostMixRefIdeal.nD Cert.PostMixRefIdeal.τ).loc Cert.PostMixRefIdeal.main_arg4)) (m ((c.tc : Thread Cert.PostMixRefIdeal.nD Cert.PostMixRefIdeal.τ).loc Cert.PostMixRefIdeal.main_arg5)) (m ((c.tc : Thread Cert.PostMixRefIdeal.nD Cert.PostMixRefIdeal.τ).loc Cert.PostMixRefIdeal.main_arg6)) (m ((c.tc : Thread Cert.PostMixRefIdeal.nD Cert.PostMixRefIdeal.τ).loc Cert.PostMixRefIdeal.main_arg7))).2.2.1 = (fun _ => 1#1)
    ∧ (Cert.Pre_post_mix_finite.fn (F := Ideal) (m ((c.tc : Thread Cert.PostMixRefIdeal.nD Cert.PostMixRefIdeal.τ).loc Cert.PostMixRefIdeal.main_arg0)) (m ((c.tc : Thread Cert.PostMixRefIdeal.nD Cert.PostMixRefIdeal.τ).loc Cert.PostMixRefIdeal.main_arg1)) (m ((c.tc : Thread Cert.PostMixRefIdeal.nD Cert.PostMixRefIdeal.τ).loc Cert.PostMixRefIdeal.main_arg2)) (m ((c.tc : Thread Cert.PostMixRefIdeal.nD Cert.PostMixRefIdeal.τ).loc Cert.PostMixRefIdeal.main_arg3)) (m ((c.tc : Thread Cert.PostMixRefIdeal.nD Cert.PostMixRefIdeal.τ).loc Cert.PostMixRefIdeal.main_arg4)) (m ((c.tc : Thread Cert.PostMixRefIdeal.nD Cert.PostMixRefIdeal.τ).loc Cert.PostMixRefIdeal.main_arg5)) (m ((c.tc : Thread Cert.PostMixRefIdeal.nD Cert.PostMixRefIdeal.τ).loc Cert.PostMixRefIdeal.main_arg6)) (m ((c.tc : Thread Cert.PostMixRefIdeal.nD Cert.PostMixRefIdeal.τ).loc Cert.PostMixRefIdeal.main_arg7))).2.2.2.1 = (fun _ => 1#1)
    ∧ (Cert.Pre_post_mix_finite.fn (F := Ideal) (m ((c.tc : Thread Cert.PostMixRefIdeal.nD Cert.PostMixRefIdeal.τ).loc Cert.PostMixRefIdeal.main_arg0)) (m ((c.tc : Thread Cert.PostMixRefIdeal.nD Cert.PostMixRefIdeal.τ).loc Cert.PostMixRefIdeal.main_arg1)) (m ((c.tc : Thread Cert.PostMixRefIdeal.nD Cert.PostMixRefIdeal.τ).loc Cert.PostMixRefIdeal.main_arg2)) (m ((c.tc : Thread Cert.PostMixRefIdeal.nD Cert.PostMixRefIdeal.τ).loc Cert.PostMixRefIdeal.main_arg3)) (m ((c.tc : Thread Cert.PostMixRefIdeal.nD Cert.PostMixRefIdeal.τ).loc Cert.PostMixRefIdeal.main_arg4)) (m ((c.tc : Thread Cert.PostMixRefIdeal.nD Cert.PostMixRefIdeal.τ).loc Cert.PostMixRefIdeal.main_arg5)) (m ((c.tc : Thread Cert.PostMixRefIdeal.nD Cert.PostMixRefIdeal.τ).loc Cert.PostMixRefIdeal.main_arg6)) (m ((c.tc : Thread Cert.PostMixRefIdeal.nD Cert.PostMixRefIdeal.τ).loc Cert.PostMixRefIdeal.main_arg7))).2.2.2.2.1 = (fun _ => 1#1)
    ∧ (Cert.Pre_post_mix_finite.fn (F := Ideal) (m ((c.tc : Thread Cert.PostMixRefIdeal.nD Cert.PostMixRefIdeal.τ).loc Cert.PostMixRefIdeal.main_arg0)) (m ((c.tc : Thread Cert.PostMixRefIdeal.nD Cert.PostMixRefIdeal.τ).loc Cert.PostMixRefIdeal.main_arg1)) (m ((c.tc : Thread Cert.PostMixRefIdeal.nD Cert.PostMixRefIdeal.τ).loc Cert.PostMixRefIdeal.main_arg2)) (m ((c.tc : Thread Cert.PostMixRefIdeal.nD Cert.PostMixRefIdeal.τ).loc Cert.PostMixRefIdeal.main_arg3)) (m ((c.tc : Thread Cert.PostMixRefIdeal.nD Cert.PostMixRefIdeal.τ).loc Cert.PostMixRefIdeal.main_arg4)) (m ((c.tc : Thread Cert.PostMixRefIdeal.nD Cert.PostMixRefIdeal.τ).loc Cert.PostMixRefIdeal.main_arg5)) (m ((c.tc : Thread Cert.PostMixRefIdeal.nD Cert.PostMixRefIdeal.τ).loc Cert.PostMixRefIdeal.main_arg6)) (m ((c.tc : Thread Cert.PostMixRefIdeal.nD Cert.PostMixRefIdeal.τ).loc Cert.PostMixRefIdeal.main_arg7))).2.2.2.2.2.1 = (fun _ => 1#1)
    ∧ (Cert.Pre_post_mix_finite.fn (F := Ideal) (m ((c.tc : Thread Cert.PostMixRefIdeal.nD Cert.PostMixRefIdeal.τ).loc Cert.PostMixRefIdeal.main_arg0)) (m ((c.tc : Thread Cert.PostMixRefIdeal.nD Cert.PostMixRefIdeal.τ).loc Cert.PostMixRefIdeal.main_arg1)) (m ((c.tc : Thread Cert.PostMixRefIdeal.nD Cert.PostMixRefIdeal.τ).loc Cert.PostMixRefIdeal.main_arg2)) (m ((c.tc : Thread Cert.PostMixRefIdeal.nD Cert.PostMixRefIdeal.τ).loc Cert.PostMixRefIdeal.main_arg3)) (m ((c.tc : Thread Cert.PostMixRefIdeal.nD Cert.PostMixRefIdeal.τ).loc Cert.PostMixRefIdeal.main_arg4)) (m ((c.tc : Thread Cert.PostMixRefIdeal.nD Cert.PostMixRefIdeal.τ).loc Cert.PostMixRefIdeal.main_arg5)) (m ((c.tc : Thread Cert.PostMixRefIdeal.nD Cert.PostMixRefIdeal.τ).loc Cert.PostMixRefIdeal.main_arg6)) (m ((c.tc : Thread Cert.PostMixRefIdeal.nD Cert.PostMixRefIdeal.τ).loc Cert.PostMixRefIdeal.main_arg7))).2.2.2.2.2.2 = (fun _ => 1#1)

def Pre_PostMixOdd (m : (ℓ : Loc Cert.PostMixOdd.nD Cert.PostMixOdd.τ Cert.PostMixOdd.sig) → Buf (Elt Bits) ℓ) : Prop :=
  True

def Pre_PostMixOddIdeal (m : (ℓ : Loc Cert.PostMixOddIdeal.nD Cert.PostMixOddIdeal.τ Cert.PostMixOddIdeal.sig) → Buf (Elt Ideal) ℓ) : Prop :=
  True

def Pre_PostMixOddIdeal_post_mix_odd_finite [hPre_post_mix_odd_finite : Cert.Pre_post_mix_odd_finite.Facts] (m : (ℓ : Loc Cert.PostMixOddIdeal.nD Cert.PostMixOddIdeal.τ Cert.PostMixOddIdeal.sig) → Buf (Elt Ideal) ℓ) : Prop :=
  ∀ c : Dev Cert.PostMixOddIdeal.nD,
    (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).1 = (fun _ => 1#1)
    ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.1 = (fun _ => 1#1)
    ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.1 = (fun _ => 1#1)
    ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.2.1 = (fun _ => 1#1)
    ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.2.2.1 = (fun _ => 1#1)
    ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.2.2.2 = (fun _ => 1#1)

def Pre_PostMixOddRefIdeal (m : (ℓ : Loc Cert.PostMixOddRefIdeal.nD Cert.PostMixOddRefIdeal.τ Cert.PostMixOddRefIdeal.sig) → Buf (Elt Ideal) ℓ) : Prop :=
  True

def Pre_PostMixOddRefIdeal_post_mix_odd_finite [hPre_post_mix_odd_finite : Cert.Pre_post_mix_odd_finite.Facts] (m : (ℓ : Loc Cert.PostMixOddRefIdeal.nD Cert.PostMixOddRefIdeal.τ Cert.PostMixOddRefIdeal.sig) → Buf (Elt Ideal) ℓ) : Prop :=
  ∀ c : Dev Cert.PostMixOddRefIdeal.nD,
    (Cert.Pre_post_mix_odd_finite.fn (F := Ideal) (m ((c.tc : Thread Cert.PostMixOddRefIdeal.nD Cert.PostMixOddRefIdeal.τ).loc Cert.PostMixOddRefIdeal.main_arg0)) (m ((c.tc : Thread Cert.PostMixOddRefIdeal.nD Cert.PostMixOddRefIdeal.τ).loc Cert.PostMixOddRefIdeal.main_arg1)) (m ((c.tc : Thread Cert.PostMixOddRefIdeal.nD Cert.PostMixOddRefIdeal.τ).loc Cert.PostMixOddRefIdeal.main_arg2)) (m ((c.tc : Thread Cert.PostMixOddRefIdeal.nD Cert.PostMixOddRefIdeal.τ).loc Cert.PostMixOddRefIdeal.main_arg3)) (m ((c.tc : Thread Cert.PostMixOddRefIdeal.nD Cert.PostMixOddRefIdeal.τ).loc Cert.PostMixOddRefIdeal.main_arg4)) (m ((c.tc : Thread Cert.PostMixOddRefIdeal.nD Cert.PostMixOddRefIdeal.τ).loc Cert.PostMixOddRefIdeal.main_arg5)) (m ((c.tc : Thread Cert.PostMixOddRefIdeal.nD Cert.PostMixOddRefIdeal.τ).loc Cert.PostMixOddRefIdeal.main_arg6))).1 = (fun _ => 1#1)
    ∧ (Cert.Pre_post_mix_odd_finite.fn (F := Ideal) (m ((c.tc : Thread Cert.PostMixOddRefIdeal.nD Cert.PostMixOddRefIdeal.τ).loc Cert.PostMixOddRefIdeal.main_arg0)) (m ((c.tc : Thread Cert.PostMixOddRefIdeal.nD Cert.PostMixOddRefIdeal.τ).loc Cert.PostMixOddRefIdeal.main_arg1)) (m ((c.tc : Thread Cert.PostMixOddRefIdeal.nD Cert.PostMixOddRefIdeal.τ).loc Cert.PostMixOddRefIdeal.main_arg2)) (m ((c.tc : Thread Cert.PostMixOddRefIdeal.nD Cert.PostMixOddRefIdeal.τ).loc Cert.PostMixOddRefIdeal.main_arg3)) (m ((c.tc : Thread Cert.PostMixOddRefIdeal.nD Cert.PostMixOddRefIdeal.τ).loc Cert.PostMixOddRefIdeal.main_arg4)) (m ((c.tc : Thread Cert.PostMixOddRefIdeal.nD Cert.PostMixOddRefIdeal.τ).loc Cert.PostMixOddRefIdeal.main_arg5)) (m ((c.tc : Thread Cert.PostMixOddRefIdeal.nD Cert.PostMixOddRefIdeal.τ).loc Cert.PostMixOddRefIdeal.main_arg6))).2.1 = (fun _ => 1#1)
    ∧ (Cert.Pre_post_mix_odd_finite.fn (F := Ideal) (m ((c.tc : Thread Cert.PostMixOddRefIdeal.nD Cert.PostMixOddRefIdeal.τ).loc Cert.PostMixOddRefIdeal.main_arg0)) (m ((c.tc : Thread Cert.PostMixOddRefIdeal.nD Cert.PostMixOddRefIdeal.τ).loc Cert.PostMixOddRefIdeal.main_arg1)) (m ((c.tc : Thread Cert.PostMixOddRefIdeal.nD Cert.PostMixOddRefIdeal.τ).loc Cert.PostMixOddRefIdeal.main_arg2)) (m ((c.tc : Thread Cert.PostMixOddRefIdeal.nD Cert.PostMixOddRefIdeal.τ).loc Cert.PostMixOddRefIdeal.main_arg3)) (m ((c.tc : Thread Cert.PostMixOddRefIdeal.nD Cert.PostMixOddRefIdeal.τ).loc Cert.PostMixOddRefIdeal.main_arg4)) (m ((c.tc : Thread Cert.PostMixOddRefIdeal.nD Cert.PostMixOddRefIdeal.τ).loc Cert.PostMixOddRefIdeal.main_arg5)) (m ((c.tc : Thread Cert.PostMixOddRefIdeal.nD Cert.PostMixOddRefIdeal.τ).loc Cert.PostMixOddRefIdeal.main_arg6))).2.2.1 = (fun _ => 1#1)
    ∧ (Cert.Pre_post_mix_odd_finite.fn (F := Ideal) (m ((c.tc : Thread Cert.PostMixOddRefIdeal.nD Cert.PostMixOddRefIdeal.τ).loc Cert.PostMixOddRefIdeal.main_arg0)) (m ((c.tc : Thread Cert.PostMixOddRefIdeal.nD Cert.PostMixOddRefIdeal.τ).loc Cert.PostMixOddRefIdeal.main_arg1)) (m ((c.tc : Thread Cert.PostMixOddRefIdeal.nD Cert.PostMixOddRefIdeal.τ).loc Cert.PostMixOddRefIdeal.main_arg2)) (m ((c.tc : Thread Cert.PostMixOddRefIdeal.nD Cert.PostMixOddRefIdeal.τ).loc Cert.PostMixOddRefIdeal.main_arg3)) (m ((c.tc : Thread Cert.PostMixOddRefIdeal.nD Cert.PostMixOddRefIdeal.τ).loc Cert.PostMixOddRefIdeal.main_arg4)) (m ((c.tc : Thread Cert.PostMixOddRefIdeal.nD Cert.PostMixOddRefIdeal.τ).loc Cert.PostMixOddRefIdeal.main_arg5)) (m ((c.tc : Thread Cert.PostMixOddRefIdeal.nD Cert.PostMixOddRefIdeal.τ).loc Cert.PostMixOddRefIdeal.main_arg6))).2.2.2.1 = (fun _ => 1#1)
    ∧ (Cert.Pre_post_mix_odd_finite.fn (F := Ideal) (m ((c.tc : Thread Cert.PostMixOddRefIdeal.nD Cert.PostMixOddRefIdeal.τ).loc Cert.PostMixOddRefIdeal.main_arg0)) (m ((c.tc : Thread Cert.PostMixOddRefIdeal.nD Cert.PostMixOddRefIdeal.τ).loc Cert.PostMixOddRefIdeal.main_arg1)) (m ((c.tc : Thread Cert.PostMixOddRefIdeal.nD Cert.PostMixOddRefIdeal.τ).loc Cert.PostMixOddRefIdeal.main_arg2)) (m ((c.tc : Thread Cert.PostMixOddRefIdeal.nD Cert.PostMixOddRefIdeal.τ).loc Cert.PostMixOddRefIdeal.main_arg3)) (m ((c.tc : Thread Cert.PostMixOddRefIdeal.nD Cert.PostMixOddRefIdeal.τ).loc Cert.PostMixOddRefIdeal.main_arg4)) (m ((c.tc : Thread Cert.PostMixOddRefIdeal.nD Cert.PostMixOddRefIdeal.τ).loc Cert.PostMixOddRefIdeal.main_arg5)) (m ((c.tc : Thread Cert.PostMixOddRefIdeal.nD Cert.PostMixOddRefIdeal.τ).loc Cert.PostMixOddRefIdeal.main_arg6))).2.2.2.2.1 = (fun _ => 1#1)
    ∧ (Cert.Pre_post_mix_odd_finite.fn (F := Ideal) (m ((c.tc : Thread Cert.PostMixOddRefIdeal.nD Cert.PostMixOddRefIdeal.τ).loc Cert.PostMixOddRefIdeal.main_arg0)) (m ((c.tc : Thread Cert.PostMixOddRefIdeal.nD Cert.PostMixOddRefIdeal.τ).loc Cert.PostMixOddRefIdeal.main_arg1)) (m ((c.tc : Thread Cert.PostMixOddRefIdeal.nD Cert.PostMixOddRefIdeal.τ).loc Cert.PostMixOddRefIdeal.main_arg2)) (m ((c.tc : Thread Cert.PostMixOddRefIdeal.nD Cert.PostMixOddRefIdeal.τ).loc Cert.PostMixOddRefIdeal.main_arg3)) (m ((c.tc : Thread Cert.PostMixOddRefIdeal.nD Cert.PostMixOddRefIdeal.τ).loc Cert.PostMixOddRefIdeal.main_arg4)) (m ((c.tc : Thread Cert.PostMixOddRefIdeal.nD Cert.PostMixOddRefIdeal.τ).loc Cert.PostMixOddRefIdeal.main_arg5)) (m ((c.tc : Thread Cert.PostMixOddRefIdeal.nD Cert.PostMixOddRefIdeal.τ).loc Cert.PostMixOddRefIdeal.main_arg6))).2.2.2.2.2 = (fun _ => 1#1)

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_na_finite [hPre_na_finite : Cert.Pre_na_finite.Facts] (m : (ℓ : Loc Cert.NaIdeal.nD Cert.NaIdeal.τ Cert.NaIdeal.sig) → Buf (Elt Ideal) ℓ) : Prop :=
  ∀ c : Dev Cert.NaIdeal.nD,
    (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).1 = (fun _ => 1#1)
    ∧ (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).2 = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_na_finite [hPre_na_finite : Cert.Pre_na_finite.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))).1 = (fun _ => 1#1)
    ∧ (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnOdd [hFfnOdd : Cert.FfnOdd.Facts] : Prop :=
  ∀ (m : (ℓ : Loc Cert.FfnOdd.nD Cert.FfnOdd.τ Cert.FfnOdd.sig) → Buf (Elt Bits) ℓ) (g : Dev Cert.FfnOdd.nD → PrngReg), Pre_FfnOdd m →
    θ_run (Cert.FfnOdd.defs (F := Bits)) (onTc (τ := Cert.FfnOdd.τ) (Cert.FfnOdd.main (F := Bits))) ⟨m, fun _ => 0, g⟩ (fun r => (∀ c : Dev Cert.FfnOdd.nD,
      r.2.mem ((c.tc : Thread Cert.FfnOdd.nD Cert.FfnOdd.τ).loc Cert.FfnOdd.main_arg0) = m ((c.tc : Thread Cert.FfnOdd.nD Cert.FfnOdd.τ).loc Cert.FfnOdd.main_arg0)
      ∧ r.2.mem ((c.tc : Thread Cert.FfnOdd.nD Cert.FfnOdd.τ).loc Cert.FfnOdd.main_arg1) = m ((c.tc : Thread Cert.FfnOdd.nD Cert.FfnOdd.τ).loc Cert.FfnOdd.main_arg1)
      ∧ r.2.mem ((c.tc : Thread Cert.FfnOdd.nD Cert.FfnOdd.τ).loc Cert.FfnOdd.main_arg2) = m ((c.tc : Thread Cert.FfnOdd.nD Cert.FfnOdd.τ).loc Cert.FfnOdd.main_arg2)
      ∧ r.2.mem ((c.tc : Thread Cert.FfnOdd.nD Cert.FfnOdd.τ).loc Cert.FfnOdd.main_arg3) = m ((c.tc : Thread Cert.FfnOdd.nD Cert.FfnOdd.τ).loc Cert.FfnOdd.main_arg3)
      ∧ r.2.mem ((c.tc : Thread Cert.FfnOdd.nD Cert.FfnOdd.τ).loc Cert.FfnOdd.main_arg4) = m ((c.tc : Thread Cert.FfnOdd.nD Cert.FfnOdd.τ).loc Cert.FfnOdd.main_arg4))
      ∧ r.2.sem = fun _ => 0)

def quiescent_FfnOddIdeal [hFfnOddIdeal : Cert.FfnOddIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg), Pre_FfnOddIdeal m →
    θ_run (Cert.FfnOddIdeal.defs (F := Ideal)) (onTc (τ := Cert.FfnOddIdeal.τ) (Cert.FfnOddIdeal.main (F := Ideal))) ⟨m, fun _ => 0, g⟩ (fun r => (∀ c : Dev Cert.FfnOddIdeal.nD,
      r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
      ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
      ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
      ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
      ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4))
      ∧ r.2.sem = fun _ => 0)

def quiescent_FfnOddRefIdeal [hFfnOddRefIdeal : Cert.FfnOddRefIdeal.Facts] : Prop :=
  ∀ (m : (ℓ : Loc Cert.FfnOddRefIdeal.nD Cert.FfnOddRefIdeal.τ Cert.FfnOddRefIdeal.sig) → Buf (Elt Ideal) ℓ) (g : Dev Cert.FfnOddRefIdeal.nD → PrngReg), Pre_FfnOddRefIdeal m →
    θ_run (Cert.FfnOddRefIdeal.defs (F := Ideal)) (onTc (τ := Cert.FfnOddRefIdeal.τ) (Cert.FfnOddRefIdeal.main (F := Ideal))) ⟨m, fun _ => 0, g⟩ (fun r => (∀ c : Dev Cert.FfnOddRefIdeal.nD,
      r.2.mem ((c.tc : Thread Cert.FfnOddRefIdeal.nD Cert.FfnOddRefIdeal.τ).loc Cert.FfnOddRefIdeal.main_arg0) = m ((c.tc : Thread Cert.FfnOddRefIdeal.nD Cert.FfnOddRefIdeal.τ).loc Cert.FfnOddRefIdeal.main_arg0)
      ∧ r.2.mem ((c.tc : Thread Cert.FfnOddRefIdeal.nD Cert.FfnOddRefIdeal.τ).loc Cert.FfnOddRefIdeal.main_arg1) = m ((c.tc : Thread Cert.FfnOddRefIdeal.nD Cert.FfnOddRefIdeal.τ).loc Cert.FfnOddRefIdeal.main_arg1)
      ∧ r.2.mem ((c.tc : Thread Cert.FfnOddRefIdeal.nD Cert.FfnOddRefIdeal.τ).loc Cert.FfnOddRefIdeal.main_arg2) = m ((c.tc : Thread Cert.FfnOddRefIdeal.nD Cert.FfnOddRefIdeal.τ).loc Cert.FfnOddRefIdeal.main_arg2)
      ∧ r.2.mem ((c.tc : Thread Cert.FfnOddRefIdeal.nD Cert.FfnOddRefIdeal.τ).loc Cert.FfnOddRefIdeal.main_arg3) = m ((c.tc : Thread Cert.FfnOddRefIdeal.nD Cert.FfnOddRefIdeal.τ).loc Cert.FfnOddRefIdeal.main_arg3)
      ∧ r.2.mem ((c.tc : Thread Cert.FfnOddRefIdeal.nD Cert.FfnOddRefIdeal.τ).loc Cert.FfnOddRefIdeal.main_arg4) = m ((c.tc : Thread Cert.FfnOddRefIdeal.nD Cert.FfnOddRefIdeal.τ).loc Cert.FfnOddRefIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjOdd [hInProjOdd : Cert.InProjOdd.Facts] : Prop :=
  ∀ (m : (ℓ : Loc Cert.InProjOdd.nD Cert.InProjOdd.τ Cert.InProjOdd.sig) → Buf (Elt Bits) ℓ) (g : Dev Cert.InProjOdd.nD → PrngReg), Pre_InProjOdd m →
    θ_run (Cert.InProjOdd.defs (F := Bits)) (onTc (τ := Cert.InProjOdd.τ) (Cert.InProjOdd.main (F := Bits))) ⟨m, fun _ => 0, g⟩ (fun r => (∀ c : Dev Cert.InProjOdd.nD,
      r.2.mem ((c.tc : Thread Cert.InProjOdd.nD Cert.InProjOdd.τ).loc Cert.InProjOdd.main_arg0) = m ((c.tc : Thread Cert.InProjOdd.nD Cert.InProjOdd.τ).loc Cert.InProjOdd.main_arg0)
      ∧ r.2.mem ((c.tc : Thread Cert.InProjOdd.nD Cert.InProjOdd.τ).loc Cert.InProjOdd.main_arg1) = m ((c.tc : Thread Cert.InProjOdd.nD Cert.InProjOdd.τ).loc Cert.InProjOdd.main_arg1)
      ∧ r.2.mem ((c.tc : Thread Cert.InProjOdd.nD Cert.InProjOdd.τ).loc Cert.InProjOdd.main_arg2) = m ((c.tc : Thread Cert.InProjOdd.nD Cert.InProjOdd.τ).loc Cert.InProjOdd.main_arg2)
      ∧ r.2.mem ((c.tc : Thread Cert.InProjOdd.nD Cert.InProjOdd.τ).loc Cert.InProjOdd.main_arg3) = m ((c.tc : Thread Cert.InProjOdd.nD Cert.InProjOdd.τ).loc Cert.InProjOdd.main_arg3))
      ∧ r.2.sem = fun _ => 0)

def quiescent_InProjOddIdeal [hInProjOddIdeal : Cert.InProjOddIdeal.Facts] : Prop :=
  ∀ (m : (ℓ : Loc Cert.InProjOddIdeal.nD Cert.InProjOddIdeal.τ Cert.InProjOddIdeal.sig) → Buf (Elt Ideal) ℓ) (g : Dev Cert.InProjOddIdeal.nD → PrngReg), Pre_InProjOddIdeal m →
    θ_run (Cert.InProjOddIdeal.defs (F := Ideal)) (onTc (τ := Cert.InProjOddIdeal.τ) (Cert.InProjOddIdeal.main (F := Ideal))) ⟨m, fun _ => 0, g⟩ (fun r => (∀ c : Dev Cert.InProjOddIdeal.nD,
      r.2.mem ((c.tc : Thread Cert.InProjOddIdeal.nD Cert.InProjOddIdeal.τ).loc Cert.InProjOddIdeal.main_arg0) = m ((c.tc : Thread Cert.InProjOddIdeal.nD Cert.InProjOddIdeal.τ).loc Cert.InProjOddIdeal.main_arg0)
      ∧ r.2.mem ((c.tc : Thread Cert.InProjOddIdeal.nD Cert.InProjOddIdeal.τ).loc Cert.InProjOddIdeal.main_arg1) = m ((c.tc : Thread Cert.InProjOddIdeal.nD Cert.InProjOddIdeal.τ).loc Cert.InProjOddIdeal.main_arg1)
      ∧ r.2.mem ((c.tc : Thread Cert.InProjOddIdeal.nD Cert.InProjOddIdeal.τ).loc Cert.InProjOddIdeal.main_arg2) = m ((c.tc : Thread Cert.InProjOddIdeal.nD Cert.InProjOddIdeal.τ).loc Cert.InProjOddIdeal.main_arg2)
      ∧ r.2.mem ((c.tc : Thread Cert.InProjOddIdeal.nD Cert.InProjOddIdeal.τ).loc Cert.InProjOddIdeal.main_arg3) = m ((c.tc : Thread Cert.InProjOddIdeal.nD Cert.InProjOddIdeal.τ).loc Cert.InProjOddIdeal.main_arg3))
      ∧ r.2.sem = fun _ => 0)

def quiescent_InProjOddRefIdeal [hInProjOddRefIdeal : Cert.InProjOddRefIdeal.Facts] : Prop :=
  ∀ (m : (ℓ : Loc Cert.InProjOddRefIdeal.nD Cert.InProjOddRefIdeal.τ Cert.InProjOddRefIdeal.sig) → Buf (Elt Ideal) ℓ) (g : Dev Cert.InProjOddRefIdeal.nD → PrngReg), Pre_InProjOddRefIdeal m →
    θ_run (Cert.InProjOddRefIdeal.defs (F := Ideal)) (onTc (τ := Cert.InProjOddRefIdeal.τ) (Cert.InProjOddRefIdeal.main (F := Ideal))) ⟨m, fun _ => 0, g⟩ (fun r => (∀ c : Dev Cert.InProjOddRefIdeal.nD,
      r.2.mem ((c.tc : Thread Cert.InProjOddRefIdeal.nD Cert.InProjOddRefIdeal.τ).loc Cert.InProjOddRefIdeal.main_arg0) = m ((c.tc : Thread Cert.InProjOddRefIdeal.nD Cert.InProjOddRefIdeal.τ).loc Cert.InProjOddRefIdeal.main_arg0)
      ∧ r.2.mem ((c.tc : Thread Cert.InProjOddRefIdeal.nD Cert.InProjOddRefIdeal.τ).loc Cert.InProjOddRefIdeal.main_arg1) = m ((c.tc : Thread Cert.InProjOddRefIdeal.nD Cert.InProjOddRefIdeal.τ).loc Cert.InProjOddRefIdeal.main_arg1)
      ∧ r.2.mem ((c.tc : Thread Cert.InProjOddRefIdeal.nD Cert.InProjOddRefIdeal.τ).loc Cert.InProjOddRefIdeal.main_arg2) = m ((c.tc : Thread Cert.InProjOddRefIdeal.nD Cert.InProjOddRefIdeal.τ).loc Cert.InProjOddRefIdeal.main_arg2)
      ∧ r.2.mem ((c.tc : Thread Cert.InProjOddRefIdeal.nD Cert.InProjOddRefIdeal.τ).loc Cert.InProjOddRefIdeal.main_arg3) = m ((c.tc : Thread Cert.InProjOddRefIdeal.nD Cert.InProjOddRefIdeal.τ).loc Cert.InProjOddRefIdeal.main_arg3))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2)
      ∧ r.2.mem ((c.tc : Thread Cert.MemProj.nD Cert.MemProj.τ).loc Cert.MemProj.main_arg3) = m ((c.tc : Thread Cert.MemProj.nD Cert.MemProj.τ).loc Cert.MemProj.main_arg3))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
      ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2)
      ∧ r.2.mem ((c.tc : Thread Cert.MemProjRefIdeal.nD Cert.MemProjRefIdeal.τ).loc Cert.MemProjRefIdeal.main_arg3) = m ((c.tc : Thread Cert.MemProjRefIdeal.nD Cert.MemProjRefIdeal.τ).loc Cert.MemProjRefIdeal.main_arg3))
      ∧ r.2.sem = fun _ => 0)

def quiescent_MemProjOdd [hMemProjOdd : Cert.MemProjOdd.Facts] : Prop :=
  ∀ (m : (ℓ : Loc Cert.MemProjOdd.nD Cert.MemProjOdd.τ Cert.MemProjOdd.sig) → Buf (Elt Bits) ℓ) (g : Dev Cert.MemProjOdd.nD → PrngReg), Pre_MemProjOdd m →
    θ_run (Cert.MemProjOdd.defs (F := Bits)) (onTc (τ := Cert.MemProjOdd.τ) (Cert.MemProjOdd.main (F := Bits))) ⟨m, fun _ => 0, g⟩ (fun r => (∀ c : Dev Cert.MemProjOdd.nD,
      r.2.mem ((c.tc : Thread Cert.MemProjOdd.nD Cert.MemProjOdd.τ).loc Cert.MemProjOdd.main_arg0) = m ((c.tc : Thread Cert.MemProjOdd.nD Cert.MemProjOdd.τ).loc Cert.MemProjOdd.main_arg0)
      ∧ r.2.mem ((c.tc : Thread Cert.MemProjOdd.nD Cert.MemProjOdd.τ).loc Cert.MemProjOdd.main_arg1) = m ((c.tc : Thread Cert.MemProjOdd.nD Cert.MemProjOdd.τ).loc Cert.MemProjOdd.main_arg1)
      ∧ r.2.mem ((c.tc : Thread Cert.MemProjOdd.nD Cert.MemProjOdd.τ).loc Cert.MemProjOdd.main_arg2) = m ((c.tc : Thread Cert.MemProjOdd.nD Cert.MemProjOdd.τ).loc Cert.MemProjOdd.main_arg2)
      ∧ r.2.mem ((c.tc : Thread Cert.MemProjOdd.nD Cert.MemProjOdd.τ).loc Cert.MemProjOdd.main_arg3) = m ((c.tc : Thread Cert.MemProjOdd.nD Cert.MemProjOdd.τ).loc Cert.MemProjOdd.main_arg3))
      ∧ r.2.sem = fun _ => 0)

def quiescent_MemProjOddIdeal [hMemProjOddIdeal : Cert.MemProjOddIdeal.Facts] : Prop :=
  ∀ (m : (ℓ : Loc Cert.MemProjOddIdeal.nD Cert.MemProjOddIdeal.τ Cert.MemProjOddIdeal.sig) → Buf (Elt Ideal) ℓ) (g : Dev Cert.MemProjOddIdeal.nD → PrngReg), Pre_MemProjOddIdeal m →
    θ_run (Cert.MemProjOddIdeal.defs (F := Ideal)) (onTc (τ := Cert.MemProjOddIdeal.τ) (Cert.MemProjOddIdeal.main (F := Ideal))) ⟨m, fun _ => 0, g⟩ (fun r => (∀ c : Dev Cert.MemProjOddIdeal.nD,
      r.2.mem ((c.tc : Thread Cert.MemProjOddIdeal.nD Cert.MemProjOddIdeal.τ).loc Cert.MemProjOddIdeal.main_arg0) = m ((c.tc : Thread Cert.MemProjOddIdeal.nD Cert.MemProjOddIdeal.τ).loc Cert.MemProjOddIdeal.main_arg0)
      ∧ r.2.mem ((c.tc : Thread Cert.MemProjOddIdeal.nD Cert.MemProjOddIdeal.τ).loc Cert.MemProjOddIdeal.main_arg1) = m ((c.tc : Thread Cert.MemProjOddIdeal.nD Cert.MemProjOddIdeal.τ).loc Cert.MemProjOddIdeal.main_arg1)
      ∧ r.2.mem ((c.tc : Thread Cert.MemProjOddIdeal.nD Cert.MemProjOddIdeal.τ).loc Cert.MemProjOddIdeal.main_arg2) = m ((c.tc : Thread Cert.MemProjOddIdeal.nD Cert.MemProjOddIdeal.τ).loc Cert.MemProjOddIdeal.main_arg2)
      ∧ r.2.mem ((c.tc : Thread Cert.MemProjOddIdeal.nD Cert.MemProjOddIdeal.τ).loc Cert.MemProjOddIdeal.main_arg3) = m ((c.tc : Thread Cert.MemProjOddIdeal.nD Cert.MemProjOddIdeal.τ).loc Cert.MemProjOddIdeal.main_arg3))
      ∧ r.2.sem = fun _ => 0)

def quiescent_MemProjOddRefIdeal [hMemProjOddRefIdeal : Cert.MemProjOddRefIdeal.Facts] : Prop :=
  ∀ (m : (ℓ : Loc Cert.MemProjOddRefIdeal.nD Cert.MemProjOddRefIdeal.τ Cert.MemProjOddRefIdeal.sig) → Buf (Elt Ideal) ℓ) (g : Dev Cert.MemProjOddRefIdeal.nD → PrngReg), Pre_MemProjOddRefIdeal m →
    θ_run (Cert.MemProjOddRefIdeal.defs (F := Ideal)) (onTc (τ := Cert.MemProjOddRefIdeal.τ) (Cert.MemProjOddRefIdeal.main (F := Ideal))) ⟨m, fun _ => 0, g⟩ (fun r => (∀ c : Dev Cert.MemProjOddRefIdeal.nD,
      r.2.mem ((c.tc : Thread Cert.MemProjOddRefIdeal.nD Cert.MemProjOddRefIdeal.τ).loc Cert.MemProjOddRefIdeal.main_arg0) = m ((c.tc : Thread Cert.MemProjOddRefIdeal.nD Cert.MemProjOddRefIdeal.τ).loc Cert.MemProjOddRefIdeal.main_arg0)
      ∧ r.2.mem ((c.tc : Thread Cert.MemProjOddRefIdeal.nD Cert.MemProjOddRefIdeal.τ).loc Cert.MemProjOddRefIdeal.main_arg1) = m ((c.tc : Thread Cert.MemProjOddRefIdeal.nD Cert.MemProjOddRefIdeal.τ).loc Cert.MemProjOddRefIdeal.main_arg1)
      ∧ r.2.mem ((c.tc : Thread Cert.MemProjOddRefIdeal.nD Cert.MemProjOddRefIdeal.τ).loc Cert.MemProjOddRefIdeal.main_arg2) = m ((c.tc : Thread Cert.MemProjOddRefIdeal.nD Cert.MemProjOddRefIdeal.τ).loc Cert.MemProjOddRefIdeal.main_arg2)
      ∧ r.2.mem ((c.tc : Thread Cert.MemProjOddRefIdeal.nD Cert.MemProjOddRefIdeal.τ).loc Cert.MemProjOddRefIdeal.main_arg3) = m ((c.tc : Thread Cert.MemProjOddRefIdeal.nD Cert.MemProjOddRefIdeal.τ).loc Cert.MemProjOddRefIdeal.main_arg3))
      ∧ r.2.sem = fun _ => 0)

def quiescent_PostMix [hPostMix : Cert.PostMix.Facts] : Prop :=
  ∀ (m : (ℓ : Loc Cert.PostMix.nD Cert.PostMix.τ Cert.PostMix.sig) → Buf (Elt Bits) ℓ) (g : Dev Cert.PostMix.nD → PrngReg), Pre_PostMix m →
    θ_run (Cert.PostMix.defs (F := Bits)) (onTc (τ := Cert.PostMix.τ) (Cert.PostMix.main (F := Bits))) ⟨m, fun _ => 0, g⟩ (fun r => (∀ c : Dev Cert.PostMix.nD,
      r.2.mem ((c.tc : Thread Cert.PostMix.nD Cert.PostMix.τ).loc Cert.PostMix.main_arg0) = m ((c.tc : Thread Cert.PostMix.nD Cert.PostMix.τ).loc Cert.PostMix.main_arg0)
      ∧ r.2.mem ((c.tc : Thread Cert.PostMix.nD Cert.PostMix.τ).loc Cert.PostMix.main_arg1) = m ((c.tc : Thread Cert.PostMix.nD Cert.PostMix.τ).loc Cert.PostMix.main_arg1)
      ∧ r.2.mem ((c.tc : Thread Cert.PostMix.nD Cert.PostMix.τ).loc Cert.PostMix.main_arg2) = m ((c.tc : Thread Cert.PostMix.nD Cert.PostMix.τ).loc Cert.PostMix.main_arg2)
      ∧ r.2.mem ((c.tc : Thread Cert.PostMix.nD Cert.PostMix.τ).loc Cert.PostMix.main_arg3) = m ((c.tc : Thread Cert.PostMix.nD Cert.PostMix.τ).loc Cert.PostMix.main_arg3)
      ∧ r.2.mem ((c.tc : Thread Cert.PostMix.nD Cert.PostMix.τ).loc Cert.PostMix.main_arg4) = m ((c.tc : Thread Cert.PostMix.nD Cert.PostMix.τ).loc Cert.PostMix.main_arg4)
      ∧ r.2.mem ((c.tc : Thread Cert.PostMix.nD Cert.PostMix.τ).loc Cert.PostMix.main_arg5) = m ((c.tc : Thread Cert.PostMix.nD Cert.PostMix.τ).loc Cert.PostMix.main_arg5)
      ∧ r.2.mem ((c.tc : Thread Cert.PostMix.nD Cert.PostMix.τ).loc Cert.PostMix.main_arg6) = m ((c.tc : Thread Cert.PostMix.nD Cert.PostMix.τ).loc Cert.PostMix.main_arg6)
      ∧ r.2.mem ((c.tc : Thread Cert.PostMix.nD Cert.PostMix.τ).loc Cert.PostMix.main_arg7) = m ((c.tc : Thread Cert.PostMix.nD Cert.PostMix.τ).loc Cert.PostMix.main_arg7))
      ∧ r.2.sem = fun _ => 0)

def quiescent_PostMixIdeal [hPostMixIdeal : Cert.PostMixIdeal.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
      ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
      ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
      ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6)
      ∧ r.2.mem ((c.tc : Thread Cert.PostMixIdeal.nD Cert.PostMixIdeal.τ).loc Cert.PostMixIdeal.main_arg7) = m ((c.tc : Thread Cert.PostMixIdeal.nD Cert.PostMixIdeal.τ).loc Cert.PostMixIdeal.main_arg7))
      ∧ r.2.sem = fun _ => 0)

def quiescent_PostMixIdeal_pre_post_mix_finite [hPostMixIdeal : Cert.PostMixIdeal.Facts] [hPre_post_mix_finite : Cert.Pre_post_mix_finite.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal_post_mix_finite m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
      ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
      ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
      ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6)
      ∧ r.2.mem ((c.tc : Thread Cert.PostMixIdeal.nD Cert.PostMixIdeal.τ).loc Cert.PostMixIdeal.main_arg7) = m ((c.tc : Thread Cert.PostMixIdeal.nD Cert.PostMixIdeal.τ).loc Cert.PostMixIdeal.main_arg7))
      ∧ r.2.sem = fun _ => 0)

def quiescent_PostMixRefIdeal [hPostMixRefIdeal : Cert.PostMixRefIdeal.Facts] : Prop :=
  ∀ (m : (ℓ : Loc Cert.PostMixRefIdeal.nD Cert.PostMixRefIdeal.τ Cert.PostMixRefIdeal.sig) → Buf (Elt Ideal) ℓ) (g : Dev Cert.PostMixRefIdeal.nD → PrngReg), Pre_PostMixRefIdeal m →
    θ_run (Cert.PostMixRefIdeal.defs (F := Ideal)) (onTc (τ := Cert.PostMixRefIdeal.τ) (Cert.PostMixRefIdeal.main (F := Ideal))) ⟨m, fun _ => 0, g⟩ (fun r => (∀ c : Dev Cert.PostMixRefIdeal.nD,
      r.2.mem ((c.tc : Thread Cert.PostMixRefIdeal.nD Cert.PostMixRefIdeal.τ).loc Cert.PostMixRefIdeal.main_arg0) = m ((c.tc : Thread Cert.PostMixRefIdeal.nD Cert.PostMixRefIdeal.τ).loc Cert.PostMixRefIdeal.main_arg0)
      ∧ r.2.mem ((c.tc : Thread Cert.PostMixRefIdeal.nD Cert.PostMixRefIdeal.τ).loc Cert.PostMixRefIdeal.main_arg1) = m ((c.tc : Thread Cert.PostMixRefIdeal.nD Cert.PostMixRefIdeal.τ).loc Cert.PostMixRefIdeal.main_arg1)
      ∧ r.2.mem ((c.tc : Thread Cert.PostMixRefIdeal.nD Cert.PostMixRefIdeal.τ).loc Cert.PostMixRefIdeal.main_arg2) = m ((c.tc : Thread Cert.PostMixRefIdeal.nD Cert.PostMixRefIdeal.τ).loc Cert.PostMixRefIdeal.main_arg2)
      ∧ r.2.mem ((c.tc : Thread Cert.PostMixRefIdeal.nD Cert.PostMixRefIdeal.τ).loc Cert.PostMixRefIdeal.main_arg3) = m ((c.tc : Thread Cert.PostMixRefIdeal.nD Cert.PostMixRefIdeal.τ).loc Cert.PostMixRefIdeal.main_arg3)
      ∧ r.2.mem ((c.tc : Thread Cert.PostMixRefIdeal.nD Cert.PostMixRefIdeal.τ).loc Cert.PostMixRefIdeal.main_arg4) = m ((c.tc : Thread Cert.PostMixRefIdeal.nD Cert.PostMixRefIdeal.τ).loc Cert.PostMixRefIdeal.main_arg4)
      ∧ r.2.mem ((c.tc : Thread Cert.PostMixRefIdeal.nD Cert.PostMixRefIdeal.τ).loc Cert.PostMixRefIdeal.main_arg5) = m ((c.tc : Thread Cert.PostMixRefIdeal.nD Cert.PostMixRefIdeal.τ).loc Cert.PostMixRefIdeal.main_arg5)
      ∧ r.2.mem ((c.tc : Thread Cert.PostMixRefIdeal.nD Cert.PostMixRefIdeal.τ).loc Cert.PostMixRefIdeal.main_arg6) = m ((c.tc : Thread Cert.PostMixRefIdeal.nD Cert.PostMixRefIdeal.τ).loc Cert.PostMixRefIdeal.main_arg6)
      ∧ r.2.mem ((c.tc : Thread Cert.PostMixRefIdeal.nD Cert.PostMixRefIdeal.τ).loc Cert.PostMixRefIdeal.main_arg7) = m ((c.tc : Thread Cert.PostMixRefIdeal.nD Cert.PostMixRefIdeal.τ).loc Cert.PostMixRefIdeal.main_arg7))
      ∧ r.2.sem = fun _ => 0)

def quiescent_PostMixRefIdeal_pre_post_mix_finite [hPostMixRefIdeal : Cert.PostMixRefIdeal.Facts] [hPre_post_mix_finite : Cert.Pre_post_mix_finite.Facts] : Prop :=
  ∀ (m : (ℓ : Loc Cert.PostMixRefIdeal.nD Cert.PostMixRefIdeal.τ Cert.PostMixRefIdeal.sig) → Buf (Elt Ideal) ℓ) (g : Dev Cert.PostMixRefIdeal.nD → PrngReg), Pre_PostMixRefIdeal_post_mix_finite m →
    θ_run (Cert.PostMixRefIdeal.defs (F := Ideal)) (onTc (τ := Cert.PostMixRefIdeal.τ) (Cert.PostMixRefIdeal.main (F := Ideal))) ⟨m, fun _ => 0, g⟩ (fun r => (∀ c : Dev Cert.PostMixRefIdeal.nD,
      r.2.mem ((c.tc : Thread Cert.PostMixRefIdeal.nD Cert.PostMixRefIdeal.τ).loc Cert.PostMixRefIdeal.main_arg0) = m ((c.tc : Thread Cert.PostMixRefIdeal.nD Cert.PostMixRefIdeal.τ).loc Cert.PostMixRefIdeal.main_arg0)
      ∧ r.2.mem ((c.tc : Thread Cert.PostMixRefIdeal.nD Cert.PostMixRefIdeal.τ).loc Cert.PostMixRefIdeal.main_arg1) = m ((c.tc : Thread Cert.PostMixRefIdeal.nD Cert.PostMixRefIdeal.τ).loc Cert.PostMixRefIdeal.main_arg1)
      ∧ r.2.mem ((c.tc : Thread Cert.PostMixRefIdeal.nD Cert.PostMixRefIdeal.τ).loc Cert.PostMixRefIdeal.main_arg2) = m ((c.tc : Thread Cert.PostMixRefIdeal.nD Cert.PostMixRefIdeal.τ).loc Cert.PostMixRefIdeal.main_arg2)
      ∧ r.2.mem ((c.tc : Thread Cert.PostMixRefIdeal.nD Cert.PostMixRefIdeal.τ).loc Cert.PostMixRefIdeal.main_arg3) = m ((c.tc : Thread Cert.PostMixRefIdeal.nD Cert.PostMixRefIdeal.τ).loc Cert.PostMixRefIdeal.main_arg3)
      ∧ r.2.mem ((c.tc : Thread Cert.PostMixRefIdeal.nD Cert.PostMixRefIdeal.τ).loc Cert.PostMixRefIdeal.main_arg4) = m ((c.tc : Thread Cert.PostMixRefIdeal.nD Cert.PostMixRefIdeal.τ).loc Cert.PostMixRefIdeal.main_arg4)
      ∧ r.2.mem ((c.tc : Thread Cert.PostMixRefIdeal.nD Cert.PostMixRefIdeal.τ).loc Cert.PostMixRefIdeal.main_arg5) = m ((c.tc : Thread Cert.PostMixRefIdeal.nD Cert.PostMixRefIdeal.τ).loc Cert.PostMixRefIdeal.main_arg5)
      ∧ r.2.mem ((c.tc : Thread Cert.PostMixRefIdeal.nD Cert.PostMixRefIdeal.τ).loc Cert.PostMixRefIdeal.main_arg6) = m ((c.tc : Thread Cert.PostMixRefIdeal.nD Cert.PostMixRefIdeal.τ).loc Cert.PostMixRefIdeal.main_arg6)
      ∧ r.2.mem ((c.tc : Thread Cert.PostMixRefIdeal.nD Cert.PostMixRefIdeal.τ).loc Cert.PostMixRefIdeal.main_arg7) = m ((c.tc : Thread Cert.PostMixRefIdeal.nD Cert.PostMixRefIdeal.τ).loc Cert.PostMixRefIdeal.main_arg7))
      ∧ r.2.sem = fun _ => 0)

def quiescent_PostMixOdd [hPostMixOdd : Cert.PostMixOdd.Facts] : Prop :=
  ∀ (m : (ℓ : Loc Cert.PostMixOdd.nD Cert.PostMixOdd.τ Cert.PostMixOdd.sig) → Buf (Elt Bits) ℓ) (g : Dev Cert.PostMixOdd.nD → PrngReg), Pre_PostMixOdd m →
    θ_run (Cert.PostMixOdd.defs (F := Bits)) (onTc (τ := Cert.PostMixOdd.τ) (Cert.PostMixOdd.main (F := Bits))) ⟨m, fun _ => 0, g⟩ (fun r => (∀ c : Dev Cert.PostMixOdd.nD,
      r.2.mem ((c.tc : Thread Cert.PostMixOdd.nD Cert.PostMixOdd.τ).loc Cert.PostMixOdd.main_arg0) = m ((c.tc : Thread Cert.PostMixOdd.nD Cert.PostMixOdd.τ).loc Cert.PostMixOdd.main_arg0)
      ∧ r.2.mem ((c.tc : Thread Cert.PostMixOdd.nD Cert.PostMixOdd.τ).loc Cert.PostMixOdd.main_arg1) = m ((c.tc : Thread Cert.PostMixOdd.nD Cert.PostMixOdd.τ).loc Cert.PostMixOdd.main_arg1)
      ∧ r.2.mem ((c.tc : Thread Cert.PostMixOdd.nD Cert.PostMixOdd.τ).loc Cert.PostMixOdd.main_arg2) = m ((c.tc : Thread Cert.PostMixOdd.nD Cert.PostMixOdd.τ).loc Cert.PostMixOdd.main_arg2)
      ∧ r.2.mem ((c.tc : Thread Cert.PostMixOdd.nD Cert.PostMixOdd.τ).loc Cert.PostMixOdd.main_arg3) = m ((c.tc : Thread Cert.PostMixOdd.nD Cert.PostMixOdd.τ).loc Cert.PostMixOdd.main_arg3)
      ∧ r.2.mem ((c.tc : Thread Cert.PostMixOdd.nD Cert.PostMixOdd.τ).loc Cert.PostMixOdd.main_arg4) = m ((c.tc : Thread Cert.PostMixOdd.nD Cert.PostMixOdd.τ).loc Cert.PostMixOdd.main_arg4)
      ∧ r.2.mem ((c.tc : Thread Cert.PostMixOdd.nD Cert.PostMixOdd.τ).loc Cert.PostMixOdd.main_arg5) = m ((c.tc : Thread Cert.PostMixOdd.nD Cert.PostMixOdd.τ).loc Cert.PostMixOdd.main_arg5)
      ∧ r.2.mem ((c.tc : Thread Cert.PostMixOdd.nD Cert.PostMixOdd.τ).loc Cert.PostMixOdd.main_arg6) = m ((c.tc : Thread Cert.PostMixOdd.nD Cert.PostMixOdd.τ).loc Cert.PostMixOdd.main_arg6))
      ∧ r.2.sem = fun _ => 0)

def quiescent_PostMixOddIdeal [hPostMixOddIdeal : Cert.PostMixOddIdeal.Facts] : Prop :=
  ∀ (m : (ℓ : Loc Cert.PostMixOddIdeal.nD Cert.PostMixOddIdeal.τ Cert.PostMixOddIdeal.sig) → Buf (Elt Ideal) ℓ) (g : Dev Cert.PostMixOddIdeal.nD → PrngReg), Pre_PostMixOddIdeal m →
    θ_run (Cert.PostMixOddIdeal.defs (F := Ideal)) (onTc (τ := Cert.PostMixOddIdeal.τ) (Cert.PostMixOddIdeal.main (F := Ideal))) ⟨m, fun _ => 0, g⟩ (fun r => (∀ c : Dev Cert.PostMixOddIdeal.nD,
      r.2.mem ((c.tc : Thread Cert.PostMixOddIdeal.nD Cert.PostMixOddIdeal.τ).loc Cert.PostMixOddIdeal.main_arg0) = m ((c.tc : Thread Cert.PostMixOddIdeal.nD Cert.PostMixOddIdeal.τ).loc Cert.PostMixOddIdeal.main_arg0)
      ∧ r.2.mem ((c.tc : Thread Cert.PostMixOddIdeal.nD Cert.PostMixOddIdeal.τ).loc Cert.PostMixOddIdeal.main_arg1) = m ((c.tc : Thread Cert.PostMixOddIdeal.nD Cert.PostMixOddIdeal.τ).loc Cert.PostMixOddIdeal.main_arg1)
      ∧ r.2.mem ((c.tc : Thread Cert.PostMixOddIdeal.nD Cert.PostMixOddIdeal.τ).loc Cert.PostMixOddIdeal.main_arg2) = m ((c.tc : Thread Cert.PostMixOddIdeal.nD Cert.PostMixOddIdeal.τ).loc Cert.PostMixOddIdeal.main_arg2)
      ∧ r.2.mem ((c.tc : Thread Cert.PostMixOddIdeal.nD Cert.PostMixOddIdeal.τ).loc Cert.PostMixOddIdeal.main_arg3) = m ((c.tc : Thread Cert.PostMixOddIdeal.nD Cert.PostMixOddIdeal.τ).loc Cert.PostMixOddIdeal.main_arg3)
      ∧ r.2.mem ((c.tc : Thread Cert.PostMixOddIdeal.nD Cert.PostMixOddIdeal.τ).loc Cert.PostMixOddIdeal.main_arg4) = m ((c.tc : Thread Cert.PostMixOddIdeal.nD Cert.PostMixOddIdeal.τ).loc Cert.PostMixOddIdeal.main_arg4)
      ∧ r.2.mem ((c.tc : Thread Cert.PostMixOddIdeal.nD Cert.PostMixOddIdeal.τ).loc Cert.PostMixOddIdeal.main_arg5) = m ((c.tc : Thread Cert.PostMixOddIdeal.nD Cert.PostMixOddIdeal.τ).loc Cert.PostMixOddIdeal.main_arg5)
      ∧ r.2.mem ((c.tc : Thread Cert.PostMixOddIdeal.nD Cert.PostMixOddIdeal.τ).loc Cert.PostMixOddIdeal.main_arg6) = m ((c.tc : Thread Cert.PostMixOddIdeal.nD Cert.PostMixOddIdeal.τ).loc Cert.PostMixOddIdeal.main_arg6))
      ∧ r.2.sem = fun _ => 0)

def quiescent_PostMixOddIdeal_pre_post_mix_odd_finite [hPostMixOddIdeal : Cert.PostMixOddIdeal.Facts] [hPre_post_mix_odd_finite : Cert.Pre_post_mix_odd_finite.Facts] : Prop :=
  ∀ (m : (ℓ : Loc Cert.PostMixOddIdeal.nD Cert.PostMixOddIdeal.τ Cert.PostMixOddIdeal.sig) → Buf (Elt Ideal) ℓ) (g : Dev Cert.PostMixOddIdeal.nD → PrngReg), Pre_PostMixOddIdeal_post_mix_odd_finite m →
    θ_run (Cert.PostMixOddIdeal.defs (F := Ideal)) (onTc (τ := Cert.PostMixOddIdeal.τ) (Cert.PostMixOddIdeal.main (F := Ideal))) ⟨m, fun _ => 0, g⟩ (fun r => (∀ c : Dev Cert.PostMixOddIdeal.nD,
      r.2.mem ((c.tc : Thread Cert.PostMixOddIdeal.nD Cert.PostMixOddIdeal.τ).loc Cert.PostMixOddIdeal.main_arg0) = m ((c.tc : Thread Cert.PostMixOddIdeal.nD Cert.PostMixOddIdeal.τ).loc Cert.PostMixOddIdeal.main_arg0)
      ∧ r.2.mem ((c.tc : Thread Cert.PostMixOddIdeal.nD Cert.PostMixOddIdeal.τ).loc Cert.PostMixOddIdeal.main_arg1) = m ((c.tc : Thread Cert.PostMixOddIdeal.nD Cert.PostMixOddIdeal.τ).loc Cert.PostMixOddIdeal.main_arg1)
      ∧ r.2.mem ((c.tc : Thread Cert.PostMixOddIdeal.nD Cert.PostMixOddIdeal.τ).loc Cert.PostMixOddIdeal.main_arg2) = m ((c.tc : Thread Cert.PostMixOddIdeal.nD Cert.PostMixOddIdeal.τ).loc Cert.PostMixOddIdeal.main_arg2)
      ∧ r.2.mem ((c.tc : Thread Cert.PostMixOddIdeal.nD Cert.PostMixOddIdeal.τ).loc Cert.PostMixOddIdeal.main_arg3) = m ((c.tc : Thread Cert.PostMixOddIdeal.nD Cert.PostMixOddIdeal.τ).loc Cert.PostMixOddIdeal.main_arg3)
      ∧ r.2.mem ((c.tc : Thread Cert.PostMixOddIdeal.nD Cert.PostMixOddIdeal.τ).loc Cert.PostMixOddIdeal.main_arg4) = m ((c.tc : Thread Cert.PostMixOddIdeal.nD Cert.PostMixOddIdeal.τ).loc Cert.PostMixOddIdeal.main_arg4)
      ∧ r.2.mem ((c.tc : Thread Cert.PostMixOddIdeal.nD Cert.PostMixOddIdeal.τ).loc Cert.PostMixOddIdeal.main_arg5) = m ((c.tc : Thread Cert.PostMixOddIdeal.nD Cert.PostMixOddIdeal.τ).loc Cert.PostMixOddIdeal.main_arg5)
      ∧ r.2.mem ((c.tc : Thread Cert.PostMixOddIdeal.nD Cert.PostMixOddIdeal.τ).loc Cert.PostMixOddIdeal.main_arg6) = m ((c.tc : Thread Cert.PostMixOddIdeal.nD Cert.PostMixOddIdeal.τ).loc Cert.PostMixOddIdeal.main_arg6))
      ∧ r.2.sem = fun _ => 0)

def quiescent_PostMixOddRefIdeal [hPostMixOddRefIdeal : Cert.PostMixOddRefIdeal.Facts] : Prop :=
  ∀ (m : (ℓ : Loc Cert.PostMixOddRefIdeal.nD Cert.PostMixOddRefIdeal.τ Cert.PostMixOddRefIdeal.sig) → Buf (Elt Ideal) ℓ) (g : Dev Cert.PostMixOddRefIdeal.nD → PrngReg), Pre_PostMixOddRefIdeal m →
    θ_run (Cert.PostMixOddRefIdeal.defs (F := Ideal)) (onTc (τ := Cert.PostMixOddRefIdeal.τ) (Cert.PostMixOddRefIdeal.main (F := Ideal))) ⟨m, fun _ => 0, g⟩ (fun r => (∀ c : Dev Cert.PostMixOddRefIdeal.nD,
      r.2.mem ((c.tc : Thread Cert.PostMixOddRefIdeal.nD Cert.PostMixOddRefIdeal.τ).loc Cert.PostMixOddRefIdeal.main_arg0) = m ((c.tc : Thread Cert.PostMixOddRefIdeal.nD Cert.PostMixOddRefIdeal.τ).loc Cert.PostMixOddRefIdeal.main_arg0)
      ∧ r.2.mem ((c.tc : Thread Cert.PostMixOddRefIdeal.nD Cert.PostMixOddRefIdeal.τ).loc Cert.PostMixOddRefIdeal.main_arg1) = m ((c.tc : Thread Cert.PostMixOddRefIdeal.nD Cert.PostMixOddRefIdeal.τ).loc Cert.PostMixOddRefIdeal.main_arg1)
      ∧ r.2.mem ((c.tc : Thread Cert.PostMixOddRefIdeal.nD Cert.PostMixOddRefIdeal.τ).loc Cert.PostMixOddRefIdeal.main_arg2) = m ((c.tc : Thread Cert.PostMixOddRefIdeal.nD Cert.PostMixOddRefIdeal.τ).loc Cert.PostMixOddRefIdeal.main_arg2)
      ∧ r.2.mem ((c.tc : Thread Cert.PostMixOddRefIdeal.nD Cert.PostMixOddRefIdeal.τ).loc Cert.PostMixOddRefIdeal.main_arg3) = m ((c.tc : Thread Cert.PostMixOddRefIdeal.nD Cert.PostMixOddRefIdeal.τ).loc Cert.PostMixOddRefIdeal.main_arg3)
      ∧ r.2.mem ((c.tc : Thread Cert.PostMixOddRefIdeal.nD Cert.PostMixOddRefIdeal.τ).loc Cert.PostMixOddRefIdeal.main_arg4) = m ((c.tc : Thread Cert.PostMixOddRefIdeal.nD Cert.PostMixOddRefIdeal.τ).loc Cert.PostMixOddRefIdeal.main_arg4)
      ∧ r.2.mem ((c.tc : Thread Cert.PostMixOddRefIdeal.nD Cert.PostMixOddRefIdeal.τ).loc Cert.PostMixOddRefIdeal.main_arg5) = m ((c.tc : Thread Cert.PostMixOddRefIdeal.nD Cert.PostMixOddRefIdeal.τ).loc Cert.PostMixOddRefIdeal.main_arg5)
      ∧ r.2.mem ((c.tc : Thread Cert.PostMixOddRefIdeal.nD Cert.PostMixOddRefIdeal.τ).loc Cert.PostMixOddRefIdeal.main_arg6) = m ((c.tc : Thread Cert.PostMixOddRefIdeal.nD Cert.PostMixOddRefIdeal.τ).loc Cert.PostMixOddRefIdeal.main_arg6))
      ∧ r.2.sem = fun _ => 0)

def quiescent_PostMixOddRefIdeal_pre_post_mix_odd_finite [hPostMixOddRefIdeal : Cert.PostMixOddRefIdeal.Facts] [hPre_post_mix_odd_finite : Cert.Pre_post_mix_odd_finite.Facts] : Prop :=
  ∀ (m : (ℓ : Loc Cert.PostMixOddRefIdeal.nD Cert.PostMixOddRefIdeal.τ Cert.PostMixOddRefIdeal.sig) → Buf (Elt Ideal) ℓ) (g : Dev Cert.PostMixOddRefIdeal.nD → PrngReg), Pre_PostMixOddRefIdeal_post_mix_odd_finite m →
    θ_run (Cert.PostMixOddRefIdeal.defs (F := Ideal)) (onTc (τ := Cert.PostMixOddRefIdeal.τ) (Cert.PostMixOddRefIdeal.main (F := Ideal))) ⟨m, fun _ => 0, g⟩ (fun r => (∀ c : Dev Cert.PostMixOddRefIdeal.nD,
      r.2.mem ((c.tc : Thread Cert.PostMixOddRefIdeal.nD Cert.PostMixOddRefIdeal.τ).loc Cert.PostMixOddRefIdeal.main_arg0) = m ((c.tc : Thread Cert.PostMixOddRefIdeal.nD Cert.PostMixOddRefIdeal.τ).loc Cert.PostMixOddRefIdeal.main_arg0)
      ∧ r.2.mem ((c.tc : Thread Cert.PostMixOddRefIdeal.nD Cert.PostMixOddRefIdeal.τ).loc Cert.PostMixOddRefIdeal.main_arg1) = m ((c.tc : Thread Cert.PostMixOddRefIdeal.nD Cert.PostMixOddRefIdeal.τ).loc Cert.PostMixOddRefIdeal.main_arg1)
      ∧ r.2.mem ((c.tc : Thread Cert.PostMixOddRefIdeal.nD Cert.PostMixOddRefIdeal.τ).loc Cert.PostMixOddRefIdeal.main_arg2) = m ((c.tc : Thread Cert.PostMixOddRefIdeal.nD Cert.PostMixOddRefIdeal.τ).loc Cert.PostMixOddRefIdeal.main_arg2)
      ∧ r.2.mem ((c.tc : Thread Cert.PostMixOddRefIdeal.nD Cert.PostMixOddRefIdeal.τ).loc Cert.PostMixOddRefIdeal.main_arg3) = m ((c.tc : Thread Cert.PostMixOddRefIdeal.nD Cert.PostMixOddRefIdeal.τ).loc Cert.PostMixOddRefIdeal.main_arg3)
      ∧ r.2.mem ((c.tc : Thread Cert.PostMixOddRefIdeal.nD Cert.PostMixOddRefIdeal.τ).loc Cert.PostMixOddRefIdeal.main_arg4) = m ((c.tc : Thread Cert.PostMixOddRefIdeal.nD Cert.PostMixOddRefIdeal.τ).loc Cert.PostMixOddRefIdeal.main_arg4)
      ∧ r.2.mem ((c.tc : Thread Cert.PostMixOddRefIdeal.nD Cert.PostMixOddRefIdeal.τ).loc Cert.PostMixOddRefIdeal.main_arg5) = m ((c.tc : Thread Cert.PostMixOddRefIdeal.nD Cert.PostMixOddRefIdeal.τ).loc Cert.PostMixOddRefIdeal.main_arg5)
      ∧ r.2.mem ((c.tc : Thread Cert.PostMixOddRefIdeal.nD Cert.PostMixOddRefIdeal.τ).loc Cert.PostMixOddRefIdeal.main_arg6) = m ((c.tc : Thread Cert.PostMixOddRefIdeal.nD Cert.PostMixOddRefIdeal.τ).loc Cert.PostMixOddRefIdeal.main_arg6))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaIdeal_pre_na_finite [hNaIdeal : Cert.NaIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_na_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_NaRefIdeal_pre_na_finite [hNaRefIdeal : Cert.NaRefIdeal.Facts] [hPre_na_finite : Cert.Pre_na_finite.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_na_finite m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnOdd_FfnOddIdeal : Prop :=
  True

def algebraic_FfnOddIdeal_FfnOddRefIdeal [hFfnOddIdeal : Cert.FfnOddIdeal.Facts] [hFfnOddRefIdeal : Cert.FfnOddRefIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg)
    (m' : (ℓ : Loc Cert.FfnOddRefIdeal.nD Cert.FfnOddRefIdeal.τ Cert.FfnOddRefIdeal.sig) → Buf (Elt Ideal) ℓ) (g' : Dev Cert.FfnOddRefIdeal.nD → PrngReg), Pre_FfnOddIdeal m →
    (∀ c : Dev Cert.FfnOddIdeal.nD,
      m' ((c.tc : Thread Cert.FfnOddRefIdeal.nD Cert.FfnOddRefIdeal.τ).loc Cert.FfnOddRefIdeal.main_arg0) = m ((c.tc : Thread Cert.FfnOddIdeal.nD Cert.FfnOddIdeal.τ).loc Cert.FfnOddIdeal.main_arg0)
      ∧ m' ((c.tc : Thread Cert.FfnOddRefIdeal.nD Cert.FfnOddRefIdeal.τ).loc Cert.FfnOddRefIdeal.main_arg1) = m ((c.tc : Thread Cert.FfnOddIdeal.nD Cert.FfnOddIdeal.τ).loc Cert.FfnOddIdeal.main_arg1)
      ∧ m' ((c.tc : Thread Cert.FfnOddRefIdeal.nD Cert.FfnOddRefIdeal.τ).loc Cert.FfnOddRefIdeal.main_arg2) = m ((c.tc : Thread Cert.FfnOddIdeal.nD Cert.FfnOddIdeal.τ).loc Cert.FfnOddIdeal.main_arg2)
      ∧ m' ((c.tc : Thread Cert.FfnOddRefIdeal.nD Cert.FfnOddRefIdeal.τ).loc Cert.FfnOddRefIdeal.main_arg3) = m ((c.tc : Thread Cert.FfnOddIdeal.nD Cert.FfnOddIdeal.τ).loc Cert.FfnOddIdeal.main_arg3)
      ∧ m' ((c.tc : Thread Cert.FfnOddRefIdeal.nD Cert.FfnOddRefIdeal.τ).loc Cert.FfnOddRefIdeal.main_arg4) = m ((c.tc : Thread Cert.FfnOddIdeal.nD Cert.FfnOddIdeal.τ).loc Cert.FfnOddIdeal.main_arg4)) →
    ∃ (v0 : (c : Dev Cert.FfnOddIdeal.nD) → Buf (Elt Ideal) ((c.tc : Thread Cert.FfnOddIdeal.nD Cert.FfnOddIdeal.τ).loc Cert.FfnOddIdeal.main_v4)),
      θ_run (Cert.FfnOddIdeal.defs (F := Ideal)) (onTc (τ := Cert.FfnOddIdeal.τ) (Cert.FfnOddIdeal.main (F := Ideal))) ⟨m, fun _ => 0, g⟩ (fun r => ∀ c : Dev Cert.FfnOddIdeal.nD,
          r.2.mem ((c.tc : Thread Cert.FfnOddIdeal.nD Cert.FfnOddIdeal.τ).loc Cert.FfnOddIdeal.main_v4) = v0 c
          ∧ r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
          ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
          ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
          ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
          ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4))
      ∧ θ_run (Cert.FfnOddRefIdeal.defs (F := Ideal)) (onTc (τ := Cert.FfnOddRefIdeal.τ) (Cert.FfnOddRefIdeal.main (F := Ideal))) ⟨m', fun _ => 0, g'⟩ (fun r => ∀ c : Dev Cert.FfnOddRefIdeal.nD,
          r.2.mem ((c.tc : Thread Cert.FfnOddRefIdeal.nD Cert.FfnOddRefIdeal.τ).loc Cert.FfnOddRefIdeal.main_v28) = v0 c
          ∧ r.2.mem ((c.tc : Thread Cert.FfnOddRefIdeal.nD Cert.FfnOddRefIdeal.τ).loc Cert.FfnOddRefIdeal.main_arg0) = m' ((c.tc : Thread Cert.FfnOddRefIdeal.nD Cert.FfnOddRefIdeal.τ).loc Cert.FfnOddRefIdeal.main_arg0)
          ∧ r.2.mem ((c.tc : Thread Cert.FfnOddRefIdeal.nD Cert.FfnOddRefIdeal.τ).loc Cert.FfnOddRefIdeal.main_arg1) = m' ((c.tc : Thread Cert.FfnOddRefIdeal.nD Cert.FfnOddRefIdeal.τ).loc Cert.FfnOddRefIdeal.main_arg1)
          ∧ r.2.mem ((c.tc : Thread Cert.FfnOddRefIdeal.nD Cert.FfnOddRefIdeal.τ).loc Cert.FfnOddRefIdeal.main_arg2) = m' ((c.tc : Thread Cert.FfnOddRefIdeal.nD Cert.FfnOddRefIdeal.τ).loc Cert.FfnOddRefIdeal.main_arg2)
          ∧ r.2.mem ((c.tc : Thread Cert.FfnOddRefIdeal.nD Cert.FfnOddRefIdeal.τ).loc Cert.FfnOddRefIdeal.main_arg3) = m' ((c.tc : Thread Cert.FfnOddRefIdeal.nD Cert.FfnOddRefIdeal.τ).loc Cert.FfnOddRefIdeal.main_arg3)
          ∧ r.2.mem ((c.tc : Thread Cert.FfnOddRefIdeal.nD Cert.FfnOddRefIdeal.τ).loc Cert.FfnOddRefIdeal.main_arg4) = m' ((c.tc : Thread Cert.FfnOddRefIdeal.nD Cert.FfnOddRefIdeal.τ).loc Cert.FfnOddRefIdeal.main_arg4))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v4)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v4) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v41) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InProjOdd_InProjOddIdeal : Prop :=
  True

def algebraic_InProjOddIdeal_InProjOddRefIdeal [hInProjOddIdeal : Cert.InProjOddIdeal.Facts] [hInProjOddRefIdeal : Cert.InProjOddRefIdeal.Facts] : Prop :=
  ∀ (m : (ℓ : Loc Cert.InProjOddIdeal.nD Cert.InProjOddIdeal.τ Cert.InProjOddIdeal.sig) → Buf (Elt Ideal) ℓ) (g : Dev Cert.InProjOddIdeal.nD → PrngReg)
    (m' : (ℓ : Loc Cert.InProjOddRefIdeal.nD Cert.InProjOddRefIdeal.τ Cert.InProjOddRefIdeal.sig) → Buf (Elt Ideal) ℓ) (g' : Dev Cert.InProjOddRefIdeal.nD → PrngReg), Pre_InProjOddIdeal m →
    (∀ c : Dev Cert.InProjOddIdeal.nD,
      m' ((c.tc : Thread Cert.InProjOddRefIdeal.nD Cert.InProjOddRefIdeal.τ).loc Cert.InProjOddRefIdeal.main_arg0) = m ((c.tc : Thread Cert.InProjOddIdeal.nD Cert.InProjOddIdeal.τ).loc Cert.InProjOddIdeal.main_arg0)
      ∧ m' ((c.tc : Thread Cert.InProjOddRefIdeal.nD Cert.InProjOddRefIdeal.τ).loc Cert.InProjOddRefIdeal.main_arg1) = m ((c.tc : Thread Cert.InProjOddIdeal.nD Cert.InProjOddIdeal.τ).loc Cert.InProjOddIdeal.main_arg1)
      ∧ m' ((c.tc : Thread Cert.InProjOddRefIdeal.nD Cert.InProjOddRefIdeal.τ).loc Cert.InProjOddRefIdeal.main_arg2) = m ((c.tc : Thread Cert.InProjOddIdeal.nD Cert.InProjOddIdeal.τ).loc Cert.InProjOddIdeal.main_arg2)
      ∧ m' ((c.tc : Thread Cert.InProjOddRefIdeal.nD Cert.InProjOddRefIdeal.τ).loc Cert.InProjOddRefIdeal.main_arg3) = m ((c.tc : Thread Cert.InProjOddIdeal.nD Cert.InProjOddIdeal.τ).loc Cert.InProjOddIdeal.main_arg3)) →
    ∃ (v0 : (c : Dev Cert.InProjOddIdeal.nD) → Buf (Elt Ideal) ((c.tc : Thread Cert.InProjOddIdeal.nD Cert.InProjOddIdeal.τ).loc Cert.InProjOddIdeal.main_v4)),
      θ_run (Cert.InProjOddIdeal.defs (F := Ideal)) (onTc (τ := Cert.InProjOddIdeal.τ) (Cert.InProjOddIdeal.main (F := Ideal))) ⟨m, fun _ => 0, g⟩ (fun r => ∀ c : Dev Cert.InProjOddIdeal.nD,
          r.2.mem ((c.tc : Thread Cert.InProjOddIdeal.nD Cert.InProjOddIdeal.τ).loc Cert.InProjOddIdeal.main_v4) = v0 c
          ∧ r.2.mem ((c.tc : Thread Cert.InProjOddIdeal.nD Cert.InProjOddIdeal.τ).loc Cert.InProjOddIdeal.main_arg0) = m ((c.tc : Thread Cert.InProjOddIdeal.nD Cert.InProjOddIdeal.τ).loc Cert.InProjOddIdeal.main_arg0)
          ∧ r.2.mem ((c.tc : Thread Cert.InProjOddIdeal.nD Cert.InProjOddIdeal.τ).loc Cert.InProjOddIdeal.main_arg1) = m ((c.tc : Thread Cert.InProjOddIdeal.nD Cert.InProjOddIdeal.τ).loc Cert.InProjOddIdeal.main_arg1)
          ∧ r.2.mem ((c.tc : Thread Cert.InProjOddIdeal.nD Cert.InProjOddIdeal.τ).loc Cert.InProjOddIdeal.main_arg2) = m ((c.tc : Thread Cert.InProjOddIdeal.nD Cert.InProjOddIdeal.τ).loc Cert.InProjOddIdeal.main_arg2)
          ∧ r.2.mem ((c.tc : Thread Cert.InProjOddIdeal.nD Cert.InProjOddIdeal.τ).loc Cert.InProjOddIdeal.main_arg3) = m ((c.tc : Thread Cert.InProjOddIdeal.nD Cert.InProjOddIdeal.τ).loc Cert.InProjOddIdeal.main_arg3))
      ∧ θ_run (Cert.InProjOddRefIdeal.defs (F := Ideal)) (onTc (τ := Cert.InProjOddRefIdeal.τ) (Cert.InProjOddRefIdeal.main (F := Ideal))) ⟨m', fun _ => 0, g'⟩ (fun r => ∀ c : Dev Cert.InProjOddRefIdeal.nD,
          r.2.mem ((c.tc : Thread Cert.InProjOddRefIdeal.nD Cert.InProjOddRefIdeal.τ).loc Cert.InProjOddRefIdeal.main_v21) = v0 c
          ∧ r.2.mem ((c.tc : Thread Cert.InProjOddRefIdeal.nD Cert.InProjOddRefIdeal.τ).loc Cert.InProjOddRefIdeal.main_arg0) = m' ((c.tc : Thread Cert.InProjOddRefIdeal.nD Cert.InProjOddRefIdeal.τ).loc Cert.InProjOddRefIdeal.main_arg0)
          ∧ r.2.mem ((c.tc : Thread Cert.InProjOddRefIdeal.nD Cert.InProjOddRefIdeal.τ).loc Cert.InProjOddRefIdeal.main_arg1) = m' ((c.tc : Thread Cert.InProjOddRefIdeal.nD Cert.InProjOddRefIdeal.τ).loc Cert.InProjOddRefIdeal.main_arg1)
          ∧ r.2.mem ((c.tc : Thread Cert.InProjOddRefIdeal.nD Cert.InProjOddRefIdeal.τ).loc Cert.InProjOddRefIdeal.main_arg2) = m' ((c.tc : Thread Cert.InProjOddRefIdeal.nD Cert.InProjOddRefIdeal.τ).loc Cert.InProjOddRefIdeal.main_arg2)
          ∧ r.2.mem ((c.tc : Thread Cert.InProjOddRefIdeal.nD Cert.InProjOddRefIdeal.τ).loc Cert.InProjOddRefIdeal.main_arg3) = m' ((c.tc : Thread Cert.InProjOddRefIdeal.nD Cert.InProjOddRefIdeal.τ).loc Cert.InProjOddRefIdeal.main_arg3))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)
      ∧ m' ((c.tc : Thread Cert.MemProjRefIdeal.nD Cert.MemProjRefIdeal.τ).loc Cert.MemProjRefIdeal.main_arg3) = m ((c.tc : Thread Cert.MemProjIdeal.nD Cert.MemProjIdeal.τ).loc Cert.MemProjIdeal.main_arg3)) →
    ∃ (v0 : (c : Dev Cert.MemProjIdeal.nD) → Buf (Elt Ideal) ((c.tc : Thread Cert.MemProjIdeal.nD Cert.MemProjIdeal.τ).loc Cert.MemProjIdeal.main_v4)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v4) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
          ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v21) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2)
          ∧ r.2.mem ((c.tc : Thread Cert.MemProjRefIdeal.nD Cert.MemProjRefIdeal.τ).loc Cert.MemProjRefIdeal.main_arg3) = m' ((c.tc : Thread Cert.MemProjRefIdeal.nD Cert.MemProjRefIdeal.τ).loc Cert.MemProjRefIdeal.main_arg3))

def preserves_MemProjOdd_MemProjOddIdeal : Prop :=
  True

def algebraic_MemProjOddIdeal_MemProjOddRefIdeal [hMemProjOddIdeal : Cert.MemProjOddIdeal.Facts] [hMemProjOddRefIdeal : Cert.MemProjOddRefIdeal.Facts] : Prop :=
  ∀ (m : (ℓ : Loc Cert.MemProjOddIdeal.nD Cert.MemProjOddIdeal.τ Cert.MemProjOddIdeal.sig) → Buf (Elt Ideal) ℓ) (g : Dev Cert.MemProjOddIdeal.nD → PrngReg)
    (m' : (ℓ : Loc Cert.MemProjOddRefIdeal.nD Cert.MemProjOddRefIdeal.τ Cert.MemProjOddRefIdeal.sig) → Buf (Elt Ideal) ℓ) (g' : Dev Cert.MemProjOddRefIdeal.nD → PrngReg), Pre_MemProjOddIdeal m →
    (∀ c : Dev Cert.MemProjOddIdeal.nD,
      m' ((c.tc : Thread Cert.MemProjOddRefIdeal.nD Cert.MemProjOddRefIdeal.τ).loc Cert.MemProjOddRefIdeal.main_arg0) = m ((c.tc : Thread Cert.MemProjOddIdeal.nD Cert.MemProjOddIdeal.τ).loc Cert.MemProjOddIdeal.main_arg0)
      ∧ m' ((c.tc : Thread Cert.MemProjOddRefIdeal.nD Cert.MemProjOddRefIdeal.τ).loc Cert.MemProjOddRefIdeal.main_arg1) = m ((c.tc : Thread Cert.MemProjOddIdeal.nD Cert.MemProjOddIdeal.τ).loc Cert.MemProjOddIdeal.main_arg1)
      ∧ m' ((c.tc : Thread Cert.MemProjOddRefIdeal.nD Cert.MemProjOddRefIdeal.τ).loc Cert.MemProjOddRefIdeal.main_arg2) = m ((c.tc : Thread Cert.MemProjOddIdeal.nD Cert.MemProjOddIdeal.τ).loc Cert.MemProjOddIdeal.main_arg2)
      ∧ m' ((c.tc : Thread Cert.MemProjOddRefIdeal.nD Cert.MemProjOddRefIdeal.τ).loc Cert.MemProjOddRefIdeal.main_arg3) = m ((c.tc : Thread Cert.MemProjOddIdeal.nD Cert.MemProjOddIdeal.τ).loc Cert.MemProjOddIdeal.main_arg3)) →
    ∃ (v0 : (c : Dev Cert.MemProjOddIdeal.nD) → Buf (Elt Ideal) ((c.tc : Thread Cert.MemProjOddIdeal.nD Cert.MemProjOddIdeal.τ).loc Cert.MemProjOddIdeal.main_v4)),
      θ_run (Cert.MemProjOddIdeal.defs (F := Ideal)) (onTc (τ := Cert.MemProjOddIdeal.τ) (Cert.MemProjOddIdeal.main (F := Ideal))) ⟨m, fun _ => 0, g⟩ (fun r => ∀ c : Dev Cert.MemProjOddIdeal.nD,
          r.2.mem ((c.tc : Thread Cert.MemProjOddIdeal.nD Cert.MemProjOddIdeal.τ).loc Cert.MemProjOddIdeal.main_v4) = v0 c
          ∧ r.2.mem ((c.tc : Thread Cert.MemProjOddIdeal.nD Cert.MemProjOddIdeal.τ).loc Cert.MemProjOddIdeal.main_arg0) = m ((c.tc : Thread Cert.MemProjOddIdeal.nD Cert.MemProjOddIdeal.τ).loc Cert.MemProjOddIdeal.main_arg0)
          ∧ r.2.mem ((c.tc : Thread Cert.MemProjOddIdeal.nD Cert.MemProjOddIdeal.τ).loc Cert.MemProjOddIdeal.main_arg1) = m ((c.tc : Thread Cert.MemProjOddIdeal.nD Cert.MemProjOddIdeal.τ).loc Cert.MemProjOddIdeal.main_arg1)
          ∧ r.2.mem ((c.tc : Thread Cert.MemProjOddIdeal.nD Cert.MemProjOddIdeal.τ).loc Cert.MemProjOddIdeal.main_arg2) = m ((c.tc : Thread Cert.MemProjOddIdeal.nD Cert.MemProjOddIdeal.τ).loc Cert.MemProjOddIdeal.main_arg2)
          ∧ r.2.mem ((c.tc : Thread Cert.MemProjOddIdeal.nD Cert.MemProjOddIdeal.τ).loc Cert.MemProjOddIdeal.main_arg3) = m ((c.tc : Thread Cert.MemProjOddIdeal.nD Cert.MemProjOddIdeal.τ).loc Cert.MemProjOddIdeal.main_arg3))
      ∧ θ_run (Cert.MemProjOddRefIdeal.defs (F := Ideal)) (onTc (τ := Cert.MemProjOddRefIdeal.τ) (Cert.MemProjOddRefIdeal.main (F := Ideal))) ⟨m', fun _ => 0, g'⟩ (fun r => ∀ c : Dev Cert.MemProjOddRefIdeal.nD,
          r.2.mem ((c.tc : Thread Cert.MemProjOddRefIdeal.nD Cert.MemProjOddRefIdeal.τ).loc Cert.MemProjOddRefIdeal.main_v21) = v0 c
          ∧ r.2.mem ((c.tc : Thread Cert.MemProjOddRefIdeal.nD Cert.MemProjOddRefIdeal.τ).loc Cert.MemProjOddRefIdeal.main_arg0) = m' ((c.tc : Thread Cert.MemProjOddRefIdeal.nD Cert.MemProjOddRefIdeal.τ).loc Cert.MemProjOddRefIdeal.main_arg0)
          ∧ r.2.mem ((c.tc : Thread Cert.MemProjOddRefIdeal.nD Cert.MemProjOddRefIdeal.τ).loc Cert.MemProjOddRefIdeal.main_arg1) = m' ((c.tc : Thread Cert.MemProjOddRefIdeal.nD Cert.MemProjOddRefIdeal.τ).loc Cert.MemProjOddRefIdeal.main_arg1)
          ∧ r.2.mem ((c.tc : Thread Cert.MemProjOddRefIdeal.nD Cert.MemProjOddRefIdeal.τ).loc Cert.MemProjOddRefIdeal.main_arg2) = m' ((c.tc : Thread Cert.MemProjOddRefIdeal.nD Cert.MemProjOddRefIdeal.τ).loc Cert.MemProjOddRefIdeal.main_arg2)
          ∧ r.2.mem ((c.tc : Thread Cert.MemProjOddRefIdeal.nD Cert.MemProjOddRefIdeal.τ).loc Cert.MemProjOddRefIdeal.main_arg3) = m' ((c.tc : Thread Cert.MemProjOddRefIdeal.nD Cert.MemProjOddRefIdeal.τ).loc Cert.MemProjOddRefIdeal.main_arg3))

def preserves_PostMix_PostMixIdeal : Prop :=
  True

def algebraic_PostMixIdeal_PostMixRefIdeal_pre_post_mix_finite [hPostMixIdeal : Cert.PostMixIdeal.Facts] [hPostMixRefIdeal : Cert.PostMixRefIdeal.Facts] [hPre_post_mix_finite : Cert.Pre_post_mix_finite.Facts] : Prop :=
  ∀ (m : (ℓ : Loc Cert.PostMixIdeal.nD Cert.PostMixIdeal.τ Cert.PostMixIdeal.sig) → Buf (Elt Ideal) ℓ) (g : Dev Cert.PostMixIdeal.nD → PrngReg)
    (m' : (ℓ : Loc Cert.PostMixRefIdeal.nD Cert.PostMixRefIdeal.τ Cert.PostMixRefIdeal.sig) → Buf (Elt Ideal) ℓ) (g' : Dev Cert.PostMixRefIdeal.nD → PrngReg), Pre_PostMixIdeal_post_mix_finite m →
    (∀ c : Dev Cert.PostMixIdeal.nD,
      m' ((c.tc : Thread Cert.PostMixRefIdeal.nD Cert.PostMixRefIdeal.τ).loc Cert.PostMixRefIdeal.main_arg0) = m ((c.tc : Thread Cert.PostMixIdeal.nD Cert.PostMixIdeal.τ).loc Cert.PostMixIdeal.main_arg0)
      ∧ m' ((c.tc : Thread Cert.PostMixRefIdeal.nD Cert.PostMixRefIdeal.τ).loc Cert.PostMixRefIdeal.main_arg1) = m ((c.tc : Thread Cert.PostMixIdeal.nD Cert.PostMixIdeal.τ).loc Cert.PostMixIdeal.main_arg1)
      ∧ m' ((c.tc : Thread Cert.PostMixRefIdeal.nD Cert.PostMixRefIdeal.τ).loc Cert.PostMixRefIdeal.main_arg2) = m ((c.tc : Thread Cert.PostMixIdeal.nD Cert.PostMixIdeal.τ).loc Cert.PostMixIdeal.main_arg2)
      ∧ m' ((c.tc : Thread Cert.PostMixRefIdeal.nD Cert.PostMixRefIdeal.τ).loc Cert.PostMixRefIdeal.main_arg3) = m ((c.tc : Thread Cert.PostMixIdeal.nD Cert.PostMixIdeal.τ).loc Cert.PostMixIdeal.main_arg3)
      ∧ m' ((c.tc : Thread Cert.PostMixRefIdeal.nD Cert.PostMixRefIdeal.τ).loc Cert.PostMixRefIdeal.main_arg4) = m ((c.tc : Thread Cert.PostMixIdeal.nD Cert.PostMixIdeal.τ).loc Cert.PostMixIdeal.main_arg4)
      ∧ m' ((c.tc : Thread Cert.PostMixRefIdeal.nD Cert.PostMixRefIdeal.τ).loc Cert.PostMixRefIdeal.main_arg5) = m ((c.tc : Thread Cert.PostMixIdeal.nD Cert.PostMixIdeal.τ).loc Cert.PostMixIdeal.main_arg5)
      ∧ m' ((c.tc : Thread Cert.PostMixRefIdeal.nD Cert.PostMixRefIdeal.τ).loc Cert.PostMixRefIdeal.main_arg6) = m ((c.tc : Thread Cert.PostMixIdeal.nD Cert.PostMixIdeal.τ).loc Cert.PostMixIdeal.main_arg6)
      ∧ m' ((c.tc : Thread Cert.PostMixRefIdeal.nD Cert.PostMixRefIdeal.τ).loc Cert.PostMixRefIdeal.main_arg7) = m ((c.tc : Thread Cert.PostMixIdeal.nD Cert.PostMixIdeal.τ).loc Cert.PostMixIdeal.main_arg7)) →
    ∃ (v0 : (c : Dev Cert.PostMixIdeal.nD) → Buf (Elt Ideal) ((c.tc : Thread Cert.PostMixIdeal.nD Cert.PostMixIdeal.τ).loc Cert.PostMixIdeal.main_v3)),
      θ_run (Cert.PostMixIdeal.defs (F := Ideal)) (onTc (τ := Cert.PostMixIdeal.τ) (Cert.PostMixIdeal.main (F := Ideal))) ⟨m, fun _ => 0, g⟩ (fun r => ∀ c : Dev Cert.PostMixIdeal.nD,
          r.2.mem ((c.tc : Thread Cert.PostMixIdeal.nD Cert.PostMixIdeal.τ).loc Cert.PostMixIdeal.main_v3) = v0 c
          ∧ r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
          ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
          ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
          ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
          ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
          ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
          ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6)
          ∧ r.2.mem ((c.tc : Thread Cert.PostMixIdeal.nD Cert.PostMixIdeal.τ).loc Cert.PostMixIdeal.main_arg7) = m ((c.tc : Thread Cert.PostMixIdeal.nD Cert.PostMixIdeal.τ).loc Cert.PostMixIdeal.main_arg7))
      ∧ θ_run (Cert.PostMixRefIdeal.defs (F := Ideal)) (onTc (τ := Cert.PostMixRefIdeal.τ) (Cert.PostMixRefIdeal.main (F := Ideal))) ⟨m', fun _ => 0, g'⟩ (fun r => ∀ c : Dev Cert.PostMixRefIdeal.nD,
          r.2.mem ((c.tc : Thread Cert.PostMixRefIdeal.nD Cert.PostMixRefIdeal.τ).loc Cert.PostMixRefIdeal.main_v54) = v0 c
          ∧ r.2.mem ((c.tc : Thread Cert.PostMixRefIdeal.nD Cert.PostMixRefIdeal.τ).loc Cert.PostMixRefIdeal.main_arg0) = m' ((c.tc : Thread Cert.PostMixRefIdeal.nD Cert.PostMixRefIdeal.τ).loc Cert.PostMixRefIdeal.main_arg0)
          ∧ r.2.mem ((c.tc : Thread Cert.PostMixRefIdeal.nD Cert.PostMixRefIdeal.τ).loc Cert.PostMixRefIdeal.main_arg1) = m' ((c.tc : Thread Cert.PostMixRefIdeal.nD Cert.PostMixRefIdeal.τ).loc Cert.PostMixRefIdeal.main_arg1)
          ∧ r.2.mem ((c.tc : Thread Cert.PostMixRefIdeal.nD Cert.PostMixRefIdeal.τ).loc Cert.PostMixRefIdeal.main_arg2) = m' ((c.tc : Thread Cert.PostMixRefIdeal.nD Cert.PostMixRefIdeal.τ).loc Cert.PostMixRefIdeal.main_arg2)
          ∧ r.2.mem ((c.tc : Thread Cert.PostMixRefIdeal.nD Cert.PostMixRefIdeal.τ).loc Cert.PostMixRefIdeal.main_arg3) = m' ((c.tc : Thread Cert.PostMixRefIdeal.nD Cert.PostMixRefIdeal.τ).loc Cert.PostMixRefIdeal.main_arg3)
          ∧ r.2.mem ((c.tc : Thread Cert.PostMixRefIdeal.nD Cert.PostMixRefIdeal.τ).loc Cert.PostMixRefIdeal.main_arg4) = m' ((c.tc : Thread Cert.PostMixRefIdeal.nD Cert.PostMixRefIdeal.τ).loc Cert.PostMixRefIdeal.main_arg4)
          ∧ r.2.mem ((c.tc : Thread Cert.PostMixRefIdeal.nD Cert.PostMixRefIdeal.τ).loc Cert.PostMixRefIdeal.main_arg5) = m' ((c.tc : Thread Cert.PostMixRefIdeal.nD Cert.PostMixRefIdeal.τ).loc Cert.PostMixRefIdeal.main_arg5)
          ∧ r.2.mem ((c.tc : Thread Cert.PostMixRefIdeal.nD Cert.PostMixRefIdeal.τ).loc Cert.PostMixRefIdeal.main_arg6) = m' ((c.tc : Thread Cert.PostMixRefIdeal.nD Cert.PostMixRefIdeal.τ).loc Cert.PostMixRefIdeal.main_arg6)
          ∧ r.2.mem ((c.tc : Thread Cert.PostMixRefIdeal.nD Cert.PostMixRefIdeal.τ).loc Cert.PostMixRefIdeal.main_arg7) = m' ((c.tc : Thread Cert.PostMixRefIdeal.nD Cert.PostMixRefIdeal.τ).loc Cert.PostMixRefIdeal.main_arg7))

def preserves_PostMixOdd_PostMixOddIdeal : Prop :=
  True

def algebraic_PostMixOddIdeal_PostMixOddRefIdeal_pre_post_mix_odd_finite [hPostMixOddIdeal : Cert.PostMixOddIdeal.Facts] [hPostMixOddRefIdeal : Cert.PostMixOddRefIdeal.Facts] [hPre_post_mix_odd_finite : Cert.Pre_post_mix_odd_finite.Facts] : Prop :=
  ∀ (m : (ℓ : Loc Cert.PostMixOddIdeal.nD Cert.PostMixOddIdeal.τ Cert.PostMixOddIdeal.sig) → Buf (Elt Ideal) ℓ) (g : Dev Cert.PostMixOddIdeal.nD → PrngReg)
    (m' : (ℓ : Loc Cert.PostMixOddRefIdeal.nD Cert.PostMixOddRefIdeal.τ Cert.PostMixOddRefIdeal.sig) → Buf (Elt Ideal) ℓ) (g' : Dev Cert.PostMixOddRefIdeal.nD → PrngReg), Pre_PostMixOddIdeal_post_mix_odd_finite m →
    (∀ c : Dev Cert.PostMixOddIdeal.nD,
      m' ((c.tc : Thread Cert.PostMixOddRefIdeal.nD Cert.PostMixOddRefIdeal.τ).loc Cert.PostMixOddRefIdeal.main_arg0) = m ((c.tc : Thread Cert.PostMixOddIdeal.nD Cert.PostMixOddIdeal.τ).loc Cert.PostMixOddIdeal.main_arg0)
      ∧ m' ((c.tc : Thread Cert.PostMixOddRefIdeal.nD Cert.PostMixOddRefIdeal.τ).loc Cert.PostMixOddRefIdeal.main_arg1) = m ((c.tc : Thread Cert.PostMixOddIdeal.nD Cert.PostMixOddIdeal.τ).loc Cert.PostMixOddIdeal.main_arg1)
      ∧ m' ((c.tc : Thread Cert.PostMixOddRefIdeal.nD Cert.PostMixOddRefIdeal.τ).loc Cert.PostMixOddRefIdeal.main_arg2) = m ((c.tc : Thread Cert.PostMixOddIdeal.nD Cert.PostMixOddIdeal.τ).loc Cert.PostMixOddIdeal.main_arg2)
      ∧ m' ((c.tc : Thread Cert.PostMixOddRefIdeal.nD Cert.PostMixOddRefIdeal.τ).loc Cert.PostMixOddRefIdeal.main_arg3) = m ((c.tc : Thread Cert.PostMixOddIdeal.nD Cert.PostMixOddIdeal.τ).loc Cert.PostMixOddIdeal.main_arg3)
      ∧ m' ((c.tc : Thread Cert.PostMixOddRefIdeal.nD Cert.PostMixOddRefIdeal.τ).loc Cert.PostMixOddRefIdeal.main_arg4) = m ((c.tc : Thread Cert.PostMixOddIdeal.nD Cert.PostMixOddIdeal.τ).loc Cert.PostMixOddIdeal.main_arg4)
      ∧ m' ((c.tc : Thread Cert.PostMixOddRefIdeal.nD Cert.PostMixOddRefIdeal.τ).loc Cert.PostMixOddRefIdeal.main_arg5) = m ((c.tc : Thread Cert.PostMixOddIdeal.nD Cert.PostMixOddIdeal.τ).loc Cert.PostMixOddIdeal.main_arg5)
      ∧ m' ((c.tc : Thread Cert.PostMixOddRefIdeal.nD Cert.PostMixOddRefIdeal.τ).loc Cert.PostMixOddRefIdeal.main_arg6) = m ((c.tc : Thread Cert.PostMixOddIdeal.nD Cert.PostMixOddIdeal.τ).loc Cert.PostMixOddIdeal.main_arg6)) →
    ∃ (v0 : (c : Dev Cert.PostMixOddIdeal.nD) → Buf (Elt Ideal) ((c.tc : Thread Cert.PostMixOddIdeal.nD Cert.PostMixOddIdeal.τ).loc Cert.PostMixOddIdeal.main_v3)),
      θ_run (Cert.PostMixOddIdeal.defs (F := Ideal)) (onTc (τ := Cert.PostMixOddIdeal.τ) (Cert.PostMixOddIdeal.main (F := Ideal))) ⟨m, fun _ => 0, g⟩ (fun r => ∀ c : Dev Cert.PostMixOddIdeal.nD,
          r.2.mem ((c.tc : Thread Cert.PostMixOddIdeal.nD Cert.PostMixOddIdeal.τ).loc Cert.PostMixOddIdeal.main_v3) = v0 c
          ∧ r.2.mem ((c.tc : Thread Cert.PostMixOddIdeal.nD Cert.PostMixOddIdeal.τ).loc Cert.PostMixOddIdeal.main_arg0) = m ((c.tc : Thread Cert.PostMixOddIdeal.nD Cert.PostMixOddIdeal.τ).loc Cert.PostMixOddIdeal.main_arg0)
          ∧ r.2.mem ((c.tc : Thread Cert.PostMixOddIdeal.nD Cert.PostMixOddIdeal.τ).loc Cert.PostMixOddIdeal.main_arg1) = m ((c.tc : Thread Cert.PostMixOddIdeal.nD Cert.PostMixOddIdeal.τ).loc Cert.PostMixOddIdeal.main_arg1)
          ∧ r.2.mem ((c.tc : Thread Cert.PostMixOddIdeal.nD Cert.PostMixOddIdeal.τ).loc Cert.PostMixOddIdeal.main_arg2) = m ((c.tc : Thread Cert.PostMixOddIdeal.nD Cert.PostMixOddIdeal.τ).loc Cert.PostMixOddIdeal.main_arg2)
          ∧ r.2.mem ((c.tc : Thread Cert.PostMixOddIdeal.nD Cert.PostMixOddIdeal.τ).loc Cert.PostMixOddIdeal.main_arg3) = m ((c.tc : Thread Cert.PostMixOddIdeal.nD Cert.PostMixOddIdeal.τ).loc Cert.PostMixOddIdeal.main_arg3)
          ∧ r.2.mem ((c.tc : Thread Cert.PostMixOddIdeal.nD Cert.PostMixOddIdeal.τ).loc Cert.PostMixOddIdeal.main_arg4) = m ((c.tc : Thread Cert.PostMixOddIdeal.nD Cert.PostMixOddIdeal.τ).loc Cert.PostMixOddIdeal.main_arg4)
          ∧ r.2.mem ((c.tc : Thread Cert.PostMixOddIdeal.nD Cert.PostMixOddIdeal.τ).loc Cert.PostMixOddIdeal.main_arg5) = m ((c.tc : Thread Cert.PostMixOddIdeal.nD Cert.PostMixOddIdeal.τ).loc Cert.PostMixOddIdeal.main_arg5)
          ∧ r.2.mem ((c.tc : Thread Cert.PostMixOddIdeal.nD Cert.PostMixOddIdeal.τ).loc Cert.PostMixOddIdeal.main_arg6) = m ((c.tc : Thread Cert.PostMixOddIdeal.nD Cert.PostMixOddIdeal.τ).loc Cert.PostMixOddIdeal.main_arg6))
      ∧ θ_run (Cert.PostMixOddRefIdeal.defs (F := Ideal)) (onTc (τ := Cert.PostMixOddRefIdeal.τ) (Cert.PostMixOddRefIdeal.main (F := Ideal))) ⟨m', fun _ => 0, g'⟩ (fun r => ∀ c : Dev Cert.PostMixOddRefIdeal.nD,
          r.2.mem ((c.tc : Thread Cert.PostMixOddRefIdeal.nD Cert.PostMixOddRefIdeal.τ).loc Cert.PostMixOddRefIdeal.main_v53) = v0 c
          ∧ r.2.mem ((c.tc : Thread Cert.PostMixOddRefIdeal.nD Cert.PostMixOddRefIdeal.τ).loc Cert.PostMixOddRefIdeal.main_arg0) = m' ((c.tc : Thread Cert.PostMixOddRefIdeal.nD Cert.PostMixOddRefIdeal.τ).loc Cert.PostMixOddRefIdeal.main_arg0)
          ∧ r.2.mem ((c.tc : Thread Cert.PostMixOddRefIdeal.nD Cert.PostMixOddRefIdeal.τ).loc Cert.PostMixOddRefIdeal.main_arg1) = m' ((c.tc : Thread Cert.PostMixOddRefIdeal.nD Cert.PostMixOddRefIdeal.τ).loc Cert.PostMixOddRefIdeal.main_arg1)
          ∧ r.2.mem ((c.tc : Thread Cert.PostMixOddRefIdeal.nD Cert.PostMixOddRefIdeal.τ).loc Cert.PostMixOddRefIdeal.main_arg2) = m' ((c.tc : Thread Cert.PostMixOddRefIdeal.nD Cert.PostMixOddRefIdeal.τ).loc Cert.PostMixOddRefIdeal.main_arg2)
          ∧ r.2.mem ((c.tc : Thread Cert.PostMixOddRefIdeal.nD Cert.PostMixOddRefIdeal.τ).loc Cert.PostMixOddRefIdeal.main_arg3) = m' ((c.tc : Thread Cert.PostMixOddRefIdeal.nD Cert.PostMixOddRefIdeal.τ).loc Cert.PostMixOddRefIdeal.main_arg3)
          ∧ r.2.mem ((c.tc : Thread Cert.PostMixOddRefIdeal.nD Cert.PostMixOddRefIdeal.τ).loc Cert.PostMixOddRefIdeal.main_arg4) = m' ((c.tc : Thread Cert.PostMixOddRefIdeal.nD Cert.PostMixOddRefIdeal.τ).loc Cert.PostMixOddRefIdeal.main_arg4)
          ∧ r.2.mem ((c.tc : Thread Cert.PostMixOddRefIdeal.nD Cert.PostMixOddRefIdeal.τ).loc Cert.PostMixOddRefIdeal.main_arg5) = m' ((c.tc : Thread Cert.PostMixOddRefIdeal.nD Cert.PostMixOddRefIdeal.τ).loc Cert.PostMixOddRefIdeal.main_arg5)
          ∧ r.2.mem ((c.tc : Thread Cert.PostMixOddRefIdeal.nD Cert.PostMixOddRefIdeal.τ).loc Cert.PostMixOddRefIdeal.main_arg6) = m' ((c.tc : Thread Cert.PostMixOddRefIdeal.nD Cert.PostMixOddRefIdeal.τ).loc Cert.PostMixOddRefIdeal.main_arg6))

def preserves_Na_NaIdeal : Prop :=
  True

def algebraic_NaIdeal_NaRefIdeal_pre_na_finite [hNaIdeal : Cert.NaIdeal.Facts] [hNaRefIdeal : Cert.NaRefIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_na_finite m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v0)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v0) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v54) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def Claim : Prop :=
  ∃ (hFfn : Cert.Ffn.Facts) (hFfnIdeal : Cert.FfnIdeal.Facts) (hFfnRefIdeal : Cert.FfnRefIdeal.Facts) (hFfnOdd : Cert.FfnOdd.Facts) (hFfnOddIdeal : Cert.FfnOddIdeal.Facts) (hFfnOddRefIdeal : Cert.FfnOddRefIdeal.Facts) (hFfnLast : Cert.FfnLast.Facts) (hFfnLastIdeal : Cert.FfnLastIdeal.Facts) (hFfnLastRefIdeal : Cert.FfnLastRefIdeal.Facts) (hInProj : Cert.InProj.Facts) (hInProjIdeal : Cert.InProjIdeal.Facts) (hInProjRefIdeal : Cert.InProjRefIdeal.Facts) (hInProjOdd : Cert.InProjOdd.Facts) (hInProjOddIdeal : Cert.InProjOddIdeal.Facts) (hInProjOddRefIdeal : Cert.InProjOddRefIdeal.Facts) (hMemProj : Cert.MemProj.Facts) (hMemProjIdeal : Cert.MemProjIdeal.Facts) (hMemProjRefIdeal : Cert.MemProjRefIdeal.Facts) (hMemProjOdd : Cert.MemProjOdd.Facts) (hMemProjOddIdeal : Cert.MemProjOddIdeal.Facts) (hMemProjOddRefIdeal : Cert.MemProjOddRefIdeal.Facts) (hPostMix : Cert.PostMix.Facts) (hPostMixIdeal : Cert.PostMixIdeal.Facts) (hPostMixRefIdeal : Cert.PostMixRefIdeal.Facts) (hPostMixOdd : Cert.PostMixOdd.Facts) (hPostMixOddIdeal : Cert.PostMixOddIdeal.Facts) (hPostMixOddRefIdeal : Cert.PostMixOddRefIdeal.Facts) (hNa : Cert.Na.Facts) (hNaIdeal : Cert.NaIdeal.Facts) (hNaRefIdeal : Cert.NaRefIdeal.Facts) (hPre_post_mix_finite : Cert.Pre_post_mix_finite.Facts) (hPre_post_mix_odd_finite : Cert.Pre_post_mix_odd_finite.Facts) (hPre_na_finite : Cert.Pre_na_finite.Facts),
    quiescent_Ffn (hFfn := hFfn)
    ∧ quiescent_FfnIdeal (hFfnIdeal := hFfnIdeal)
    ∧ quiescent_FfnRefIdeal (hFfnRefIdeal := hFfnRefIdeal)
    ∧ quiescent_FfnOdd (hFfnOdd := hFfnOdd)
    ∧ quiescent_FfnOddIdeal (hFfnOddIdeal := hFfnOddIdeal)
    ∧ quiescent_FfnOddRefIdeal (hFfnOddRefIdeal := hFfnOddRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjOdd (hInProjOdd := hInProjOdd)
    ∧ quiescent_InProjOddIdeal (hInProjOddIdeal := hInProjOddIdeal)
    ∧ quiescent_InProjOddRefIdeal (hInProjOddRefIdeal := hInProjOddRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_MemProjOdd (hMemProjOdd := hMemProjOdd)
    ∧ quiescent_MemProjOddIdeal (hMemProjOddIdeal := hMemProjOddIdeal)
    ∧ quiescent_MemProjOddRefIdeal (hMemProjOddRefIdeal := hMemProjOddRefIdeal)
    ∧ quiescent_PostMix (hPostMix := hPostMix)
    ∧ quiescent_PostMixIdeal (hPostMixIdeal := hPostMixIdeal)
    ∧ quiescent_PostMixIdeal_pre_post_mix_finite (hPostMixIdeal := hPostMixIdeal) (hPre_post_mix_finite := hPre_post_mix_finite)
    ∧ quiescent_PostMixRefIdeal (hPostMixRefIdeal := hPostMixRefIdeal)
    ∧ quiescent_PostMixRefIdeal_pre_post_mix_finite (hPostMixRefIdeal := hPostMixRefIdeal) (hPre_post_mix_finite := hPre_post_mix_finite)
    ∧ quiescent_PostMixOdd (hPostMixOdd := hPostMixOdd)
    ∧ quiescent_PostMixOddIdeal (hPostMixOddIdeal := hPostMixOddIdeal)
    ∧ quiescent_PostMixOddIdeal_pre_post_mix_odd_finite (hPostMixOddIdeal := hPostMixOddIdeal) (hPre_post_mix_odd_finite := hPre_post_mix_odd_finite)
    ∧ quiescent_PostMixOddRefIdeal (hPostMixOddRefIdeal := hPostMixOddRefIdeal)
    ∧ quiescent_PostMixOddRefIdeal_pre_post_mix_odd_finite (hPostMixOddRefIdeal := hPostMixOddRefIdeal) (hPre_post_mix_odd_finite := hPre_post_mix_odd_finite)
    ∧ quiescent_Na (hNa := hNa)
    ∧ quiescent_NaIdeal (hNaIdeal := hNaIdeal)
    ∧ quiescent_NaIdeal_pre_na_finite (hNaIdeal := hNaIdeal) (hPre_na_finite := hPre_na_finite)
    ∧ quiescent_NaRefIdeal (hNaRefIdeal := hNaRefIdeal)
    ∧ quiescent_NaRefIdeal_pre_na_finite (hNaRefIdeal := hNaRefIdeal) (hPre_na_finite := hPre_na_finite)
    ∧ preserves_Ffn_FfnIdeal
    ∧ algebraic_FfnIdeal_FfnRefIdeal (hFfnIdeal := hFfnIdeal) (hFfnRefIdeal := hFfnRefIdeal)
    ∧ preserves_FfnOdd_FfnOddIdeal
    ∧ algebraic_FfnOddIdeal_FfnOddRefIdeal (hFfnOddIdeal := hFfnOddIdeal) (hFfnOddRefIdeal := hFfnOddRefIdeal)
    ∧ preserves_FfnLast_FfnLastIdeal
    ∧ algebraic_FfnLastIdeal_FfnLastRefIdeal (hFfnLastIdeal := hFfnLastIdeal) (hFfnLastRefIdeal := hFfnLastRefIdeal)
    ∧ preserves_InProj_InProjIdeal
    ∧ algebraic_InProjIdeal_InProjRefIdeal (hInProjIdeal := hInProjIdeal) (hInProjRefIdeal := hInProjRefIdeal)
    ∧ preserves_InProjOdd_InProjOddIdeal
    ∧ algebraic_InProjOddIdeal_InProjOddRefIdeal (hInProjOddIdeal := hInProjOddIdeal) (hInProjOddRefIdeal := hInProjOddRefIdeal)
    ∧ preserves_MemProj_MemProjIdeal
    ∧ algebraic_MemProjIdeal_MemProjRefIdeal (hMemProjIdeal := hMemProjIdeal) (hMemProjRefIdeal := hMemProjRefIdeal)
    ∧ preserves_MemProjOdd_MemProjOddIdeal
    ∧ algebraic_MemProjOddIdeal_MemProjOddRefIdeal (hMemProjOddIdeal := hMemProjOddIdeal) (hMemProjOddRefIdeal := hMemProjOddRefIdeal)
    ∧ preserves_PostMix_PostMixIdeal
    ∧ algebraic_PostMixIdeal_PostMixRefIdeal_pre_post_mix_finite (hPostMixIdeal := hPostMixIdeal) (hPostMixRefIdeal := hPostMixRefIdeal) (hPre_post_mix_finite := hPre_post_mix_finite)
    ∧ preserves_PostMixOdd_PostMixOddIdeal
    ∧ algebraic_PostMixOddIdeal_PostMixOddRefIdeal_pre_post_mix_odd_finite (hPostMixOddIdeal := hPostMixOddIdeal) (hPostMixOddRefIdeal := hPostMixOddRefIdeal) (hPre_post_mix_odd_finite := hPre_post_mix_odd_finite)
    ∧ preserves_Na_NaIdeal
    ∧ algebraic_NaIdeal_NaRefIdeal_pre_na_finite (hNaIdeal := hNaIdeal) (hNaRefIdeal := hNaRefIdeal) (hPre_na_finite := hPre_na_finite)
-- ==== Pre_na_finite.lean ====
abbrev S8192x6144 : Shape := ⟨2, ![8192, 6144]⟩
abbrev S8x3x768x256 : Shape := ⟨4, ![8, 3, 768, 256]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  bcast_S_S8x3x768x256 : S_.BroadcastsInDim S8x3x768x256 (![] : Fin 0 → Fin S8x3x768x256.rank)

variable [Facts]

def fn {F : FTy → Type} [FloatOps F] (main_arg0 : FVec F S8192x6144 .bf16) (main_arg1 : FVec F S8x3x768x256 .f32) : IVec S8192x6144 1 × IVec S8x3x768x256 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_v4 : FVec F S8x3x768x256 .f32 := Host.absf main_arg1
  let main_cst_0 : FVec F S_ .f32 := constant S_ .f32 0x7F800000#32
  let main_v5 : FVec F S8x3x768x256 .f32 := broadcastInDim S8x3x768x256 ![] bcast_S_S8x3x768x256 main_cst_0
  let main_v6 : IVec S8x3x768x256 1 := cmpf .olt main_v4 main_v5
  (main_v3, main_v6)
-- ==== Pre_post_mix_finite.lean ====
abbrev S8192x1024 : Shape := ⟨2, ![8192, 1024]⟩
abbrev S2x2048x2048 : Shape := ⟨3, ![2, 2048, 2048]⟩
abbrev S8192x2048 : Shape := ⟨2, ![8192, 2048]⟩
abbrev S2x2048 : Shape := ⟨2, ![2, 2048]⟩
abbrev S2x2048x512 : Shape := ⟨3, ![2, 2048, 512]⟩
abbrev S256x1024 : Shape := ⟨2, ![256, 1024]⟩
abbrev S2x512x2048 : Shape := ⟨3, ![2, 512, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2x2048x2048 : S_.BroadcastsInDim S2x2048x2048 (![] : Fin 0 → Fin S2x2048x2048.rank)
  bcast_S_S8192x2048 : S_.BroadcastsInDim S8192x2048 (![] : Fin 0 → Fin S8192x2048.rank)
  bcast_S_S2x2048 : S_.BroadcastsInDim S2x2048 (![] : Fin 0 → Fin S2x2048.rank)
  bcast_S_S2x2048x512 : S_.BroadcastsInDim S2x2048x512 (![] : Fin 0 → Fin S2x2048x512.rank)
  bcast_S_S256x1024 : S_.BroadcastsInDim S256x1024 (![] : Fin 0 → Fin S256x1024.rank)

variable [Facts]

def fn_part1 {F : FTy → Type} [FloatOps F] (main_arg6 : FVec F S256x1024 .bf16) (main_v3 : IVec S8192x1024 1) (main_v7 : IVec S8192x1024 1) (main_v11 : IVec S2x2048x2048 1) (main_v14 : IVec S8192x2048 1) (main_v17 : IVec S2x2048 1) (main_v18 : FVec F S2x2048x512 .f32) : IVec S8192x1024 1 × IVec S8192x1024 1 × IVec S2x2048x2048 1 × IVec S8192x2048 1 × IVec S2x2048 1 × IVec S2x2048x512 1 × IVec S256x1024 1 :=
  let main_v19 : FVec F S2x2048x512 .f32 := Host.absf main_v18
  let main_cst_4 : FVec F S_ .f32 := constant S_ .f32 0x7F800000#32
  let main_v20 : FVec F S2x2048x512 .f32 := broadcastInDim S2x2048x512 ![] bcast_S_S2x2048x512 main_cst_4
  let main_v21 : IVec S2x2048x512 1 := cmpf .olt main_v19 main_v20
  let main_v22 : FVec F S256x1024 .f32 := (extf .f32 · bitsLt_bf16_f32) main_arg6
  let main_v23 : FVec F S256x1024 .f32 := Host.absf main_v22
  let main_cst_5 : FVec F S_ .f32 := constant S_ .f32 0x7F800000#32
  let main_v24 : FVec F S256x1024 .f32 := broadcastInDim S256x1024 ![] bcast_S_S256x1024 main_cst_5
  let main_v25 : IVec S256x1024 1 := cmpf .olt main_v23 main_v24
  (main_v3, main_v7, main_v11, main_v14, main_v17, main_v21, main_v25)

def fn {F : FTy → Type} [FloatOps F] (main_arg0 : FVec F S8192x1024 .bf16) (main_arg1 : FVec F S8192x1024 .bf16) (main_arg2 : FVec F S2x2048x2048 .bf16) (main_arg3 : FVec F S8192x2048 .f32) (main_arg4 : FVec F S2x2048 .f32) (main_arg5 : FVec F S2x2048x512 .bf16) (main_arg6 : FVec F S256x1024 .bf16) (main_arg7 : FVec F S2x512x2048 .bf16) : IVec S8192x1024 1 × IVec S8192x1024 1 × IVec S2x2048x2048 1 × IVec S8192x2048 1 × IVec S2x2048 1 × IVec S2x2048x512 1 × IVec S256x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S2x2048x2048 .f32 := (extf .f32 · bitsLt_bf16_f32) main_arg2
  let main_v9 : FVec F S2x2048x2048 .f32 := Host.absf main_v8
  let main_cst_1 : FVec F S_ .f32 := constant S_ .f32 0x7F800000#32
  let main_v10 : FVec F S2x2048x2048 .f32 := broadcastInDim S2x2048x2048 ![] bcast_S_S2x2048x2048 main_cst_1
  let main_v11 : IVec S2x2048x2048 1 := cmpf .olt main_v9 main_v10
  let main_v12 : FVec F S8192x2048 .f32 := Host.absf main_arg3
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_v15 : FVec F S2x2048 .f32 := Host.absf main_arg4
  let main_cst_3 : FVec F S_ .f32 := constant S_ .f32 0x7F800000#32
  let main_v16 : FVec F S2x2048 .f32 := broadcastInDim S2x2048 ![] bcast_S_S2x2048 main_cst_3
  let main_v17 : IVec S2x2048 1 := cmpf .olt main_v15 main_v16
  let main_v18 : FVec F S2x2048x512 .f32 := (extf .f32 · bitsLt_bf16_f32) main_arg5
  fn_part1 (F := F) main_arg6 main_v3 main_v7 main_v11 main_v14 main_v17 main_v18
-- ==== Pre_post_mix_odd_finite.lean ====
abbrev S8192x2048 : Shape := ⟨2, ![8192, 2048]⟩
abbrev S2x2048x2048 : Shape := ⟨3, ![2, 2048, 2048]⟩
abbrev S2x2048 : Shape := ⟨2, ![2, 2048]⟩
abbrev S2x2048x512 : Shape := ⟨3, ![2, 2048, 512]⟩
abbrev S256x1024 : Shape := ⟨2, ![256, 1024]⟩
abbrev S2x512x2048 : Shape := ⟨3, ![2, 512, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2x2048x2048 : S_.BroadcastsInDim S2x2048x2048 (![] : Fin 0 → Fin S2x2048x2048.rank)
  bcast_S_S2x2048 : S_.BroadcastsInDim S2x2048 (![] : Fin 0 → Fin S2x2048.rank)
  bcast_S_S2x2048x512 : S_.BroadcastsInDim S2x2048x512 (![] : Fin 0 → Fin S2x2048x512.rank)
  bcast_S_S256x1024 : S_.BroadcastsInDim S256x1024 (![] : Fin 0 → Fin S256x1024.rank)

variable [Facts]

def fn_part1 {F : FTy → Type} [FloatOps F] (main_v3 : IVec S8192x2048 1) (main_v7 : IVec S2x2048x2048 1) (main_v10 : IVec S8192x2048 1) (main_v13 : IVec S2x2048 1) (main_v17 : IVec S2x2048x512 1) (main_v18 : FVec F S256x1024 .f32) : IVec S8192x2048 1 × IVec S2x2048x2048 1 × IVec S8192x2048 1 × IVec S2x2048 1 × IVec S2x2048x512 1 × IVec S256x1024 1 :=
  let main_v19 : FVec F S256x1024 .f32 := Host.absf main_v18
  let main_cst_4 : FVec F S_ .f32 := constant S_ .f32 0x7F800000#32
  let main_v20 : FVec F S256x1024 .f32 := broadcastInDim S256x1024 ![] bcast_S_S256x1024 main_cst_4
  let main_v21 : IVec S256x1024 1 := cmpf .olt main_v19 main_v20
  (main_v3, main_v7, main_v10, main_v13, main_v17, main_v21)

def fn {F : FTy → Type} [FloatOps F] (main_arg0 : FVec F S8192x2048 .bf16) (main_arg1 : FVec F S2x2048x2048 .bf16) (main_arg2 : FVec F S8192x2048 .f32) (main_arg3 : FVec F S2x2048 .f32) (main_arg4 : FVec F S2x2048x512 .bf16) (main_arg5 : FVec F S256x1024 .bf16) (main_arg6 : FVec F S2x512x2048 .bf16) : IVec S8192x2048 1 × IVec S2x2048x2048 1 × IVec S8192x2048 1 × IVec S2x2048 1 × IVec S2x2048x512 1 × IVec S256x1024 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2x2048x2048 .f32 := (extf .f32 · bitsLt_bf16_f32) main_arg1
  let main_v5 : FVec F S2x2048x2048 .f32 := Host.absf main_v4
  let main_cst_0 : FVec F S_ .f32 := constant S_ .f32 0x7F800000#32
  let main_v6 : FVec F S2x2048x2048 .f32 := broadcastInDim S2x2048x2048 ![] bcast_S_S2x2048x2048 main_cst_0
  let main_v7 : IVec S2x2048x2048 1 := cmpf .olt main_v5 main_v6
  let main_v8 : FVec F S8192x2048 .f32 := Host.absf main_arg2
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : FVec F S2x2048 .f32 := Host.absf main_arg3
  let main_cst_2 : FVec F S_ .f32 := constant S_ .f32 0x7F800000#32
  let main_v12 : FVec F S2x2048 .f32 := broadcastInDim S2x2048 ![] bcast_S_S2x2048 main_cst_2
  let main_v13 : IVec S2x2048 1 := cmpf .olt main_v11 main_v12
  let main_v14 : FVec F S2x2048x512 .f32 := (extf .f32 · bitsLt_bf16_f32) main_arg4
  let main_v15 : FVec F S2x2048x512 .f32 := Host.absf main_v14
  let main_cst_3 : FVec F S_ .f32 := constant S_ .f32 0x7F800000#32
  let main_v16 : FVec F S2x2048x512 .f32 := broadcastInDim S2x2048x512 ![] bcast_S_S2x2048x512 main_cst_3
  let main_v17 : IVec S2x2048x512 1 := cmpf .olt main_v15 main_v16
  let main_v18 : FVec F S256x1024 .f32 := (extf .f32 · bitsLt_bf16_f32) main_arg5
  fn_part1 (F := F) main_v3 main_v7 main_v10 main_v13 main_v17 main_v18
-- ==== Ffn.lean ====
abbrev S8192x2048 : Shape := ⟨2, ![8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8192x5632 : Shape := ⟨2, ![8192, 5632]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== FfnOdd.lean ====
abbrev S8192x2048 : Shape := ⟨2, ![8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnOddRefIdeal.lean ====
abbrev S8192x2048 : Shape := ⟨2, ![8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8192x5632 : Shape := ⟨2, ![8192, 5632]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== FfnLast.lean ====
abbrev S8192x2048 : Shape := ⟨2, ![8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastRefIdeal.lean ====
abbrev S8192x2048 : Shape := ⟨2, ![8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8192x5632 : Shape := ⟨2, ![8192, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== InProj.lean ====
abbrev S8192x2048 : Shape := ⟨2, ![8192, 2048]⟩
abbrev S2x2048 : Shape := ⟨2, ![2, 2048]⟩
abbrev S2x2048x6144 : Shape := ⟨3, ![2, 2048, 6144]⟩
abbrev S6144 : Shape := ⟨1, ![6144]⟩
abbrev S1x2048 : Shape := ⟨2, ![1, 2048]⟩
abbrev S2048 : Shape := ⟨1, ![2048]⟩
abbrev S1x6144 : Shape := ⟨2, ![1, 6144]⟩
abbrev S8192x6144 : Shape := ⟨2, ![8192, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6144, .f32⟩
  | .hbm, ⟨3, _⟩ => ⟨S6144, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x6144, .f32⟩
  | .hbm, ⟨8, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8192x2048 : Shape := ⟨2, ![8192, 2048]⟩
abbrev S2x2048 : Shape := ⟨2, ![2, 2048]⟩
abbrev S2x2048x6144 : Shape := ⟨3, ![2, 2048, 6144]⟩
abbrev S6144 : Shape := ⟨1, ![6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x6144 : Shape := ⟨3, ![1, 2048, 6144]⟩
abbrev S2048x6144 : Shape := ⟨2, ![2048, 6144]⟩
abbrev S8192x6144 : Shape := ⟨2, ![8192, 6144]⟩
abbrev S1x6144 : Shape := ⟨2, ![1, 6144]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6144, .f32⟩
  | .hbm, ⟨3, _⟩ => ⟨S6144, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x6144, .f32⟩
  | .hbm, ⟨23, _⟩ => ⟨S2048x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== InProjOdd.lean ====
abbrev S8192x2048 : Shape := ⟨2, ![8192, 2048]⟩
abbrev S2x2048 : Shape := ⟨2, ![2, 2048]⟩
abbrev S2x2048x6144 : Shape := ⟨3, ![2, 2048, 6144]⟩
abbrev S6144 : Shape := ⟨1, ![6144]⟩
abbrev S1x2048 : Shape := ⟨2, ![1, 2048]⟩
abbrev S2048 : Shape := ⟨1, ![2048]⟩
abbrev S1x6144 : Shape := ⟨2, ![1, 6144]⟩
abbrev S8192x6144 : Shape := ⟨2, ![8192, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6144, .f32⟩
  | .hbm, ⟨3, _⟩ => ⟨S6144, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x6144, .f32⟩
  | .hbm, ⟨8, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjOddRefIdeal.lean ====
abbrev S8192x2048 : Shape := ⟨2, ![8192, 2048]⟩
abbrev S2x2048 : Shape := ⟨2, ![2, 2048]⟩
abbrev S2x2048x6144 : Shape := ⟨3, ![2, 2048, 6144]⟩
abbrev S6144 : Shape := ⟨1, ![6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x6144 : Shape := ⟨3, ![1, 2048, 6144]⟩
abbrev S2048x6144 : Shape := ⟨2, ![2048, 6144]⟩
abbrev S8192x6144 : Shape := ⟨2, ![8192, 6144]⟩
abbrev S1x6144 : Shape := ⟨2, ![1, 6144]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6144, .f32⟩
  | .hbm, ⟨3, _⟩ => ⟨S6144, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x6144, .f32⟩
  | .hbm, ⟨23, _⟩ => ⟨S2048x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MemProj.lean ====
abbrev S256x2048 : Shape := ⟨2, ![256, 2048]⟩
abbrev S2x2048 : Shape := ⟨2, ![2, 2048]⟩
abbrev S2x2048x1024 : Shape := ⟨3, ![2, 2048, 1024]⟩
abbrev S1024 : Shape := ⟨1, ![1024]⟩
abbrev S1x2048 : Shape := ⟨2, ![1, 2048]⟩
abbrev S2048 : Shape := ⟨1, ![2048]⟩
abbrev S1x1024 : Shape := ⟨2, ![1, 1024]⟩
abbrev S256x1024 : Shape := ⟨2, ![256, 1024]⟩
abbrev S1x2048x1024 : Shape := ⟨3, ![1, 2048, 1024]⟩
abbrev S256 : Shape := ⟨1, ![256]⟩
abbrev S256x1 : Shape := ⟨2, ![256, 1]⟩
abbrev S2048x1024 : Shape := ⟨2, ![2048, 1024]⟩

abbrev nBuf : Space → Nat
  | .hbm => 9
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S2x2048x1024, .f32⟩
  | .hbm, ⟨3, _⟩ => ⟨S1024, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x1024, .f32⟩
  | .hbm, ⟨8, _⟩ => ⟨S256x1024, .bf16⟩
  | .local _ .vmem, ⟨0, _⟩ => ⟨S256x2048, .f32⟩
  | .local _ .vmem, ⟨1, _⟩ => ⟨S1x2048, .f32⟩
  | .local _ .vmem, ⟨2, _⟩ => ⟨S1x2048x1024, .f32⟩
  | .local _ .vmem, ⟨3, _⟩ => ⟨S1x1024, .f32⟩
  | .local _ .vmem, ⟨4, _⟩ => ⟨S256x1024, .bf16⟩
  | .local _ .vmem, ⟨5, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== MemProjRefIdeal.lean ====
abbrev S256x2048 : Shape := ⟨2, ![256, 2048]⟩
abbrev S2x2048 : Shape := ⟨2, ![2, 2048]⟩
abbrev S2x2048x1024 : Shape := ⟨3, ![2, 2048, 1024]⟩
abbrev S1024 : Shape := ⟨1, ![1024]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048x1024 : Shape := ⟨3, ![1, 2048, 1024]⟩
abbrev S2048x1024 : Shape := ⟨2, ![2048, 1024]⟩
abbrev S256x1024 : Shape := ⟨2, ![256, 1024]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S2x2048x1024, .f32⟩
  | .hbm, ⟨3, _⟩ => ⟨S1024, .f32⟩
  | .hbm, ⟨4, _⟩ => ⟨S1x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S1x2048x1024, .f32⟩
  | .hbm, ⟨23, _⟩ => ⟨S2048x1024, .f32⟩
  | .hbm, ⟨24, _⟩ => ⟨S256x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MemProjOdd.lean ====
abbrev S256x2048 : Shape := ⟨2, ![256, 2048]⟩
abbrev S2x2048 : Shape := ⟨2, ![2, 2048]⟩
abbrev S2x2048x1024 : Shape := ⟨3, ![2, 2048, 1024]⟩
abbrev S1024 : Shape := ⟨1, ![1024]⟩
abbrev S1x2048 : Shape := ⟨2, ![1, 2048]⟩
abbrev S2048 : Shape := ⟨1, ![2048]⟩
abbrev S1x1024 : Shape := ⟨2, ![1, 1024]⟩
abbrev S256x1024 : Shape := ⟨2, ![256, 1024]⟩
abbrev S1x2048x1024 : Shape := ⟨3, ![1, 2048, 1024]⟩
abbrev S256 : Shape := ⟨1, ![256]⟩
abbrev S256x1 : Shape := ⟨2, ![256, 1]⟩
abbrev S2048x1024 : Shape := ⟨2, ![2048, 1024]⟩

abbrev nBuf : Space → Nat
  | .hbm => 9
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S2x2048x1024, .f32⟩
  | .hbm, ⟨3, _⟩ => ⟨S1024, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x1024, .f32⟩
  | .hbm, ⟨8, _⟩ => ⟨S256x1024, .bf16⟩
  | .local _ .vmem, ⟨0, _⟩ => ⟨S256x2048, .f32⟩
  | .local _ .vmem, ⟨1, _⟩ => ⟨S1x2048, .f32⟩
  | .local _ .vmem, ⟨2, _⟩ => ⟨S1x2048x1024, .f32⟩
  | .local _ .vmem, ⟨3, _⟩ => ⟨S1x1024, .f32⟩
  | .local _ .vmem, ⟨4, _⟩ => ⟨S256x1024, .bf16⟩
  | .local _ .vmem, ⟨5, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== MemProjOddRefIdeal.lean ====
abbrev S256x2048 : Shape := ⟨2, ![256, 2048]⟩
abbrev S2x2048 : Shape := ⟨2, ![2, 2048]⟩
abbrev S2x2048x1024 : Shape := ⟨3, ![2, 2048, 1024]⟩
abbrev S1024 : Shape := ⟨1, ![1024]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048x1024 : Shape := ⟨3, ![1, 2048, 1024]⟩
abbrev S2048x1024 : Shape := ⟨2, ![2048, 1024]⟩
abbrev S256x1024 : Shape := ⟨2, ![256, 1024]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S2x2048x1024, .f32⟩
  | .hbm, ⟨3, _⟩ => ⟨S1024, .f32⟩
  | .hbm, ⟨4, _⟩ => ⟨S1x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S1x2048x1024, .f32⟩
  | .hbm, ⟨23, _⟩ => ⟨S2048x1024, .f32⟩
  | .hbm, ⟨24, _⟩ => ⟨S256x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== PostMix.lean ====
abbrev S8192x1024 : Shape := ⟨2, ![8192, 1024]⟩
abbrev S2x2048x2048 : Shape := ⟨3, ![2, 2048, 2048]⟩
abbrev S8192x2048 : Shape := ⟨2, ![8192, 2048]⟩
abbrev S2x2048 : Shape := ⟨2, ![2, 2048]⟩
abbrev S2x2048x512 : Shape := ⟨3, ![2, 2048, 512]⟩
abbrev S256x1024 : Shape := ⟨2, ![256, 1024]⟩
abbrev S2x512x2048 : Shape := ⟨3, ![2, 512, 2048]⟩
abbrev S1x2048 : Shape := ⟨2, ![1, 2048]⟩
abbrev S2048 : Shape := ⟨1, ![2048]⟩
abbrev S512x1024 : Shape := ⟨2, ![512, 1024]⟩
abbrev S1x1024x2048 : Shape := ⟨3, ![1, 1024, 2048]⟩
abbrev S512x2048 : Shape := ⟨2, ![512, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .bf16⟩
  | .hbm, ⟨3, _⟩ => ⟨S8192x2048, .f32⟩
  | .hbm, ⟨4, _⟩ => ⟨S2x2048, .f32⟩
  | .hbm, ⟨5, _⟩ => ⟨S2x2048x512, .bf16⟩
  | .hbm, ⟨6, _⟩ => ⟨S256x1024, .bf16⟩
  | .hbm, ⟨7, _⟩ => ⟨S2x512x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048x512, .bf16⟩
  | .local _ .vmem, ⟨10, _⟩ => ⟨S256x1024, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostMixRefIdeal.lean ====
abbrev S8192x1024 : Shape := ⟨2, ![8192, 1024]⟩
abbrev S2x2048x2048 : Shape := ⟨3, ![2, 2048, 2048]⟩
abbrev S8192x2048 : Shape := ⟨2, ![8192, 2048]⟩
abbrev S2x2048 : Shape := ⟨2, ![2, 2048]⟩
abbrev S2x2048x512 : Shape := ⟨3, ![2, 2048, 512]⟩
abbrev S256x1024 : Shape := ⟨2, ![256, 1024]⟩
abbrev S2x512x2048 : Shape := ⟨3, ![2, 512, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S8192x512 : Shape := ⟨2, ![8192, 512]⟩
abbrev S8192x4x128 : Shape := ⟨3, ![8192, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .bf16⟩
  | .hbm, ⟨3, _⟩ => ⟨S8192x2048, .f32⟩
  | .hbm, ⟨4, _⟩ => ⟨S2x2048, .f32⟩
  | .hbm, ⟨5, _⟩ => ⟨S2x2048x512, .bf16⟩
  | .hbm, ⟨6, _⟩ => ⟨S256x1024, .bf16⟩
  | .hbm, ⟨7, _⟩ => ⟨S2x512x2048, .bf16⟩
  | .hbm, ⟨8, _⟩ => ⟨S8192x2048, .bf16⟩
  | .hbm, ⟨9, _⟩ => ⟨S8192x2048, .f32⟩
  | .hbm, ⟨10, _⟩ => ⟨S1x2048x2048, .bf16⟩
  | .hbm, ⟨11, _⟩ => ⟨S2048x2048, .bf16⟩
  | .hbm, ⟨12, _⟩ => ⟨S2048x2048, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048x512, .bf16⟩
  | .hbm, ⟨34, _⟩ => ⟨S2048x512, .bf16⟩
  | .hbm, ⟨35, _⟩ => ⟨S1x512x2048, .bf16⟩
  | .hbm, ⟨36, _⟩ => ⟨S512x2048, .bf16⟩
  | .hbm, ⟨37, _⟩ => ⟨S2048x512, .f32⟩
  | .hbm, ⟨38, _⟩ => ⟨S8192x512, .f32⟩
  | .hbm, ⟨39, _⟩ => ⟨S8192x4x128, .f32⟩
  | .hbm, ⟨40, _⟩ => ⟨S256x2x4x128, .bf16⟩
  | .hbm, ⟨41, _⟩ => ⟨S256x2x4x128, .f32⟩
  | .hbm, ⟨42, _⟩ => ⟨S256x1x4x128, .f32⟩
  | .hbm, ⟨43, _⟩ => ⟨S256x4x128, .f32⟩
  | .hbm, ⟨44, _⟩ => ⟨S4x8192x256, .f32⟩
  | .hbm, ⟨45, _⟩ => ⟨S_, .f32⟩
  | .hbm, ⟨46, _⟩ => ⟨S4x8192x256, .f32⟩
  | .hbm, ⟨47, _⟩ => ⟨S4x8192x256, .f32⟩
  | .hbm, ⟨48, _⟩ => ⟨S_, .f32⟩
  | .hbm, ⟨49, _⟩ => ⟨S4x8192, .f32⟩
  | .hbm, ⟨50, _⟩ => ⟨S_, .f32⟩
  | .hbm, ⟨51, _⟩ => ⟨S4x8192, .f32⟩
  | .hbm, ⟨52, _⟩ => ⟨S4x8192, .f32⟩
  | .hbm, ⟨53, _⟩ => ⟨S4x8192x1, .f32⟩
  | .hbm, ⟨54, _⟩ => ⟨S4x8192x256, .f32⟩
  | .hbm, ⟨55, _⟩ => ⟨S4x8192x256, .f32⟩
  | .hbm, ⟨56, _⟩ => ⟨S4x8192x256, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S4x8192x256, .f32⟩
  | .hbm, ⟨61, _⟩ => ⟨S4x8192x256, .f32⟩
  | .hbm, ⟨62, _⟩ => ⟨S256x1x4x128, .f32⟩
  | .hbm, ⟨63, _⟩ => ⟨S256x4x128, .f32⟩
  | .hbm, ⟨64, _⟩ => ⟨S4x128x8192, .f32⟩
  | .hbm, ⟨65, _⟩ => ⟨S8192x4x128, .f32⟩
  | .hbm, ⟨66, _⟩ => ⟨S8192x512, .f32⟩
  | .hbm, ⟨67, _⟩ => ⟨S512x2048, .f32⟩
  | .hbm, ⟨68, _⟩ => ⟨S8192x2048, .f32⟩
  | .hbm, ⟨69, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== PostMixOdd.lean ====
abbrev S8192x2048 : Shape := ⟨2, ![8192, 2048]⟩
abbrev S2x2048x2048 : Shape := ⟨3, ![2, 2048, 2048]⟩
abbrev S2x2048 : Shape := ⟨2, ![2, 2048]⟩
abbrev S2x2048x512 : Shape := ⟨3, ![2, 2048, 512]⟩
abbrev S256x1024 : Shape := ⟨2, ![256, 1024]⟩
abbrev S2x512x2048 : Shape := ⟨3, ![2, 512, 2048]⟩
abbrev S1x2048 : Shape := ⟨2, ![1, 2048]⟩
abbrev S2048 : Shape := ⟨1, ![2048]⟩
abbrev S512x1024 : Shape := ⟨2, ![512, 1024]⟩
abbrev S1x1024x2048 : Shape := ⟨3, ![1, 1024, 2048]⟩
abbrev S512x2048 : Shape := ⟨2, ![512, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2x2048, .f32⟩
  | .hbm, ⟨4, _⟩ => ⟨S2x2048x512, .bf16⟩
  | .hbm, ⟨5, _⟩ => ⟨S256x1024, .bf16⟩
  | .hbm, ⟨6, _⟩ => ⟨S2x512x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048x512, .bf16⟩
  | .local _ .vmem, ⟨10, _⟩ => ⟨S256x1024, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostMixOddRefIdeal.lean ====
abbrev S8192x2048 : Shape := ⟨2, ![8192, 2048]⟩
abbrev S2x2048x2048 : Shape := ⟨3, ![2, 2048, 2048]⟩
abbrev S2x2048 : Shape := ⟨2, ![2, 2048]⟩
abbrev S2x2048x512 : Shape := ⟨3, ![2, 2048, 512]⟩
abbrev S256x1024 : Shape := ⟨2, ![256, 1024]⟩
abbrev S2x512x2048 : Shape := ⟨3, ![2, 512, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S8192x512 : Shape := ⟨2, ![8192, 512]⟩
abbrev S8192x4x128 : Shape := ⟨3, ![8192, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2x2048, .f32⟩
  | .hbm, ⟨4, _⟩ => ⟨S2x2048x512, .bf16⟩
  | .hbm, ⟨5, _⟩ => ⟨S256x1024, .bf16⟩
  | .hbm, ⟨6, _⟩ => ⟨S2x512x2048, .bf16⟩
  | .hbm, ⟨7, _⟩ => ⟨S8192x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S1x2048x512, .bf16⟩
  | .hbm, ⟨32, _⟩ => ⟨S2048x512, .bf16⟩
  | .hbm, ⟨33, _⟩ => ⟨S1x512x2048, .bf16⟩
  | .hbm, ⟨34, _⟩ => ⟨S512x2048, .bf16⟩
  | .hbm, ⟨35, _⟩ => ⟨S2048x512, .f32⟩
  | .hbm, ⟨36, _⟩ => ⟨S8192x512, .f32⟩
  | .hbm, ⟨37, _⟩ => ⟨S8192x4x128, .f32⟩
  | .hbm, ⟨38, _⟩ => ⟨S256x2x4x128, .bf16⟩
  | .hbm, ⟨39, _⟩ => ⟨S256x2x4x128, .f32⟩
  | .hbm, ⟨40, _⟩ => ⟨S256x1x4x128, .f32⟩
  | .hbm, ⟨41, _⟩ => ⟨S256x4x128, .f32⟩
  | .hbm, ⟨42, _⟩ => ⟨S4x8192x256, .f32⟩
  | .hbm, ⟨43, _⟩ => ⟨S_, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x8192x1, .f32⟩
  | .hbm, ⟨52, _⟩ => ⟨S4x8192x256, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x256, .f32⟩
  | .hbm, ⟨59, _⟩ => ⟨S4x8192x256, .f32⟩
  | .hbm, ⟨60, _⟩ => ⟨S256x1x4x128, .f32⟩
  | .hbm, ⟨61, _⟩ => ⟨S256x4x128, .f32⟩
  | .hbm, ⟨62, _⟩ => ⟨S4x128x8192, .f32⟩
  | .hbm, ⟨63, _⟩ => ⟨S8192x4x128, .f32⟩
  | .hbm, ⟨64, _⟩ => ⟨S8192x512, .f32⟩
  | .hbm, ⟨65, _⟩ => ⟨S512x2048, .f32⟩
  | .hbm, ⟨66, _⟩ => ⟨S8192x2048, .f32⟩
  | .hbm, ⟨67, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Na.lean ====
abbrev S8192x6144 : Shape := ⟨2, ![8192, 6144]⟩
abbrev S8x3x768x256 : Shape := ⟨4, ![8, 3, 768, 256]⟩
abbrev S8192x1024 : Shape := ⟨2, ![8192, 1024]⟩
abbrev S8192x128 : Shape := ⟨2, ![8192, 128]⟩
abbrev S1x3x768x256 : Shape := ⟨4, ![1, 3, 768, 256]⟩
abbrev S144x8192 : Shape := ⟨2, ![144, 8192]⟩
abbrev S768x256 : Shape := ⟨2, ![768, 256]⟩
abbrev S512x128 : Shape := ⟨2, ![512, 128]⟩
abbrev S128x512 : Shape := ⟨2, ![128, 512]⟩
abbrev S16x8192 : Shape := ⟨2, ![16, 8192]⟩
abbrev S768x128 : Shape := ⟨2, ![768, 128]⟩
abbrev S256x128 : Shape := ⟨2, ![256, 128]⟩
abbrev S1x1x768x256 : Shape := ⟨4, ![1, 1, 768, 256]⟩
abbrev S256 : Shape := ⟨1, ![256]⟩
abbrev S1x256 : Shape := ⟨2, ![1, 256]⟩
abbrev S144x768 : Shape := ⟨2, ![144, 768]⟩
abbrev S144x256 : Shape := ⟨2, ![144, 256]⟩
abbrev S128x256 : Shape := ⟨2, ![128, 256]⟩

abbrev nBuf : Space → Nat
  | .hbm => 3
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S8x3x768x256, .f32⟩
  | .hbm, ⟨2, _⟩ => ⟨S8192x1024, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x3x768x256, .f32⟩
  | .local _ .vmem, ⟨7, _⟩ => ⟨S1x3x768x256, .f32⟩
  | .local _ .vmem, ⟨8, _⟩ => ⟨S8192x128, .bf16⟩
  | .local _ .vmem, ⟨9, _⟩ => ⟨S8192x128, .bf16⟩
  | .local _ .vmem, ⟨10, _⟩ => ⟨S144x8192, .bf16⟩
  | .local _ .vmem, ⟨11, _⟩ => ⟨S768x256, .f32⟩
  | .local _ .vmem, ⟨12, _⟩ => ⟨S768x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v310 : BitVec 32 := Scalar.muli arg9 c512_i32
  v310
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v310 : BitVec 32 := Scalar.muli arg9 c512_i32
  let v311 : BitVec 32 := v310
  let v312 : Index := Scalar.indexCast v311
  let c0_215 : Index := 0#32
  ![v312.toNat, 0]
def k0_off2 (k0_t1 : Fin k0_t1_loop.trips) : Fin 2 → Nat :=
  let c0_216 : Index := 0#32
  let c0_i32 : BitVec 32 := 0#32
  let c1_i32 : BitVec 32 := 1#32
  let arg9 : BitVec 32 := Scf.iv c0_i32 c1_i32 k0_t1
  let c512_i32 : BitVec 32 := 512#32
  let v310 : BitVec 32 := Scalar.muli arg9 c512_i32
  let v311 : BitVec 32 := v310
  let v317 : Index := Scalar.indexCast v311
  ![0, v317.toNat]
def k0_mult2 : BitVec 32 :=
  let c116_i32 : BitVec 32 := 116#32
  let c0_i32_3 : BitVec 32 := 0#32
  let c_m4_i32 : BitVec 32 := 4294967292#32
  let v7 : BitVec 32 := Scalar.maxsi c0_i32_3 c_m4_i32
  let v8 : BitVec 32 := Scalar.minsi c116_i32 v7
  let c64_i32 : BitVec 32 := 64#32
  let v9 : BitVec 32 := Scalar.muli v8 c64_i32
  v9
def k0_off3 (c_m4_i32 : BitVec 32) : Fin 2 → Nat :=
  let c116_i32 : BitVec 32 := 116#32
  let c0_i32_3 : BitVec 32 := 0#32
  let v7 : BitVec 32 := Scalar.maxsi c0_i32_3 c_m4_i32
  let v8 : BitVec 32 := Scalar.minsi c116_i32 v7
  let c64_i32 : BitVec 32 := 64#32
  let v9 : BitVec 32 := Scalar.muli v8 c64_i32
  let v10 : BitVec 32 := v9
  let v11 : Index := Scalar.indexCast v10
  let c0_4 : Index := 0#32
  ![v11.toNat, 0]
def k0_off3_at (r : Fin 8) : BitVec 32 :=
  if r.val < 4 then
    if r.val < 2 then
      if r.val < 1 then
        4294967292#32
      else
        96#32
    else
      if r.val < 3 then
        100#32
      else
        104#32
  else
    if r.val < 6 then
      if r.val < 5 then
        108#32
      else
        112#32
    else
      if r.val < 7 then
        116#32
      else
        120#32
def k0_off4 (v_true : BitVec 1) (v_false : BitVec 1) : Fin 4 → Nat :=
  let c0_8 : Index := 0#32
  let c0_i32_2 : BitVec 32 := 0#32
  let c2_i32 : BitVec 32 := 2#32
  let c1_i32_1 : BitVec 32 := 1#32
  let v5 : BitVec 32 := Scalar.select v_false c2_i32 c1_i32_1
  let v6 : BitVec 32 := Scalar.select v_true c0_i32_2 v5
  let v15 : Index := Scalar.indexCast v6
  let c0_9 : Index := 0#32
  let c0_10 : Index := 0#32
  ![0, v15.toNat, 0, 0]
def k0_off4_at (r : Fin 3) : BitVec 1 × BitVec 1 :=
  if r.val < 1 then
    (1#1, 0#1)
  else
    if r.val < 2 then
      (0#1, 0#1)
    else
      (0#1, 1#1)
@[reducible] def k0_t2_loop : Scf.Loop 32 :=
  let c0_i32_13 : BitVec 32 := 0#32
  let c3_i32 : BitVec 32 := 3#32
  let v22 : BitVec 32 := Scalar.addi c0_i32_13 c3_i32
  let c1_i32_14 : BitVec 32 := 1#32
  ⟨c0_i32_13, v22, c1_i32_14⟩
def k0_mult3 (k0_t2 : Fin k0_t2_loop.trips) : BitVec 32 :=
  let c116_i32_223 : BitVec 32 := 116#32
  let c0_i32_222 : BitVec 32 := 0#32
  let c4_i32 : BitVec 32 := 4#32
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let c0_i32_215 : BitVec 32 := 0#32
  let v311 : BitVec 32 := Scalar.addi v310 c0_i32_215
  let c1_i32_216 : BitVec 32 := 1#32
  let v312 : BitVec 32 := Scalar.addi v311 c1_i32_216
  let v317 : BitVec 32 := Scalar.muli c4_i32 v312
  let c4_i32_221 : BitVec 32 := 4#32
  let v318 : BitVec 32 := Scalar.subi v317 c4_i32_221
  let v319 : BitVec 32 := Scalar.maxsi c0_i32_222 v318
  let v320 : BitVec 32 := Scalar.minsi c116_i32_223 v319
  let c64_i32_224 : BitVec 32 := 64#32
  let v321 : BitVec 32 := Scalar.muli v320 c64_i32_224
  v321
def k0_off5 (k0_t2 : Fin k0_t2_loop.trips) (c0_i32_215 : BitVec 32) : Fin 2 → Nat :=
  let c116_i32_223 : BitVec 32 := 116#32
  let c0_i32_222 : BitVec 32 := 0#32
  let c4_i32 : BitVec 32 := 4#32
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let v311 : BitVec 32 := Scalar.addi v310 c0_i32_215
  let c1_i32_216 : BitVec 32 := 1#32
  let v312 : BitVec 32 := Scalar.addi v311 c1_i32_216
  let v317 : BitVec 32 := Scalar.muli c4_i32 v312
  let c4_i32_221 : BitVec 32 := 4#32
  let v318 : BitVec 32 := Scalar.subi v317 c4_i32_221
  let v319 : BitVec 32 := Scalar.maxsi c0_i32_222 v318
  let v320 : BitVec 32 := Scalar.minsi c116_i32_223 v319
  let c64_i32_224 : BitVec 32 := 64#32
  let v321 : BitVec 32 := Scalar.muli v320 c64_i32_224
  let v322 : BitVec 32 := v321
  let v323 : Index := Scalar.indexCast v322
  let c0_225 : Index := 0#32
  ![v323.toNat, 0]
def k0_mult4 (k0_t2 : Fin k0_t2_loop.trips) : BitVec 32 :=
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let c0_i32_215 : BitVec 32 := 0#32
  let v311 : BitVec 32 := Scalar.addi v310 c0_i32_215
  let c1_i32_216 : BitVec 32 := 1#32
  let v312 : BitVec 32 := Scalar.addi v311 c1_i32_216
  let c256_i32 : BitVec 32 := 256#32
  let v325 : BitVec 32 := Scalar.muli v312 c256_i32
  v325
def k0_off6 (k0_t2 : Fin k0_t2_loop.trips) (c0_i32_215 : BitVec 32) : Fin 2 → Nat :=
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let v311 : BitVec 32 := Scalar.addi v310 c0_i32_215
  let c1_i32_216 : BitVec 32 := 1#32
  let v312 : BitVec 32 := Scalar.addi v311 c1_i32_216
  let c256_i32 : BitVec 32 := 256#32
  let v325 : BitVec 32 := Scalar.muli v312 c256_i32
  let v326 : BitVec 32 := v325
  let v327 : Index := Scalar.indexCast v326
  let c0_226 : Index := 0#32
  ![v327.toNat, 0]
def k0_off7 (k0_t2 : Fin k0_t2_loop.trips) (c0_i32_215 : BitVec 32) : Fin 4 → Nat :=
  let c0_228 : Index := 0#32
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let v311 : BitVec 32 := Scalar.addi v310 c0_i32_215
  let c1_i32_216 : BitVec 32 := 1#32
  let v312 : BitVec 32 := Scalar.addi v311 c1_i32_216
  let c0_i32_217 : BitVec 32 := 0#32
  let v313 : BitVec 1 := Scalar.cmpi .eq v312 c0_i32_217
  let c0_i32_220 : BitVec 32 := 0#32
  let c31_i32 : BitVec 32 := 31#32
  let v314 : BitVec 1 := Scalar.cmpi .eq v312 c31_i32
  let c2_i32_218 : BitVec 32 := 2#32
  let c1_i32_219 : BitVec 32 := 1#32
  let v315 : BitVec 32 := Scalar.select v314 c2_i32_218 c1_i32_219
  let v316 : BitVec 32 := Scalar.select v313 c0_i32_220 v315
  let v330 : Index := Scalar.indexCast v316
  let c0_229 : Index := 0#32
  let c0_230 : Index := 0#32
  ![0, v330.toNat, 0, 0]
def k0_mult5 (k0_t2 : Fin k0_t2_loop.trips) : BitVec 32 :=
  let c116_i32_239 : BitVec 32 := 116#32
  let c0_i32_238 : BitVec 32 := 0#32
  let c4_i32_236 : BitVec 32 := 4#32
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let c0_i32_215 : BitVec 32 := 0#32
  let v311 : BitVec 32 := Scalar.addi v310 c0_i32_215
  let v343 : BitVec 32 := Scalar.muli c4_i32_236 v311
  let c4_i32_237 : BitVec 32 := 4#32
  let v344 : BitVec 32 := Scalar.subi v343 c4_i32_237
  let v345 : BitVec 32 := Scalar.maxsi c0_i32_238 v344
  let v346 : BitVec 32 := Scalar.minsi c116_i32_239 v345
  let c64_i32_240 : BitVec 32 := 64#32
  let v347 : BitVec 32 := Scalar.muli v346 c64_i32_240
  v347
def k0_off8 (k0_t2 : Fin k0_t2_loop.trips) (c0_i32_215 : BitVec 32) : Fin 2 → Nat :=
  let c0_241 : Index := 0#32
  let c116_i32_239 : BitVec 32 := 116#32
  let c0_i32_238 : BitVec 32 := 0#32
  let c4_i32_236 : BitVec 32 := 4#32
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let v311 : BitVec 32 := Scalar.addi v310 c0_i32_215
  let v343 : BitVec 32 := Scalar.muli c4_i32_236 v311
  let c4_i32_237 : BitVec 32 := 4#32
  let v344 : BitVec 32 := Scalar.subi v343 c4_i32_237
  let v345 : BitVec 32 := Scalar.maxsi c0_i32_238 v344
  let v346 : BitVec 32 := Scalar.minsi c116_i32_239 v345
  let c64_i32_240 : BitVec 32 := 64#32
  let v347 : BitVec 32 := Scalar.muli v346 c64_i32_240
  let v348 : BitVec 32 := v347
  let v349 : Index := Scalar.indexCast v348
  ![0, v349.toNat]
def k0_mult6 (k0_t2 : Fin k0_t2_loop.trips) : BitVec 32 :=
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let c0_i32_215 : BitVec 32 := 0#32
  let v311 : BitVec 32 := Scalar.addi v310 c0_i32_215
  let c256_i32_243 : BitVec 32 := 256#32
  let v359 : BitVec 32 := Scalar.muli v311 c256_i32_243
  v359
def k0_off9 (k0_t2 : Fin k0_t2_loop.trips) (c0_i32_215 : BitVec 32) : Fin 2 → Nat :=
  let c8_i32 : BitVec 32 := 8#32
  let c0_i32_13 : BitVec 32 := 0#32
  let c1_i32_14 : BitVec 32 := 1#32
  let arg9 : BitVec 32 := Scf.iv c0_i32_13 c1_i32_14 k0_t2
  let v310 : BitVec 32 := Scalar.muli c8_i32 arg9
  let v311 : BitVec 32 := Scalar.addi v310 c0_i32_215
  let c256_i32_243 : BitVec 32 := 256#32
  let v359 : BitVec 32 := Scalar.muli v311 c256_i32_243
  let v360 : BitVec 32 := v359
  let v361 : Index := Scalar.indexCast v360
  let c0_244 : Index := 0#32
  ![v361.toNat, 0]
def k0_mult7 (k0_t2 : Fin k0_t2_loop.trips) : BitVec 32 :=
  let c116_i32_256 : BitVec 32 := 116#32
  let c0_i32_255 : BitVec 32 := 0#32
  let c4_i32_253 : BitVec 32 := 4#32
  let c8_i32_245 : BitVec 32 := 8#32
  let c0_i32_13 : BitVec 32 := 0#32
  let c1_i32_14 : BitVec 32 := 1#32
  let arg9 : BitVec 32 := Scf.iv c0_i32_13 c1_i32_14 k0_t2
  let v363 : BitVec 32 := Scalar.muli c8_i32_245 arg9
  let c1_i32_246 : BitVec 32 := 1#32
  let v364 : BitVec 32 := Scalar.addi v363 c1_i32_246
  let c1_i32_247 : BitVec 32 := 1#32
  let v365 : BitVec 32 := Scalar.addi v364 c1_i32_247
  let v370 : BitVec 32 := Scalar.muli c4_i32_253 v365
  let c4_i32_254 : BitVec 32 := 4#32
  let v371 : BitVec 32 := Scalar.subi v370 c4_i32_254
  let v372 : BitVec 32 := Scalar.maxsi c0_i32_255 v371
  let v373 : BitVec 32 := Scalar.minsi c116_i32_256 v372
  let c64_i32_257 : BitVec 32 := 64#32
  let v374 : BitVec 32 := Scalar.muli v373 c64_i32_257
  v374
def k0_mult8 (k0_t2 : Fin k0_t2_loop.trips) : BitVec 32 :=
  let c8_i32_245 : BitVec 32 := 8#32
  let c0_i32_13 : BitVec 32 := 0#32
  let c1_i32_14 : BitVec 32 := 1#32
  let arg9 : BitVec 32 := Scf.iv c0_i32_13 c1_i32_14 k0_t2
  let v363 : BitVec 32 := Scalar.muli c8_i32_245 arg9
  let c1_i32_246 : BitVec 32 := 1#32
  let v364 : BitVec 32 := Scalar.addi v363 c1_i32_246
  let c1_i32_247 : BitVec 32 := 1#32
  let v365 : BitVec 32 := Scalar.addi v364 c1_i32_247
  let c256_i32_259 : BitVec 32 := 256#32
  let v378 : BitVec 32 := Scalar.muli v365 c256_i32_259
  v378
def k0_mult9 (k0_t2 : Fin k0_t2_loop.trips) : BitVec 32 :=
  let c116_i32_273 : BitVec 32 := 116#32
  let c0_i32_272 : BitVec 32 := 0#32
  let c4_i32_270 : BitVec 32 := 4#32
  let c8_i32_245 : BitVec 32 := 8#32
  let c0_i32_13 : BitVec 32 := 0#32
  let c1_i32_14 : BitVec 32 := 1#32
  let arg9 : BitVec 32 := Scf.iv c0_i32_13 c1_i32_14 k0_t2
  let v363 : BitVec 32 := Scalar.muli c8_i32_245 arg9
  let c1_i32_246 : BitVec 32 := 1#32
  let v364 : BitVec 32 := Scalar.addi v363 c1_i32_246
  let v396 : BitVec 32 := Scalar.muli c4_i32_270 v364
  let c4_i32_271 : BitVec 32 := 4#32
  let v397 : BitVec 32 := Scalar.subi v396 c4_i32_271
  let v398 : BitVec 32 := Scalar.maxsi c0_i32_272 v397
  let v399 : BitVec 32 := Scalar.minsi c116_i32_273 v398
  let c64_i32_274 : BitVec 32 := 64#32
  let v400 : BitVec 32 := Scalar.muli v399 c64_i32_274
  v400
def k0_mult10 (k0_t2 : Fin k0_t2_loop.trips) : BitVec 32 :=
  let c8_i32_245 : BitVec 32 := 8#32
  let c0_i32_13 : BitVec 32 := 0#32
  let c1_i32_14 : BitVec 32 := 1#32
  let arg9 : BitVec 32 := Scf.iv c0_i32_13 c1_i32_14 k0_t2
  let v363 : BitVec 32 := Scalar.muli c8_i32_245 arg9
  let c1_i32_246 : BitVec 32 := 1#32
  let v364 : BitVec 32 := Scalar.addi v363 c1_i32_246
  let c256_i32_277 : BitVec 32 := 256#32
  let v412 : BitVec 32 := Scalar.muli v364 c256_i32_277
  v412
def k0_mult11 (k0_t2 : Fin k0_t2_loop.trips) : BitVec 32 :=
  let c116_i32_290 : BitVec 32 := 116#32
  let c0_i32_289 : BitVec 32 := 0#32
  let c4_i32_287 : BitVec 32 := 4#32
  let c8_i32_279 : BitVec 32 := 8#32
  let c0_i32_13 : BitVec 32 := 0#32
  let c1_i32_14 : BitVec 32 := 1#32
  let arg9 : BitVec 32 := Scf.iv c0_i32_13 c1_i32_14 k0_t2
  let v416 : BitVec 32 := Scalar.muli c8_i32_279 arg9
  let c2_i32_280 : BitVec 32 := 2#32
  let v417 : BitVec 32 := Scalar.addi v416 c2_i32_280
  let c1_i32_281 : BitVec 32 := 1#32
  let v418 : BitVec 32 := Scalar.addi v417 c1_i32_281
  let v423 : BitVec 32 := Scalar.muli c4_i32_287 v418
  let c4_i32_288 : BitVec 32 := 4#32
  let v424 : BitVec 32 := Scalar.subi v423 c4_i32_288
  let v425 : BitVec 32 := Scalar.maxsi c0_i32_289 v424
  let v426 : BitVec 32 := Scalar.minsi c116_i32_290 v425
  let c64_i32_291 : BitVec 32 := 64#32
  let v427 : BitVec 32 := Scalar.muli v426 c64_i32_291
  v427
def k0_mult12 (k0_t2 : Fin k0_t2_loop.trips) : BitVec 32 :=
  let c8_i32_279 : BitVec 32 := 8#32
  let c0_i32_13 : BitVec 32 := 0#32
  let c1_i32_14 : BitVec 32 := 1#32
  let arg9 : BitVec 32 := Scf.iv c0_i32_13 c1_i32_14 k0_t2
  let v416 : BitVec 32 := Scalar.muli c8_i32_279 arg9
  let c2_i32_280 : BitVec 32 := 2#32
  let v417 : BitVec 32 := Scalar.addi v416 c2_i32_280
  let c1_i32_281 : BitVec 32 := 1#32
  let v418 : BitVec 32 := Scalar.addi v417 c1_i32_281
  let c256_i32_293 : BitVec 32 := 256#32
  let v431 : BitVec 32 := Scalar.muli v418 c256_i32_293
  v431
def k0_mult13 (k0_t2 : Fin k0_t2_loop.trips) : BitVec 32 :=
  let c116_i32_307 : BitVec 32 := 116#32
  let c0_i32_306 : BitVec 32 := 0#32
  let c4_i32_304 : BitVec 32 := 4#32
  let c8_i32_279 : BitVec 32 := 8#32
  let c0_i32_13 : BitVec 32 := 0#32
  let c1_i32_14 : BitVec 32 := 1#32
  let arg9 : BitVec 32 := Scf.iv c0_i32_13 c1_i32_14 k0_t2
  let v416 : BitVec 32 := Scalar.muli c8_i32_279 arg9
  let c2_i32_280 : BitVec 32 := 2#32
  let v417 : BitVec 32 := Scalar.addi v416 c2_i32_280
  let v449 : BitVec 32 := Scalar.muli c4_i32_304 v417
  let c4_i32_305 : BitVec 32 := 4#32
  let v450 : BitVec 32 := Scalar.subi v449 c4_i32_305
  let v451 : BitVec 32 := Scalar.maxsi c0_i32_306 v450
  let v452 : BitVec 32 := Scalar.minsi c116_i32_307 v451
  let c64_i32_308 : BitVec 32 := 64#32
  let v453 : BitVec 32 := Scalar.muli v452 c64_i32_308
  v453
def k0_mult14 (k0_t2 : Fin k0_t2_loop.trips) : BitVec 32 :=
  let c8_i32_279 : BitVec 32 := 8#32
  let c0_i32_13 : BitVec 32 := 0#32
  let c1_i32_14 : BitVec 32 := 1#32
  let arg9 : BitVec 32 := Scf.iv c0_i32_13 c1_i32_14 k0_t2
  let v416 : BitVec 32 := Scalar.muli c8_i32_279 arg9
  let c2_i32_280 : BitVec 32 := 2#32
  let v417 : BitVec 32 := Scalar.addi v416 c2_i32_280
  let c256_i32_311 : BitVec 32 := 256#32
  let v465 : BitVec 32 := Scalar.muli v417 c256_i32_311
  v465
def k0_mult15 (k0_t2 : Fin k0_t2_loop.trips) : BitVec 32 :=
  let c116_i32_324 : BitVec 32 := 116#32
  let c0_i32_323 : BitVec 32 := 0#32
  let c4_i32_321 : BitVec 32 := 4#32
  let c8_i32_313 : BitVec 32 := 8#32
  let c0_i32_13 : BitVec 32 := 0#32
  let c1_i32_14 : BitVec 32 := 1#32
  let arg9 : BitVec 32 := Scf.iv c0_i32_13 c1_i32_14 k0_t2
  let v469 : BitVec 32 := Scalar.muli c8_i32_313 arg9
  let c3_i32_314 : BitVec 32 := 3#32
  let v470 : BitVec 32 := Scalar.addi v469 c3_i32_314
  let c1_i32_315 : BitVec 32 := 1#32
  let v471 : BitVec 32 := Scalar.addi v470 c1_i32_315
  let v476 : BitVec 32 := Scalar.muli c4_i32_321 v471
  let c4_i32_322 : BitVec 32 := 4#32
  let v477 : BitVec 32 := Scalar.subi v476 c4_i32_322
  let v478 : BitVec 32 := Scalar.maxsi c0_i32_323 v477
  let v479 : BitVec 32 := Scalar.minsi c116_i32_324 v478
  let c64_i32_325 : BitVec 32 := 64#32
  let v480 : BitVec 32 := Scalar.muli v479 c64_i32_325
  v480
def k0_mult16 (k0_t2 : Fin k0_t2_loop.trips) : BitVec 32 :=
  let c8_i32_313 : BitVec 32 := 8#32
  let c0_i32_13 : BitVec 32 := 0#32
  let c1_i32_14 : BitVec 32 := 1#32
  let arg9 : BitVec 32 := Scf.iv c0_i32_13 c1_i32_14 k0_t2
  let v469 : BitVec 32 := Scalar.muli c8_i32_313 arg9
  let c3_i32_314 : BitVec 32 := 3#32
  let v470 : BitVec 32 := Scalar.addi v469 c3_i32_314
  let c1_i32_315 : BitVec 32 := 1#32
  let v471 : BitVec 32 := Scalar.addi v470 c1_i32_315
  let c256_i32_327 : BitVec 32 := 256#32
  let v484 : BitVec 32 := Scalar.muli v471 c256_i32_327
  v484
def k0_mult17 (k0_t2 : Fin k0_t2_loop.trips) : BitVec 32 :=
  let c116_i32_341 : BitVec 32 := 116#32
  let c0_i32_340 : BitVec 32 := 0#32
  let c4_i32_338 : BitVec 32 := 4#32
  let c8_i32_313 : BitVec 32 := 8#32
  let c0_i32_13 : BitVec 32 := 0#32
  let c1_i32_14 : BitVec 32 := 1#32
  let arg9 : BitVec 32 := Scf.iv c0_i32_13 c1_i32_14 k0_t2
  let v469 : BitVec 32 := Scalar.muli c8_i32_313 arg9
  let c3_i32_314 : BitVec 32 := 3#32
  let v470 : BitVec 32 := Scalar.addi v469 c3_i32_314
  let v502 : BitVec 32 := Scalar.muli c4_i32_338 v470
  let c4_i32_339 : BitVec 32 := 4#32
  let v503 : BitVec 32 := Scalar.subi v502 c4_i32_339
  let v504 : BitVec 32 := Scalar.maxsi c0_i32_340 v503
  let v505 : BitVec 32 := Scalar.minsi c116_i32_341 v504
  let c64_i32_342 : BitVec 32 := 64#32
  let v506 : BitVec 32 := Scalar.muli v505 c64_i32_342
  v506
def k0_mult18 (k0_t2 : Fin k0_t2_loop.trips) : BitVec 32 :=
  let c8_i32_313 : BitVec 32 := 8#32
  let c0_i32_13 : BitVec 32 := 0#32
  let c1_i32_14 : BitVec 32 := 1#32
  let arg9 : BitVec 32 := Scf.iv c0_i32_13 c1_i32_14 k0_t2
  let v469 : BitVec 32 := Scalar.muli c8_i32_313 arg9
  let c3_i32_314 : BitVec 32 := 3#32
  let v470 : BitVec 32 := Scalar.addi v469 c3_i32_314
  let c256_i32_345 : BitVec 32 := 256#32
  let v518 : BitVec 32 := Scalar.muli v470 c256_i32_345
  v518
def k0_mult19 (k0_t2 : Fin k0_t2_loop.trips) : BitVec 32 :=
  let c116_i32_358 : BitVec 32 := 116#32
  let c0_i32_357 : BitVec 32 := 0#32
  let c4_i32_355 : BitVec 32 := 4#32
  let c8_i32_347 : BitVec 32 := 8#32
  let c0_i32_13 : BitVec 32 := 0#32
  let c1_i32_14 : BitVec 32 := 1#32
  let arg9 : BitVec 32 := Scf.iv c0_i32_13 c1_i32_14 k0_t2
  let v522 : BitVec 32 := Scalar.muli c8_i32_347 arg9
  let c4_i32_348 : BitVec 32 := 4#32
  let v523 : BitVec 32 := Scalar.addi v522 c4_i32_348
  let c1_i32_349 : BitVec 32 := 1#32
  let v524 : BitVec 32 := Scalar.addi v523 c1_i32_349
  let v529 : BitVec 32 := Scalar.muli c4_i32_355 v524
  let c4_i32_356 : BitVec 32 := 4#32
  let v530 : BitVec 32 := Scalar.subi v529 c4_i32_356
  let v531 : BitVec 32 := Scalar.maxsi c0_i32_357 v530
  let v532 : BitVec 32 := Scalar.minsi c116_i32_358 v531
  let c64_i32_359 : BitVec 32 := 64#32
  let v533 : BitVec 32 := Scalar.muli v532 c64_i32_359
  v533
def k0_mult20 (k0_t2 : Fin k0_t2_loop.trips) : BitVec 32 :=
  let c8_i32_347 : BitVec 32 := 8#32
  let c0_i32_13 : BitVec 32 := 0#32
  let c1_i32_14 : BitVec 32 := 1#32
  let arg9 : BitVec 32 := Scf.iv c0_i32_13 c1_i32_14 k0_t2
  let v522 : BitVec 32 := Scalar.muli c8_i32_347 arg9
  let c4_i32_348 : BitVec 32 := 4#32
  let v523 : BitVec 32 := Scalar.addi v522 c4_i32_348
  let c1_i32_349 : BitVec 32 := 1#32
  let v524 : BitVec 32 := Scalar.addi v523 c1_i32_349
  let c256_i32_361 : BitVec 32 := 256#32
  let v537 : BitVec 32 := Scalar.muli v524 c256_i32_361
  v537
def k0_mult21 (k0_t2 : Fin k0_t2_loop.trips) : BitVec 32 :=
  let c116_i32_375 : BitVec 32 := 116#32
  let c0_i32_374 : BitVec 32 := 0#32
  let c4_i32_372 : BitVec 32 := 4#32
  let c8_i32_347 : BitVec 32 := 8#32
  let c0_i32_13 : BitVec 32 := 0#32
  let c1_i32_14 : BitVec 32 := 1#32
  let arg9 : BitVec 32 := Scf.iv c0_i32_13 c1_i32_14 k0_t2
  let v522 : BitVec 32 := Scalar.muli c8_i32_347 arg9
  let c4_i32_348 : BitVec 32 := 4#32
  let v523 : BitVec 32 := Scalar.addi v522 c4_i32_348
  let v555 : BitVec 32 := Scalar.muli c4_i32_372 v523
  let c4_i32_373 : BitVec 32 := 4#32
  let v556 : BitVec 32 := Scalar.subi v555 c4_i32_373
  let v557 : BitVec 32 := Scalar.maxsi c0_i32_374 v556
  let v558 : BitVec 32 := Scalar.minsi c116_i32_375 v557
  let c64_i32_376 : BitVec 32 := 64#32
  let v559 : BitVec 32 := Scalar.muli v558 c64_i32_376
  v559
def k0_mult22 (k0_t2 : Fin k0_t2_loop.trips) : BitVec 32 :=
  let c8_i32_347 : BitVec 32 := 8#32
  let c0_i32_13 : BitVec 32 := 0#32
  let c1_i32_14 : BitVec 32 := 1#32
  let arg9 : BitVec 32 := Scf.iv c0_i32_13 c1_i32_14 k0_t2
  let v522 : BitVec 32 := Scalar.muli c8_i32_347 arg9
  let c4_i32_348 : BitVec 32 := 4#32
  let v523 : BitVec 32 := Scalar.addi v522 c4_i32_348
  let c256_i32_379 : BitVec 32 := 256#32
  let v571 : BitVec 32 := Scalar.muli v523 c256_i32_379
  v571
def k0_mult23 (k0_t2 : Fin k0_t2_loop.trips) : BitVec 32 :=
  let c116_i32_391 : BitVec 32 := 116#32
  let c0_i32_390 : BitVec 32 := 0#32
  let c4_i32_388 : BitVec 32 := 4#32
  let c8_i32_381 : BitVec 32 := 8#32
  let c0_i32_13 : BitVec 32 := 0#32
  let c1_i32_14 : BitVec 32 := 1#32
  let arg9 : BitVec 32 := Scf.iv c0_i32_13 c1_i32_14 k0_t2
  let v575 : BitVec 32 := Scalar.muli c8_i32_381 arg9
  let c5_i32 : BitVec 32 := 5#32
  let v576 : BitVec 32 := Scalar.addi v575 c5_i32
  let c1_i32_382 : BitVec 32 := 1#32
  let v577 : BitVec 32 := Scalar.addi v576 c1_i32_382
  let v582 : BitVec 32 := Scalar.muli c4_i32_388 v577
  let c4_i32_389 : BitVec 32 := 4#32
  let v583 : BitVec 32 := Scalar.subi v582 c4_i32_389
  let v584 : BitVec 32 := Scalar.maxsi c0_i32_390 v583
  let v585 : BitVec 32 := Scalar.minsi c116_i32_391 v584
  let c64_i32_392 : BitVec 32 := 64#32
  let v586 : BitVec 32 := Scalar.muli v585 c64_i32_392
  v586
def k0_mult24 (k0_t2 : Fin k0_t2_loop.trips) : BitVec 32 :=
  let c8_i32_381 : BitVec 32 := 8#32
  let c0_i32_13 : BitVec 32 := 0#32
  let c1_i32_14 : BitVec 32 := 1#32
  let arg9 : BitVec 32 := Scf.iv c0_i32_13 c1_i32_14 k0_t2
  let v575 : BitVec 32 := Scalar.muli c8_i32_381 arg9
  let c5_i32 : BitVec 32 := 5#32
  let v576 : BitVec 32 := Scalar.addi v575 c5_i32
  let c1_i32_382 : BitVec 32 := 1#32
  let v577 : BitVec 32 := Scalar.addi v576 c1_i32_382
  let c256_i32_394 : BitVec 32 := 256#32
  let v590 : BitVec 32 := Scalar.muli v577 c256_i32_394
  v590
def k0_mult25 (k0_t2 : Fin k0_t2_loop.trips) : BitVec 32 :=
  let c116_i32_408 : BitVec 32 := 116#32
  let c0_i32_407 : BitVec 32 := 0#32
  let c4_i32_405 : BitVec 32 := 4#32
  let c8_i32_381 : BitVec 32 := 8#32
  let c0_i32_13 : BitVec 32 := 0#32
  let c1_i32_14 : BitVec 32 := 1#32
  let arg9 : BitVec 32 := Scf.iv c0_i32_13 c1_i32_14 k0_t2
  let v575 : BitVec 32 := Scalar.muli c8_i32_381 arg9
  let c5_i32 : BitVec 32 := 5#32
  let v576 : BitVec 32 := Scalar.addi v575 c5_i32
  let v608 : BitVec 32 := Scalar.muli c4_i32_405 v576
  let c4_i32_406 : BitVec 32 := 4#32
  let v609 : BitVec 32 := Scalar.subi v608 c4_i32_406
  let v610 : BitVec 32 := Scalar.maxsi c0_i32_407 v609
  let v611 : BitVec 32 := Scalar.minsi c116_i32_408 v610
  let c64_i32_409 : BitVec 32 := 64#32
  let v612 : BitVec 32 := Scalar.muli v611 c64_i32_409
  v612
def k0_mult26 (k0_t2 : Fin k0_t2_loop.trips) : BitVec 32 :=
  let c8_i32_381 : BitVec 32 := 8#32
  let c0_i32_13 : BitVec 32 := 0#32
  let c1_i32_14 : BitVec 32 := 1#32
  let arg9 : BitVec 32 := Scf.iv c0_i32_13 c1_i32_14 k0_t2
  let v575 : BitVec 32 := Scalar.muli c8_i32_381 arg9
  let c5_i32 : BitVec 32 := 5#32
  let v576 : BitVec 32 := Scalar.addi v575 c5_i32
  let c256_i32_412 : BitVec 32 := 256#32
  let v624 : BitVec 32 := Scalar.muli v576 c256_i32_412
  v624
def k0_mult27 (k0_t2 : Fin k0_t2_loop.trips) : BitVec 32 :=
  let c116_i32_424 : BitVec 32 := 116#32
  let c0_i32_423 : BitVec 32 := 0#32
  let c4_i32_421 : BitVec 32 := 4#32
  let c8_i32_414 : BitVec 32 := 8#32
  let c0_i32_13 : BitVec 32 := 0#32
  let c1_i32_14 : BitVec 32 := 1#32
  let arg9 : BitVec 32 := Scf.iv c0_i32_13 c1_i32_14 k0_t2
  let v628 : BitVec 32 := Scalar.muli c8_i32_414 arg9
  let c6_i32 : BitVec 32 := 6#32
  let v629 : BitVec 32 := Scalar.addi v628 c6_i32
  let c1_i32_415 : BitVec 32 := 1#32
  let v630 : BitVec 32 := Scalar.addi v629 c1_i32_415
  let v635 : BitVec 32 := Scalar.muli c4_i32_421 v630
  let c4_i32_422 : BitVec 32 := 4#32
  let v636 : BitVec 32 := Scalar.subi v635 c4_i32_422
  let v637 : BitVec 32 := Scalar.maxsi c0_i32_423 v636
  let v638 : BitVec 32 := Scalar.minsi c116_i32_424 v637
  let c64_i32_425 : BitVec 32 := 64#32
  let v639 : BitVec 32 := Scalar.muli v638 c64_i32_425
  v639
def k0_mult28 (k0_t2 : Fin k0_t2_loop.trips) : BitVec 32 :=
  let c8_i32_414 : BitVec 32 := 8#32
  let c0_i32_13 : BitVec 32 := 0#32
  let c1_i32_14 : BitVec 32 := 1#32
  let arg9 : BitVec 32 := Scf.iv c0_i32_13 c1_i32_14 k0_t2
  let v628 : BitVec 32 := Scalar.muli c8_i32_414 arg9
  let c6_i32 : BitVec 32 := 6#32
  let v629 : BitVec 32 := Scalar.addi v628 c6_i32
  let c1_i32_415 : BitVec 32 := 1#32
  let v630 : BitVec 32 := Scalar.addi v629 c1_i32_415
  let c256_i32_427 : BitVec 32 := 256#32
  let v643 : BitVec 32 := Scalar.muli v630 c256_i32_427
  v643
def k0_mult29 (k0_t2 : Fin k0_t2_loop.trips) : BitVec 32 :=
  let c116_i32_441 : BitVec 32 := 116#32
  let c0_i32_440 : BitVec 32 := 0#32
  let c4_i32_438 : BitVec 32 := 4#32
  let c8_i32_414 : BitVec 32 := 8#32
  let c0_i32_13 : BitVec 32 := 0#32
  let c1_i32_14 : BitVec 32 := 1#32
  let arg9 : BitVec 32 := Scf.iv c0_i32_13 c1_i32_14 k0_t2
  let v628 : BitVec 32 := Scalar.muli c8_i32_414 arg9
  let c6_i32 : BitVec 32 := 6#32
  let v629 : BitVec 32 := Scalar.addi v628 c6_i32
  let v661 : BitVec 32 := Scalar.muli c4_i32_438 v629
  let c4_i32_439 : BitVec 32 := 4#32
  let v662 : BitVec 32 := Scalar.subi v661 c4_i32_439
  let v663 : BitVec 32 := Scalar.maxsi c0_i32_440 v662
  let v664 : BitVec 32 := Scalar.minsi c116_i32_441 v663
  let c64_i32_442 : BitVec 32 := 64#32
  let v665 : BitVec 32 := Scalar.muli v664 c64_i32_442
  v665
def k0_mult30 (k0_t2 : Fin k0_t2_loop.trips) : BitVec 32 :=
  let c8_i32_414 : BitVec 32 := 8#32
  let c0_i32_13 : BitVec 32 := 0#32
  let c1_i32_14 : BitVec 32 := 1#32
  let arg9 : BitVec 32 := Scf.iv c0_i32_13 c1_i32_14 k0_t2
  let v628 : BitVec 32 := Scalar.muli c8_i32_414 arg9
  let c6_i32 : BitVec 32 := 6#32
  let v629 : BitVec 32 := Scalar.addi v628 c6_i32
  let c256_i32_445 : BitVec 32 := 256#32
  let v677 : BitVec 32 := Scalar.muli v629 c256_i32_445
  v677
def k0_mult31 (k0_t2 : Fin k0_t2_loop.trips) : BitVec 32 :=
  let c116_i32_457 : BitVec 32 := 116#32
  let c0_i32_456 : BitVec 32 := 0#32
  let c4_i32_454 : BitVec 32 := 4#32
  let c8_i32_447 : BitVec 32 := 8#32
  let c0_i32_13 : BitVec 32 := 0#32
  let c1_i32_14 : BitVec 32 := 1#32
  let arg9 : BitVec 32 := Scf.iv c0_i32_13 c1_i32_14 k0_t2
  let v681 : BitVec 32 := Scalar.muli c8_i32_447 arg9
  let c7_i32 : BitVec 32 := 7#32
  let v682 : BitVec 32 := Scalar.addi v681 c7_i32
  let c1_i32_448 : BitVec 32 := 1#32
  let v683 : BitVec 32 := Scalar.addi v682 c1_i32_448
  let v688 : BitVec 32 := Scalar.muli c4_i32_454 v683
  let c4_i32_455 : BitVec 32 := 4#32
  let v689 : BitVec 32 := Scalar.subi v688 c4_i32_455
  let v690 : BitVec 32 := Scalar.maxsi c0_i32_456 v689
  let v691 : BitVec 32 := Scalar.minsi c116_i32_457 v690
  let c64_i32_458 : BitVec 32 := 64#32
  let v692 : BitVec 32 := Scalar.muli v691 c64_i32_458
  v692
def k0_mult32 (k0_t2 : Fin k0_t2_loop.trips) : BitVec 32 :=
  let c8_i32_447 : BitVec 32 := 8#32
  let c0_i32_13 : BitVec 32 := 0#32
  let c1_i32_14 : BitVec 32 := 1#32
  let arg9 : BitVec 32 := Scf.iv c0_i32_13 c1_i32_14 k0_t2
  let v681 : BitVec 32 := Scalar.muli c8_i32_447 arg9
  let c7_i32 : BitVec 32 := 7#32
  let v682 : BitVec 32 := Scalar.addi v681 c7_i32
  let c1_i32_448 : BitVec 32 := 1#32
  let v683 : BitVec 32 := Scalar.addi v682 c1_i32_448
  let c256_i32_460 : BitVec 32 := 256#32
  let v696 : BitVec 32 := Scalar.muli v683 c256_i32_460
  v696
def k0_mult33 (k0_t2 : Fin k0_t2_loop.trips) : BitVec 32 :=
  let c116_i32_474 : BitVec 32 := 116#32
  let c0_i32_473 : BitVec 32 := 0#32
  let c4_i32_471 : BitVec 32 := 4#32
  let c8_i32_447 : BitVec 32 := 8#32
  let c0_i32_13 : BitVec 32 := 0#32
  let c1_i32_14 : BitVec 32 := 1#32
  let arg9 : BitVec 32 := Scf.iv c0_i32_13 c1_i32_14 k0_t2
  let v681 : BitVec 32 := Scalar.muli c8_i32_447 arg9
  let c7_i32 : BitVec 32 := 7#32
  let v682 : BitVec 32 := Scalar.addi v681 c7_i32
  let v714 : BitVec 32 := Scalar.muli c4_i32_471 v682
  let c4_i32_472 : BitVec 32 := 4#32
  let v715 : BitVec 32 := Scalar.subi v714 c4_i32_472
  let v716 : BitVec 32 := Scalar.maxsi c0_i32_473 v715
  let v717 : BitVec 32 := Scalar.minsi c116_i32_474 v716
  let c64_i32_475 : BitVec 32 := 64#32
  let v718 : BitVec 32 := Scalar.muli v717 c64_i32_475
  v718
def k0_mult34 (k0_t2 : Fin k0_t2_loop.trips) : BitVec 32 :=
  let c8_i32_447 : BitVec 32 := 8#32
  let c0_i32_13 : BitVec 32 := 0#32
  let c1_i32_14 : BitVec 32 := 1#32
  let arg9 : BitVec 32 := Scf.iv c0_i32_13 c1_i32_14 k0_t2
  let v681 : BitVec 32 := Scalar.muli c8_i32_447 arg9
  let c7_i32 : BitVec 32 := 7#32
  let v682 : BitVec 32 := Scalar.addi v681 c7_i32
  let c256_i32_478 : BitVec 32 := 256#32
  let v730 : BitVec 32 := Scalar.muli v682 c256_i32_478
  v730
def k0_mult35 : BitVec 32 :=
  let c116_i32_22 : BitVec 32 := 116#32
  let c0_i32_21 : BitVec 32 := 0#32
  let c96_i32 : BitVec 32 := 96#32
  let v25 : BitVec 32 := Scalar.maxsi c0_i32_21 c96_i32
  let v26 : BitVec 32 := Scalar.minsi c116_i32_22 v25
  let c64_i32_23 : BitVec 32 := 64#32
  let v27 : BitVec 32 := Scalar.muli v26 c64_i32_23
  v27
def k0_mult36 : BitVec 32 :=
  let c116_i32_36 : BitVec 32 := 116#32
  let c0_i32_35 : BitVec 32 := 0#32
  let c92_i32 : BitVec 32 := 92#32
  let v46 : BitVec 32 := Scalar.maxsi c0_i32_35 c92_i32
  let v47 : BitVec 32 := Scalar.minsi c116_i32_36 v46
  let c64_i32_37 : BitVec 32 := 64#32
  let v48 : BitVec 32 := Scalar.muli v47 c64_i32_37
  v48
def k0_off10 (c92_i32 : BitVec 32) : Fin 2 → Nat :=
  let c0_38 : Index := 0#32
  let c116_i32_36 : BitVec 32 := 116#32
  let c0_i32_35 : BitVec 32 := 0#32
  let v46 : BitVec 32 := Scalar.maxsi c0_i32_35 c92_i32
  let v47 : BitVec 32 := Scalar.minsi c116_i32_36 v46
  let c64_i32_37 : BitVec 32 := 64#32
  let v48 : BitVec 32 := Scalar.muli v47 c64_i32_37
  let v49 : BitVec 32 := v48
  let v50 : Index := Scalar.indexCast v49
  ![0, v50.toNat]
def k0_mult37 : BitVec 32 :=
  let c116_i32_47 : BitVec 32 := 116#32
  let c0_i32_46 : BitVec 32 := 0#32
  let c100_i32 : BitVec 32 := 100#32
  let v63 : BitVec 32 := Scalar.maxsi c0_i32_46 c100_i32
  let v64 : BitVec 32 := Scalar.minsi c116_i32_47 v63
  let c64_i32_48 : BitVec 32 := 64#32
  let v65 : BitVec 32 := Scalar.muli v64 c64_i32_48
  v65
def k0_mult38 : BitVec 32 :=
  let c116_i32_62 : BitVec 32 := 116#32
  let c0_i32_61 : BitVec 32 := 0#32
  let c96_i32_60 : BitVec 32 := 96#32
  let v84 : BitVec 32 := Scalar.maxsi c0_i32_61 c96_i32_60
  let v85 : BitVec 32 := Scalar.minsi c116_i32_62 v84
  let c64_i32_63 : BitVec 32 := 64#32
  let v86 : BitVec 32 := Scalar.muli v85 c64_i32_63
  v86
def k0_mult39 : BitVec 32 :=
  let c116_i32_74 : BitVec 32 := 116#32
  let c0_i32_73 : BitVec 32 := 0#32
  let c104_i32 : BitVec 32 := 104#32
  let v101 : BitVec 32 := Scalar.maxsi c0_i32_73 c104_i32
  let v102 : BitVec 32 := Scalar.minsi c116_i32_74 v101
  let c64_i32_75 : BitVec 32 := 64#32
  let v103 : BitVec 32 := Scalar.muli v102 c64_i32_75
  v103
def k0_mult40 : BitVec 32 :=
  let c116_i32_89 : BitVec 32 := 116#32
  let c0_i32_88 : BitVec 32 := 0#32
  let c100_i32_87 : BitVec 32 := 100#32
  let v122 : BitVec 32 := Scalar.maxsi c0_i32_88 c100_i32_87
  let v123 : BitVec 32 := Scalar.minsi c116_i32_89 v122
  let c64_i32_90 : BitVec 32 := 64#32
  let v124 : BitVec 32 := Scalar.muli v123 c64_i32_90
  v124
def k0_mult41 : BitVec 32 :=
  let c116_i32_101 : BitVec 32 := 116#32
  let c0_i32_100 : BitVec 32 := 0#32
  let c108_i32 : BitVec 32 := 108#32
  let v139 : BitVec 32 := Scalar.maxsi c0_i32_100 c108_i32
  let v140 : BitVec 32 := Scalar.minsi c116_i32_101 v139
  let c64_i32_102 : BitVec 32 := 64#32
  let v141 : BitVec 32 := Scalar.muli v140 c64_i32_102
  v141
def k0_mult42 : BitVec 32 :=
  let c116_i32_116 : BitVec 32 := 116#32
  let c0_i32_115 : BitVec 32 := 0#32
  let c104_i32_114 : BitVec 32 := 104#32
  let v160 : BitVec 32 := Scalar.maxsi c0_i32_115 c104_i32_114
  let v161 : BitVec 32 := Scalar.minsi c116_i32_116 v160
  let c64_i32_117 : BitVec 32 := 64#32
  let v162 : BitVec 32 := Scalar.muli v161 c64_i32_117
  v162
def k0_mult43 : BitVec 32 :=
  let c116_i32_128 : BitVec 32 := 116#32
  let c0_i32_127 : BitVec 32 := 0#32
  let c112_i32 : BitVec 32 := 112#32
  let v177 : BitVec 32 := Scalar.maxsi c0_i32_127 c112_i32
  let v178 : BitVec 32 := Scalar.minsi c116_i32_128 v177
  let c64_i32_129 : BitVec 32 := 64#32
  let v179 : BitVec 32 := Scalar.muli v178 c64_i32_129
  v179
def k0_mult44 : BitVec 32 :=
  let c116_i32_143 : BitVec 32 := 116#32
  let c0_i32_142 : BitVec 32 := 0#32
  let c108_i32_141 : BitVec 32 := 108#32
  let v198 : BitVec 32 := Scalar.maxsi c0_i32_142 c108_i32_141
  let v199 : BitVec 32 := Scalar.minsi c116_i32_143 v198
  let c64_i32_144 : BitVec 32 := 64#32
  let v200 : BitVec 32 := Scalar.muli v199 c64_i32_144
  v200
def k0_mult45 : BitVec 32 :=
  let c116_i32_156 : BitVec 32 := 116#32
  let c0_i32_155 : BitVec 32 := 0#32
  let c116_i32_154 : BitVec 32 := 116#32
  let v215 : BitVec 32 := Scalar.maxsi c0_i32_155 c116_i32_154
  let v216 : BitVec 32 := Scalar.minsi c116_i32_156 v215
  let c64_i32_157 : BitVec 32 := 64#32
  let v217 : BitVec 32 := Scalar.muli v216 c64_i32_157
  v217
def k0_mult46 : BitVec 32 :=
  let c116_i32_171 : BitVec 32 := 116#32
  let c0_i32_170 : BitVec 32 := 0#32
  let c112_i32_169 : BitVec 32 := 112#32
  let v236 : BitVec 32 := Scalar.maxsi c0_i32_170 c112_i32_169
  let v237 : BitVec 32 := Scalar.minsi c116_i32_171 v236
  let c64_i32_172 : BitVec 32 := 64#32
  let v238 : BitVec 32 := Scalar.muli v237 c64_i32_172
  v238
def k0_mult47 : BitVec 32 :=
  let c116_i32_183 : BitVec 32 := 116#32
  let c0_i32_182 : BitVec 32 := 0#32
  let c120_i32 : BitVec 32 := 120#32
  let v253 : BitVec 32 := Scalar.maxsi c0_i32_182 c120_i32
  let v254 : BitVec 32 := Scalar.minsi c116_i32_183 v253
  let c64_i32_184 : BitVec 32 := 64#32
  let v255 : BitVec 32 := Scalar.muli v254 c64_i32_184
  v255
def k0_mult48 : BitVec 32 :=
  let c116_i32_198 : BitVec 32 := 116#32
  let c0_i32_197 : BitVec 32 := 0#32
  let c116_i32_196 : BitVec 32 := 116#32
  let v274 : BitVec 32 := Scalar.maxsi c0_i32_197 c116_i32_196
  let v275 : BitVec 32 := Scalar.minsi c116_i32_198 v274
  let c64_i32_199 : BitVec 32 := 64#32
  let v276 : BitVec 32 := Scalar.muli v275 c64_i32_199
  v276
def k0_mult49 : BitVec 32 :=
  let c116_i32_209 : BitVec 32 := 116#32
  let c0_i32_208 : BitVec 32 := 0#32
  let c120_i32_207 : BitVec 32 := 120#32
  let v295 : BitVec 32 := Scalar.maxsi c0_i32_208 c120_i32_207
  let v296 : BitVec 32 := Scalar.minsi c116_i32_209 v295
  let c64_i32_210 : BitVec 32 := 64#32
  let v297 : BitVec 32 := Scalar.muli v296 c64_i32_210
  v297
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NaRefIdeal.lean ====
abbrev S8192x6144 : Shape := ⟨2, ![8192, 6144]⟩
abbrev S8x3x768x256 : Shape := ⟨4, ![8, 3, 768, 256]⟩
abbrev S32x256x6x8x128 : Shape := ⟨5, ![32, 256, 6, 8, 128]⟩
abbrev S32x256x1x8x128 : Shape := ⟨5, ![32, 256, 1, 8, 128]⟩
abbrev S32x256x8x128 : Shape := ⟨4, ![32, 256, 8, 128]⟩
abbrev S1x256x8x128 : Shape := ⟨4, ![1, 256, 8, 128]⟩
abbrev S30x256x8x128 : Shape := ⟨4, ![30, 256, 8, 128]⟩
abbrev S32x768x8x128 : Shape := ⟨4, ![32, 768, 8, 128]⟩
abbrev S8x1x768x256 : Shape := ⟨4, ![8, 1, 768, 256]⟩
abbrev S8x30x768x256 : Shape := ⟨4, ![8, 30, 768, 256]⟩
abbrev S8x32x768x256 : Shape := ⟨4, ![8, 32, 768, 256]⟩
abbrev S_ : Shape := ⟨0, ![]⟩
abbrev S8x32x256 : Shape := ⟨3, ![8, 32, 256]⟩
abbrev S8x32x1x256 : Shape := ⟨4, ![8, 32, 1, 256]⟩
abbrev S32x8x128x256 : Shape := ⟨4, ![32, 8, 128, 256]⟩
abbrev S8192x1024 : Shape := ⟨2, ![8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8x3x768x256, .f32⟩
  | .hbm, ⟨2, _⟩ => ⟨S8192x6144, .f32⟩
  | .hbm, ⟨3, _⟩ => ⟨S32x256x6x8x128, .f32⟩
  | .hbm, ⟨4, _⟩ => ⟨S32x256x1x8x128, .f32⟩
  | .hbm, ⟨5, _⟩ => ⟨S32x256x8x128, .f32⟩
  | .hbm, ⟨6, _⟩ => ⟨S32x256x1x8x128, .f32⟩
  | .hbm, ⟨7, _⟩ => ⟨S32x256x8x128, .f32⟩
  | .hbm, ⟨8, _⟩ => ⟨S1x256x8x128, .f32⟩
  | .hbm, ⟨9, _⟩ => ⟨S30x256x8x128, .f32⟩
  | .hbm, ⟨10, _⟩ => ⟨S1x256x8x128, .f32⟩
  | .hbm, ⟨11, _⟩ => ⟨S32x256x8x128, .f32⟩
  | .hbm, ⟨12, _⟩ => ⟨S1x256x8x128, .f32⟩
  | .hbm, ⟨13, _⟩ => ⟨S30x256x8x128, .f32⟩
  | .hbm, ⟨14, _⟩ => ⟨S1x256x8x128, .f32⟩
  | .hbm, ⟨15, _⟩ => ⟨S32x256x8x128, .f32⟩
  | .hbm, ⟨16, _⟩ => ⟨S1x256x8x128, .f32⟩
  | .hbm, ⟨17, _⟩ => ⟨S30x256x8x128, .f32⟩
  | .hbm, ⟨18, _⟩ => ⟨S1x256x8x128, .f32⟩
  | .hbm, ⟨19, _⟩ => ⟨S32x256x8x128, .f32⟩
  | .hbm, ⟨20, _⟩ => ⟨S32x768x8x128, .f32⟩
  | .hbm, ⟨21, _⟩ => ⟨S32x256x1x8x128, .f32⟩
  | .hbm, ⟨22, _⟩ => ⟨S32x256x8x128, .f32⟩
  | .hbm, ⟨23, _⟩ => ⟨S1x256x8x128, .f32⟩
  | .hbm, ⟨24, _⟩ => ⟨S30x256x8x128, .f32⟩
  | .hbm, ⟨25, _⟩ => ⟨S1x256x8x128, .f32⟩
  | .hbm, ⟨26, _⟩ => ⟨S32x256x8x128, .f32⟩
  | .hbm, ⟨27, _⟩ => ⟨S1x256x8x128, .f32⟩
  | .hbm, ⟨28, _⟩ => ⟨S30x256x8x128, .f32⟩
  | .hbm, ⟨29, _⟩ => ⟨S1x256x8x128, .f32⟩
  | .hbm, ⟨30, _⟩ => ⟨S32x256x8x128, .f32⟩
  | .hbm, ⟨31, _⟩ => ⟨S1x256x8x128, .f32⟩
  | .hbm, ⟨32, _⟩ => ⟨S30x256x8x128, .f32⟩
  | .hbm, ⟨33, _⟩ => ⟨S1x256x8x128, .f32⟩
  | .hbm, ⟨34, _⟩ => ⟨S32x256x8x128, .f32⟩
  | .hbm, ⟨35, _⟩ => ⟨S32x768x8x128, .f32⟩
  | .hbm, ⟨36, _⟩ => ⟨S8x1x768x256, .f32⟩
  | .hbm, ⟨37, _⟩ => ⟨S8x1x768x256, .f32⟩
  | .hbm, ⟨38, _⟩ => ⟨S8x30x768x256, .f32⟩
  | .hbm, ⟨39, _⟩ => ⟨S8x1x768x256, .f32⟩
  | .hbm, ⟨40, _⟩ => ⟨S8x32x768x256, .f32⟩
  | .hbm, ⟨41, _⟩ => ⟨S8x32x768x256, .f32⟩
  | .hbm, ⟨42, _⟩ => ⟨S8x32x768x256, .f32⟩
  | .hbm, ⟨43, _⟩ => ⟨S_, .f32⟩
  | .hbm, ⟨44, _⟩ => ⟨S8x32x256, .f32⟩
  | .hbm, ⟨45, _⟩ => ⟨S8x32x1x256, .f32⟩
  | .hbm, ⟨46, _⟩ => ⟨S8x32x768x256, .f32⟩
  | .hbm, ⟨47, _⟩ => ⟨S8x32x768x256, .f32⟩
  | .hbm, ⟨48, _⟩ => ⟨S_, .f32⟩
  | .hbm, ⟨49, _⟩ => ⟨S8x32x768x256, .f32⟩
  | .hbm, ⟨50, _⟩ => ⟨S8x32x768x256, .f32⟩
  | .hbm, ⟨51, _⟩ => ⟨S_, .f32⟩
  | .hbm, ⟨52, _⟩ => ⟨S8x32x256, .f32⟩
  | .hbm, ⟨53, _⟩ => ⟨S8x32x1x256, .f32⟩
  | .hbm, ⟨54, _⟩ => ⟨S8x32x768x256, .f32⟩
  | .hbm, ⟨55, _⟩ => ⟨S8x32x768x256, .f32⟩
  | .hbm, ⟨56, _⟩ => ⟨S32x8x128x256, .f32⟩
  | .hbm, ⟨57, _⟩ => ⟨S32x256x8x128, .f32⟩
  | .hbm, ⟨58, _⟩ => ⟨S8192x1024, .f32⟩
  | .hbm, ⟨59, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_cst : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_cst_0 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩

abbrev nD : Nat := 1
abbrev τ : Topo := Topo.v7x

variable {F : FTy → Type} [FloatOps F]
-- ==== Proof.NaIdealBody.lean ====
/- The neighbourhood attention's body: what one run of it leaves in its output block. -/
module

public import proofs.«01_k».proof.Proof.Gen.NaIdeal.Frame
public import proofs.«01_k».proof.Proof.Gen.NaIdeal.Loops
public import proofs.«01_k».proof.Proof.Gen.NaIdeal.Skeleton
public import Idealize.ShloMosaic.Lib.Pipeline.ValueKit
public import Idealize.ShloMosaic.Lib.Writes
public import Idealize.ShloMosaic.Lib.VecWindow

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The blocks -/

/-- First key row of the window of row block `rb`: the block above it, kept inside the sequence. -/
def win (rb : ℕ) : ℕ := 256 * min (rb - 1) 29

/-- Which of the three bias tables row block `rb` adds: the first block's, the last block's, or the inner blocks'. -/
def caseOf (rb : ℕ) : ℕ := if rb = 0 then 0 else if rb = 31 then 2 else 1

theorem win_le (rb : ℕ) : win rb ≤ 7424 := by unfold win; omega

theorem caseOf_le (rb : ℕ) : caseOf rb ≤ 2 := by unfold caseOf; split_ifs <;> omega

theorem inbK (rb : ℕ) : ∀ a, (![win rb, 0] : Fin 2 → ℕ) a + S768x128.size a ≤ S8192x128.size a := by
  have := win_le rb
  intro a; fin_cases a
  · show win rb + 768 ≤ 8192; omega
  · show 0 + 128 ≤ 128; omega

theorem inbQ (rb : ℕ) : ∀ a, (![256 * min rb 31, 0] : Fin 2 → ℕ) a + S256x128.size a ≤ S8192x128.size a := by
  intro a; fin_cases a
  · show 256 * min rb 31 + 256 ≤ 8192; omega
  · show 0 + 128 ≤ 128; omega

theorem inbB (rb : ℕ) : ∀ a, (![0, caseOf rb, 0, 0] : Fin 4 → ℕ) a + S1x1x768x256.size a ≤ S1x3x768x256.size a := by
  have := caseOf_le rb
  intro a; fin_cases a
  · show 0 + 1 ≤ 1; omega
  · show caseOf rb + 1 ≤ 3; omega
  · show 0 + 768 ≤ 768; omega
  · show 0 + 256 ≤ 256; omega

theorem inbV (rb : ℕ) : ∀ a, (![0, win rb] : Fin 2 → ℕ) a + S144x768.size a ≤ S144x8192.size a := by
  have := win_le rb
  intro a; fin_cases a
  · show 0 + 144 ≤ 144; omega
  · show win rb + 768 ≤ 8192; omega

theorem inbT (k : ℕ) : ∀ a, (![512 * min k 15, 0] : Fin 2 → ℕ) a + S512x128.size a ≤ S8192x128.size a := by
  intro a; fin_cases a
  · show 512 * min k 15 + 512 ≤ 8192; omega
  · show 0 + 128 ≤ 128; omega

/-- The 768 key rows of row block `rb`. -/
def kwin (x : Vec F S8192x128 .bf16) (rb : ℕ) : Vec F S768x128 .bf16 :=
  View.ld x (Rect.unit ![win rb, 0] S768x128.size (inbK rb))

/-- The 256 query rows of row block `rb`. -/
def qblk (x : Vec F S8192x128 .bf16) (rb : ℕ) : Vec F S256x128 .bf16 :=
  View.ld x (Rect.unit ![256 * min rb 31, 0] S256x128.size (inbQ rb))

/-- The bias table of row block `rb`. -/
def bcase (x : Vec F S1x3x768x256 .f32) (rb : ℕ) : Vec F S1x1x768x256 .f32 :=
  View.ld x (Rect.unit ![0, caseOf rb, 0, 0] S1x1x768x256.size (inbB rb))

/-- 512 value rows. -/
def vchunk (x : Vec F S8192x128 .bf16) (k : ℕ) : Vec F S512x128 .bf16 :=
  View.ld x (Rect.unit ![512 * min k 15, 0] S512x128.size (inbT k))

/-- The scores of row block `rb`, keys down and queries across. -/
def SC (x0 x1 : Vec F S8192x128 .bf16) (x3 : Vec F S1x3x768x256 .f32) (rb : ℕ) : Vec F S768x256 .f32 :=
  k0_pay2 (kwin x1 rb) (qblk x0 rb) (bcase x3 rb)

/-- The values transposed, with sixteen rows of ones below them. -/
def vtOf (x2 : Vec F S8192x128 .bf16) : Vec F S144x8192 .bf16 := fun y =>
  if h : (y 0).val < 128 then
    (k0_pay22 (vchunk x2 ((y 1).val / 512)) : Vec F S128x512 .bf16)
      (ValueIdx.ix2 ⟨(y 0).val, h⟩ ⟨(y 1).val % 512, Nat.mod_lt _ (by norm_num)⟩)
  else (k0_pay23 : Vec F S16x8192 .bf16) (ValueIdx.ix2 ⟨(y 0).val - 128, by have h0 : (y 0).val < 144 := (y 0).isLt; omega⟩ ⟨(y 1).val, (y 1).isLt⟩)

/-- The columns of `vtOf` under row block `rb`'s keys. -/
def vtw (x2 : Vec F S8192x128 .bf16) (rb : ℕ) : Vec F S144x768 .bf16 :=
  View.ld (vtOf x2) (Rect.unit ![0, win rb] S144x768.size (inbV rb))

/-- The output of row block `rb`. -/
def blk (x0 x1 x2 : Vec F S8192x128 .bf16) (x3 : Vec F S1x3x768x256 .f32) (rb : ℕ) : Vec F S256x128 .bf16 :=
  k0_pay1 (SC x0 x1 x3 rb) (vtw x2 rb)

/-- What one run leaves in the output block. -/
def outOf (x0 : Vec F S8192x128 .bf16) (x1 : Vec F S8192x128 .bf16) (x2 : Vec F S8192x128 .bf16) (x3 : Vec F S1x3x768x256 .f32) : Vec F S8192x128 .bf16 := fun y =>
  blk x0 x1 x2 x3 ((y 0).val / 256) (ValueIdx.ix2 ⟨(y 0).val % 256, Nat.mod_lt _ (by norm_num)⟩ ⟨(y 1).val, (y 1).isLt⟩)

theorem vtOf_row (x2 : Vec F S8192x128 .bf16) (y : S144x8192.Idx) (k : ℕ) (z : S128x512.Idx) (h0 : (y 0).val = (z 0).val)
    (h1 : (y 1).val = 512 * k + (z 1).val) : vtOf x2 y = k0_pay22 (vchunk x2 k) z := by
  have hz0 : (z 0).val < 128 := (z 0).isLt
  have hz1 : (z 1).val < 512 := (z 1).isLt
  have hd : (y 1).val / 512 = k := by omega
  unfold vtOf
  rw [dif_pos (by omega), hd]
  refine congrArg (k0_pay22 (vchunk x2 k)) ?_
  funext a
  fin_cases a
  · exact Fin.ext h0
  · exact Fin.ext (by show (y 1).val % 512 = (z 1).val; omega)

theorem vtOf_one (x2 : Vec F S8192x128 .bf16) (y : S144x8192.Idx) (z : S16x8192.Idx) (h0 : (y 0).val = 128 + (z 0).val)
    (h1 : (y 1).val = (z 1).val) : vtOf x2 y = k0_pay23 z := by
  unfold vtOf
  rw [dif_neg (by omega)]
  refine congrArg (k0_pay23 : Vec F S16x8192 .bf16) ?_
  funext a
  fin_cases a
  · exact Fin.ext (by show (y 0).val - 128 = (z 0).val; omega)
  · exact Fin.ext h1

theorem outOf_row (x0 x1 x2 : Vec F S8192x128 .bf16) (x3 : Vec F S1x3x768x256 .f32) (y : S8192x128.Idx) (rb : ℕ) (z : S256x128.Idx)
    (h0 : (y 0).val = 256 * rb + (z 0).val) (h1 : (y 1).val = (z 1).val) : outOf x0 x1 x2 x3 y = blk x0 x1 x2 x3 rb z := by
  have hz0 : (z 0).val < 256 := (z 0).isLt
  have hd : (y 0).val / 256 = rb := by omega
  unfold outOf
  rw [hd]
  refine congrArg (blk x0 x1 x2 x3 rb) ?_
  funext a
  fin_cases a
  · exact Fin.ext (by show (y 0).val % 256 = (z 0).val; omega)
  · exact Fin.ext h1

/-! ### The spelled payloads are two -/

theorem pay5_eq : @k0_pay5 F _ = k0_pay2 := rfl

theorem pay7_eq : @k0_pay7 F _ = k0_pay2 := rfl

theorem pay10_eq : @k0_pay10 F _ = k0_pay2 := rfl

theorem pay12_eq : @k0_pay12 F _ = k0_pay2 := rfl

theorem pay15_eq : @k0_pay15 F _ = k0_pay2 := rfl

theorem pay17_eq : @k0_pay17 F _ = k0_pay2 := rfl

theorem pay24_eq : @k0_pay24 F _ = k0_pay2 := rfl

theorem pay25_eq : @k0_pay25 F _ = k0_pay2 := rfl

theorem pay28_eq : @k0_pay28 F _ = k0_pay2 := rfl

theorem pay31_eq : @k0_pay31 F _ = k0_pay2 := rfl

theorem pay34_eq : @k0_pay34 F _ = k0_pay2 := rfl

theorem pay39_eq : @k0_pay39 F _ = k0_pay2 := rfl

theorem pay41_eq : @k0_pay41 F _ = k0_pay2 := rfl

theorem pay20_eq (a : Vec F S768x128 .bf16) (b : Vec F S256x128 .bf16) (v : Vec F S1x1x768x256 .f32) :
    k0_pay20 a b (constant S768x256 .f32 0x00000000#32) v = k0_pay2 a b v := rfl

theorem pay37_eq (a : Vec F S768x128 .bf16) (b : Vec F S256x128 .bf16) (v : Vec F S1x1x768x256 .f32) :
    k0_pay37 (k0_pay36 a b) v = k0_pay2 a b v := rfl

theorem pay6_eq : @k0_pay6 F _ = k0_pay1 := rfl

theorem pay11_eq : @k0_pay11 F _ = k0_pay1 := rfl

theorem pay16_eq : @k0_pay16 F _ = k0_pay1 := rfl

theorem pay21_eq : @k0_pay21 F _ = k0_pay1 := rfl

theorem pay35_eq : @k0_pay35 F _ = k0_pay1 := rfl

theorem pay38_eq : @k0_pay38 F _ = k0_pay1 := rfl

theorem pay40_eq : @k0_pay40 F _ = k0_pay1 := rfl

theorem pay42_eq : @k0_pay42 F _ = k0_pay1 := rfl

theorem pay4_eq (u : Vec F S768x256 .f32) (v : Vec F S144x768 .bf16) : k0_pay4 (k0_pay3 u) v = k0_pay1 u v := rfl

theorem pay9_eq (u : Vec F S768x256 .f32) (v : Vec F S144x768 .bf16) : k0_pay9 (k0_pay8 u) v = k0_pay1 u v := rfl

theorem pay14_eq (u : Vec F S768x256 .f32) (v : Vec F S144x768 .bf16) : k0_pay14 (k0_pay13 u) v = k0_pay1 u v := rfl

theorem pay19_eq (u : Vec F S768x256 .f32) (v : Vec F S144x768 .bf16) : k0_pay19 (k0_pay18 u) v = k0_pay1 u v := rfl

theorem pay27_eq (u : Vec F S768x256 .f32) (v : Vec F S144x768 .bf16) : k0_pay27 (k0_pay26 u v) = k0_pay1 u v := rfl

theorem pay30_eq (u : Vec F S768x256 .f32) (v : Vec F S144x768 .bf16) : k0_pay30 (k0_pay29 u) v = k0_pay1 u v := rfl

theorem pay33_eq (u : Vec F S768x256 .f32) (v : Vec F S144x768 .bf16) : k0_pay33 (k0_pay32 u) v = k0_pay1 u v := rfl

/-! ### Loads -/

theorem ld_congr {S : Shape} {e : EltTy} (X : Vec F S e) {off off' : Fin S.rank → ℕ} {size : Fin S.rank → ℕ}
    (inb : ∀ a, off a + size a ≤ S.size a) (inb' : ∀ a, off' a + size a ≤ S.size a) (h : off = off') :
    View.ld X (Rect.unit off size inb) = View.ld X (Rect.unit off' size inb') := by
  subst h; rfl

theorem load_congr {sp : Space} {S : Shape} {e : EltTy} (m : Memref sig .tc sp S e) (X : BufTy.Contents (Elt F) m.view.ty) (x : Vec F S e)
    (hx : m.view.read (Elt F) X = x) {off off' : Fin S.rank → ℕ} {size : Fin S.rank → ℕ}
    (inb : ∀ a, off a + size a ≤ S.size a) (inb' : ∀ a, off' a + size a ≤ S.size a) (h : off = off') :
    View.readAt (Elt F) m.view (Rect.unit off size inb).toLoadRect X = View.ld x (Rect.unit off' size inb') := by
  subst h; subst hx; rfl

theorem score_ok (arg1 : Memref sig .tc .vmem S8192x128 .bf16) (arg2 : Memref sig .tc .vmem S8192x128 .bf16) (arg4 : Memref sig .tc .vmem S1x3x768x256 .f32)
    (X1 : BufTy.Contents (Elt F) arg1.view.ty) (X2 : BufTy.Contents (Elt F) arg2.view.ty) (X4 : BufTy.Contents (Elt F) arg4.view.ty)
    (x0 x1 : Vec F S8192x128 .bf16) (x3 : Vec F S1x3x768x256 .f32)
    (h1 : arg1.view.read (Elt F) X1 = x0) (h2 : arg2.view.read (Elt F) X2 = x1) (h4 : arg4.view.read (Elt F) X4 = x3)
    (rb : ℕ) {o2 o1 : Fin 2 → ℕ} {o4 : Fin 4 → ℕ}
    (i2 : ∀ a, o2 a + (![768, 128] : Fin 2 → ℕ) a ≤ S8192x128.size a) (i1 : ∀ a, o1 a + (![256, 128] : Fin 2 → ℕ) a ≤ S8192x128.size a)
    (i4 : ∀ a, o4 a + (![1, 1, 768, 256] : Fin 4 → ℕ) a ≤ S1x3x768x256.size a)
    (e2 : o2 = ![win rb, 0]) (e1 : o1 = ![256 * min rb 31, 0]) (e4 : o4 = ![0, caseOf rb, 0, 0]) :
    k0_pay2 (View.readAt (Elt F) arg2.view (Rect.unit o2 ![768, 128] i2).toLoadRect X2)
      (View.readAt (Elt F) arg1.view (Rect.unit o1 ![256, 128] i1).toLoadRect X1)
      (View.readAt (Elt F) arg4.view (Rect.unit o4 ![1, 1, 768, 256] i4).toLoadRect X4) = SC x0 x1 x3 rb := by
  unfold SC kwin qblk bcase
  exact congr (congr (congrArg k0_pay2 (load_congr arg2 X2 x1 h2 i2 (inbK rb) e2)) (load_congr arg1 X1 x0 h1 i1 (inbQ rb) e1))
    (load_congr arg4 X4 x3 h4 i4 (inbB rb) e4)

theorem vt_ok (arg6 : Memref sig .tc .vmem S144x8192 .bf16) (X6 : BufTy.Contents (Elt F) arg6.view.ty) (x2 : Vec F S8192x128 .bf16)
    (h6 : arg6.view.read (Elt F) X6 = vtOf x2) (rb : ℕ) {o : Fin 2 → ℕ} (inb : ∀ a, o a + (![144, 768] : Fin 2 → ℕ) a ≤ S144x8192.size a)
    (e : o = ![0, win rb]) :
    View.readAt (Elt F) arg6.view (Rect.unit o ![144, 768] inb).toLoadRect X6 = vtw x2 rb :=
  load_congr arg6 X6 _ h6 inb (inbV rb) e

/-! ### Stores -/

/-- A store of the output's row block `r`, with the values `outOf` has there. -/
def IsBlk (G : Vec F S8192x128 .bf16) (p : View.Piece (Elt F) S8192x128 .bf16) (r : ℕ) : Prop :=
  (∀ x, p.2 x = G (p.1.emb x)) ∧ ∀ y : S8192x128.Idx, (y 0).val / 256 = r → y ∈ p.1.set

theorem isBlk_of (x0 x1 x2 : Vec F S8192x128 .bf16) (x3 : Vec F S1x3x768x256 .f32) (rb : ℕ) {o : Fin 2 → ℕ}
    (inb : ∀ a, o a + (![256, 128] : Fin 2 → ℕ) a ≤ S8192x128.size a) (e : o = ![256 * rb, 0])
    (u : Vec F S768x256 .f32) (v : Vec F S144x768 .bf16) (hu : u = SC x0 x1 x3 rb) (hv : v = vtw x2 rb) :
    IsBlk (outOf x0 x1 x2 x3) ⟨Rect.unit o ![256, 128] inb, k0_pay1 u v⟩ rb := by
  subst e; subst hu; subst hv
  refine ⟨fun x => ?_, fun y hy => ?_⟩
  · exact (outOf_row x0 x1 x2 x3 _ rb x (ValueKit.rect_emb_unit_val _ _ inb x 0) ((ValueKit.rect_emb_unit_val _ _ inb x 1).trans (Nat.zero_add _))).symm
  · refine (Rect.mem_set_unit (inb := inb)).2 ?_
    have h1 : (y 1).val < 128 := (y 1).isLt
    intro a
    fin_cases a
    · show 256 * rb ≤ (y 0).val ∧ (y 0).val < 256 * rb + 256; omega
    · show 0 ≤ (y 1).val ∧ (y 1).val < 0 + 128; omega

/-- A store of 512 transposed value rows. -/
def IsCol (G : Vec F S144x8192 .bf16) (p : View.Piece (Elt F) S144x8192 .bf16) (r : ℕ) : Prop :=
  (∀ x, p.2 x = G (p.1.emb x)) ∧ ∀ y : S144x8192.Idx, (y 0).val < 128 → (y 1).val / 512 = r → y ∈ p.1.set

theorem isCol_of (x2 : Vec F S8192x128 .bf16) (k : ℕ) {o : Fin 2 → ℕ}
    (inb : ∀ a, o a + (![128, 512] : Fin 2 → ℕ) a ≤ S144x8192.size a) (e : o = ![0, 512 * k])
    (u : Vec F S512x128 .bf16) (hu : u = vchunk x2 k) :
    IsCol (vtOf x2) ⟨Rect.unit o ![128, 512] inb, k0_pay22 u⟩ k := by
  subst e; subst hu
  refine ⟨fun x => ?_, fun y hy0 hy => ?_⟩
  · exact (vtOf_row x2 _ k x ((ValueKit.rect_emb_unit_val _ _ inb x 0).trans (Nat.zero_add _)) (ValueKit.rect_emb_unit_val _ _ inb x 1)).symm
  · refine (Rect.mem_set_unit (inb := inb)).2 ?_
    intro a
    fin_cases a
    · show 0 ≤ (y 0).val ∧ (y 0).val < 0 + 128; omega
    · show 512 * k ≤ (y 1).val ∧ (y 1).val < 512 * k + 512; omega

/-- The store of the ones. -/
theorem ones_ok (x2 : Vec F S8192x128 .bf16) {o : Fin 2 → ℕ} (inb : ∀ a, o a + (![16, 8192] : Fin 2 → ℕ) a ≤ S144x8192.size a) (e : o = ![128, 0]) :
    (∀ x, (k0_pay23 : Vec F S16x8192 .bf16) x = vtOf x2 ((Rect.unit (s := S144x8192) o ![16, 8192] inb).emb x)) ∧
      ∀ y : S144x8192.Idx, ¬ (y 0).val < 128 → y ∈ (Rect.unit (s := S144x8192) o ![16, 8192] inb).set := by
  subst e
  refine ⟨fun x => ?_, fun y hy0 => ?_⟩
  · exact (vtOf_one x2 _ x (ValueKit.rect_emb_unit_val (s := S144x8192) ![128, 0] ![16, 8192] inb x 0) ((ValueKit.rect_emb_unit_val (s := S144x8192) ![128, 0] ![16, 8192] inb x 1).trans (Nat.zero_add _))).symm
  · refine (Rect.mem_set_unit (inb := inb)).2 ?_
    have h0 : (y 0).val < 144 := (y 0).isLt
    have h1 : (y 1).val < 8192 := (y 1).isLt
    intro a
    fin_cases a
    · show 128 ≤ (y 0).val ∧ (y 0).val < 128 + 16; omega
    · show 0 ≤ (y 1).val ∧ (y 1).val < 0 + 8192; omega

/-- The numbers below `n`, greatest first. -/
def down : ℕ → List ℕ
  | 0 => []
  | n + 1 => n :: down n

theorem mem_down (n r : ℕ) (h : r < n) : r ∈ down n := by
  induction n with
  | zero => omega
  | succ n ih =>
    rcases Nat.lt_or_ge r n with h' | h'
    · exact List.mem_cons_of_mem _ (ih h')
    · have : r = n := by omega
      subst this; exact List.mem_cons_self

theorem forall2_left {α : Type} {R : α → ℕ → Prop} {L : List α} {D : List ℕ} (h : List.Forall₂ R L D) : ∀ p ∈ L, ∃ r ∈ D, R p r := by
  induction h with
  | nil => intro p hp; exact absurd hp List.not_mem_nil
  | @cons a b l d hab _ ih =>
    intro p hp
    rcases List.mem_cons.1 hp with rfl | hp
    · exact ⟨b, List.mem_cons_self, hab⟩
    · obtain ⟨r, hr, hR⟩ := ih p hp; exact ⟨r, List.mem_cons_of_mem _ hr, hR⟩

theorem forall2_right {α : Type} {R : α → ℕ → Prop} {L : List α} {D : List ℕ} (h : List.Forall₂ R L D) : ∀ r ∈ D, ∃ p ∈ L, R p r := by
  induction h with
  | nil => intro p hp; exact absurd hp List.not_mem_nil
  | @cons a b l d hab _ ih =>
    intro r hr
    rcases List.mem_cons.1 hr with rfl | hr
    · exact ⟨a, List.mem_cons_self, hab⟩
    · obtain ⟨p, hp, hR⟩ := ih r hr; exact ⟨p, List.mem_cons_of_mem _ hp, hR⟩

theorem forall2_append {α : Type} {R : α → ℕ → Prop} {L L' : List α} {D D' : List ℕ} (h : List.Forall₂ R L D) (h' : List.Forall₂ R L' D') :
    List.Forall₂ R (L ++ L') (D ++ D') := by
  induction h with
  | nil => exact h'
  | cons hab _ ih => exact .cons hab ih

/-- Stores of all 32 row blocks leave `G`. -/
theorem read_out (m : Memref sig .tc .vmem S8192x128 .bf16) (f : BufTy.Contents (Elt F) m.view.ty) (G : Vec F S8192x128 .bf16)
    (L : List (View.Piece (Elt F) S8192x128 .bf16)) (h : List.Forall₂ (IsBlk G) L (down 32)) :
    m.view.read (Elt F) (m.view.writes (Elt F) f L) = G := by
  funext y
  refine View.read_writes_apply_of_pieces m.view f G L (fun p hp x => ?_) y ?_
  · obtain ⟨r, _, hR⟩ := forall2_left h p hp; exact hR.1 x
  · have h0 : (y 0).val < 8192 := (y 0).isLt
    obtain ⟨p, hp, hR⟩ := forall2_right h ((y 0).val / 256) (mem_down _ _ (by omega))
    exact ⟨p, hp, hR.2 y rfl⟩

/-- The ones and the sixteen blocks of value rows leave the transposed values over the ones. -/
theorem read_vt (m : Memref sig .tc .vmem S144x8192 .bf16) (f : BufTy.Contents (Elt F) m.view.ty) (x2 : Vec F S8192x128 .bf16)
    {o : Fin 2 → ℕ} (inb : ∀ a, o a + (![16, 8192] : Fin 2 → ℕ) a ≤ S144x8192.size a) (e : o = ![128, 0])
    (L : List (View.Piece (Elt F) S144x8192 .bf16)) (h : List.Forall₂ (IsCol (vtOf x2)) L (down 16)) :
    m.view.read (Elt F) (m.view.writes (Elt F) f (⟨Rect.unit o ![16, 8192] inb, k0_pay23⟩ :: L)) = vtOf x2 := by
  have ho := ones_ok (F := F) x2 inb e
  funext y
  refine View.read_writes_apply_of_pieces m.view f (vtOf x2) _ (fun p hp x => ?_) y ?_
  · rcases List.mem_cons.1 hp with rfl | hp
    · exact ho.1 x
    · obtain ⟨r, _, hR⟩ := forall2_left h p hp; exact hR.1 x
  · by_cases hy : (y 0).val < 128
    · have h1 : (y 1).val < 8192 := (y 1).isLt
      obtain ⟨p, hp, hR⟩ := forall2_right h ((y 1).val / 512) (mem_down _ _ (by omega))
      exact ⟨p, List.mem_cons_of_mem _ hp, hR.2 y hy rfl⟩
    · exact ⟨_, List.mem_cons_self, ho.2 y hy⟩

/-! ### The loops' offsets -/

theorem off5_0 : ∀ k : Fin k0_t2_loop.trips, k0_off5 k 0#32 = ![win (8 * k.val + 1), 0] := by decide +kernel

theorem off6_0 : ∀ k : Fin k0_t2_loop.trips, k0_off6 k 0#32 = ![256 * min (8 * k.val + 1) 31, 0] := by decide +kernel

theorem off7_0 : ∀ k : Fin k0_t2_loop.trips, k0_off7 k 0#32 = ![0, caseOf (8 * k.val + 1), 0, 0] := by decide +kernel

theorem off8_0 : ∀ k : Fin k0_t2_loop.trips, k0_off8 k 0#32 = ![0, win (8 * k.val + 0)] := by decide +kernel

theorem off9_0 : ∀ k : Fin k0_t2_loop.trips, k0_off9 k 0#32 = ![256 * (8 * k.val + 0), 0] := by decide +kernel

theorem off5_1 : ∀ k : Fin k0_t2_loop.trips, k0_off5 k 1#32 = ![win (8 * k.val + 2), 0] := by decide +kernel

theorem off6_1 : ∀ k : Fin k0_t2_loop.trips, k0_off6 k 1#32 = ![256 * min (8 * k.val + 2) 31, 0] := by decide +kernel

theorem off7_1 : ∀ k : Fin k0_t2_loop.trips, k0_off7 k 1#32 = ![0, caseOf (8 * k.val + 2), 0, 0] := by decide +kernel

theorem off8_1 : ∀ k : Fin k0_t2_loop.trips, k0_off8 k 1#32 = ![0, win (8 * k.val + 1)] := by decide +kernel

theorem off9_1 : ∀ k : Fin k0_t2_loop.trips, k0_off9 k 1#32 = ![256 * (8 * k.val + 1), 0] := by decide +kernel

theorem off5_2 : ∀ k : Fin k0_t2_loop.trips, k0_off5 k 2#32 = ![win (8 * k.val + 3), 0] := by decide +kernel

theorem off6_2 : ∀ k : Fin k0_t2_loop.trips, k0_off6 k 2#32 = ![256 * min (8 * k.val + 3) 31, 0] := by decide +kernel

theorem off7_2 : ∀ k : Fin k0_t2_loop.trips, k0_off7 k 2#32 = ![0, caseOf (8 * k.val + 3), 0, 0] := by decide +kernel

theorem off8_2 : ∀ k : Fin k0_t2_loop.trips, k0_off8 k 2#32 = ![0, win (8 * k.val + 2)] := by decide +kernel

theorem off9_2 : ∀ k : Fin k0_t2_loop.trips, k0_off9 k 2#32 = ![256 * (8 * k.val + 2), 0] := by decide +kernel

theorem off5_3 : ∀ k : Fin k0_t2_loop.trips, k0_off5 k 3#32 = ![win (8 * k.val + 4), 0] := by decide +kernel

theorem off6_3 : ∀ k : Fin k0_t2_loop.trips, k0_off6 k 3#32 = ![256 * min (8 * k.val + 4) 31, 0] := by decide +kernel

theorem off7_3 : ∀ k : Fin k0_t2_loop.trips, k0_off7 k 3#32 = ![0, caseOf (8 * k.val + 4), 0, 0] := by decide +kernel

theorem off8_3 : ∀ k : Fin k0_t2_loop.trips, k0_off8 k 3#32 = ![0, win (8 * k.val + 3)] := by decide +kernel

theorem off9_3 : ∀ k : Fin k0_t2_loop.trips, k0_off9 k 3#32 = ![256 * (8 * k.val + 3), 0] := by decide +kernel

theorem off5_4 : ∀ k : Fin k0_t2_loop.trips, k0_off5 k 4#32 = ![win (8 * k.val + 5), 0] := by decide +kernel

theorem off6_4 : ∀ k : Fin k0_t2_loop.trips, k0_off6 k 4#32 = ![256 * min (8 * k.val + 5) 31, 0] := by decide +kernel

theorem off7_4 : ∀ k : Fin k0_t2_loop.trips, k0_off7 k 4#32 = ![0, caseOf (8 * k.val + 5), 0, 0] := by decide +kernel

theorem off8_4 : ∀ k : Fin k0_t2_loop.trips, k0_off8 k 4#32 = ![0, win (8 * k.val + 4)] := by decide +kernel

theorem off9_4 : ∀ k : Fin k0_t2_loop.trips, k0_off9 k 4#32 = ![256 * (8 * k.val + 4), 0] := by decide +kernel

theorem off5_5 : ∀ k : Fin k0_t2_loop.trips, k0_off5 k 5#32 = ![win (8 * k.val + 6), 0] := by decide +kernel

theorem off6_5 : ∀ k : Fin k0_t2_loop.trips, k0_off6 k 5#32 = ![256 * min (8 * k.val + 6) 31, 0] := by decide +kernel

theorem off7_5 : ∀ k : Fin k0_t2_loop.trips, k0_off7 k 5#32 = ![0, caseOf (8 * k.val + 6), 0, 0] := by decide +kernel

theorem off8_5 : ∀ k : Fin k0_t2_loop.trips, k0_off8 k 5#32 = ![0, win (8 * k.val + 5)] := by decide +kernel

theorem off9_5 : ∀ k : Fin k0_t2_loop.trips, k0_off9 k 5#32 = ![256 * (8 * k.val + 5), 0] := by decide +kernel

theorem off5_6 : ∀ k : Fin k0_t2_loop.trips, k0_off5 k 6#32 = ![win (8 * k.val + 7), 0] := by decide +kernel

theorem off6_6 : ∀ k : Fin k0_t2_loop.trips, k0_off6 k 6#32 = ![256 * min (8 * k.val + 7) 31, 0] := by decide +kernel

theorem off7_6 : ∀ k : Fin k0_t2_loop.trips, k0_off7 k 6#32 = ![0, caseOf (8 * k.val + 7), 0, 0] := by decide +kernel

theorem off8_6 : ∀ k : Fin k0_t2_loop.trips, k0_off8 k 6#32 = ![0, win (8 * k.val + 6)] := by decide +kernel

theorem off9_6 : ∀ k : Fin k0_t2_loop.trips, k0_off9 k 6#32 = ![256 * (8 * k.val + 6), 0] := by decide +kernel

theorem off5_7 : ∀ k : Fin k0_t2_loop.trips, k0_off5 k 7#32 = ![win (8 * k.val + 8), 0] := by decide +kernel

theorem off6_7 : ∀ k : Fin k0_t2_loop.trips, k0_off6 k 7#32 = ![256 * min (8 * k.val + 8) 31, 0] := by decide +kernel

theorem off7_7 : ∀ k : Fin k0_t2_loop.trips, k0_off7 k 7#32 = ![0, caseOf (8 * k.val + 8), 0, 0] := by decide +kernel

theorem off8_7 : ∀ k : Fin k0_t2_loop.trips, k0_off8 k 7#32 = ![0, win (8 * k.val + 7)] := by decide +kernel

theorem off9_7 : ∀ k : Fin k0_t2_loop.trips, k0_off9 k 7#32 = ![256 * (8 * k.val + 7), 0] := by decide +kernel

theorem off1_eq : ∀ k : Fin k0_t1_loop.trips, k0_off1 k = ![512 * min k.val 15, 0] := by decide +kernel

theorem off2_eq : ∀ k : Fin k0_t1_loop.trips, k0_off2 k = ![0, 512 * k.val] := by decide +kernel

theorem trip2_blocks (𝒱 : Variants) (c : Dev nD) (bd : Option 𝒱.V) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S1x3x768x256 .f32) (harg4 : arg4.IsWhole) (arg5 : Memref sig .tc .vmem S8192x128 .bf16) (harg5 : arg5.IsWhole) (arg6 : Memref sig .tc .vmem S144x8192 .bf16) (harg6 : arg6.IsWhole) (arg7 : Memref sig .tc .vmem S768x256 .f32) (harg7 : arg7.IsWhole) (arg8 : Memref sig .tc .vmem S768x256 .f32) (harg8 : arg8.IsWhole) (X1 : BufTy.Contents (Elt F) arg1.view.ty) (X2 : BufTy.Contents (Elt F) arg2.view.ty) (X4 : BufTy.Contents (Elt F) arg4.view.ty) (X6 : BufTy.Contents (Elt F) arg6.view.ty) (k : Fin k0_t2_loop.trips) (f5 : BufTy.Contents (Elt F) arg5.view.ty) (f7 : BufTy.Contents (Elt F) arg7.view.ty) (f8 : BufTy.Contents (Elt F) arg8.view.ty)
    (x0 x1 x2 : Vec F S8192x128 .bf16) (x3 : Vec F S1x3x768x256 .f32)
    (h1 : arg1.view.read (Elt F) X1 = x0) (h2 : arg2.view.read (Elt F) X2 = x1) (h4 : arg4.view.read (Elt F) X4 = x3) (h6 : arg6.view.read (Elt F) X6 = vtOf x2)
    (h7 : arg7.view.read (Elt F) f7 = SC x0 x1 x3 (8 * k.val)) :
    List.Forall₂ (IsBlk (outOf x0 x1 x2 x3)) (tripL_k0_t2 (F := F) 𝒱 c bd i arg1 harg1 arg2 harg2 arg3 harg3 arg4 harg4 arg5 harg5 arg6 harg6 arg7 harg7 arg8 harg8 X1 X2 X4 X6 k f5 f7 f8).1
      [8 * k.val + 7, 8 * k.val + 6, 8 * k.val + 5, 8 * k.val + 4, 8 * k.val + 3, 8 * k.val + 2, 8 * k.val + 1, 8 * k.val + 0] := by
  delta tripL_k0_t2 trip_k0_t2
  dsimp only
  sl_unfold_words
  refine .cons ?_ (.cons ?_ (.cons ?_ (.cons ?_ (.cons ?_ (.cons ?_ (.cons ?_ (.cons ?_ .nil)))))))
  · rw [pay21_eq]
    refine isBlk_of x0 x1 x2 x3 (8 * k.val + 7) _ (off9_7 k) _ _ ?_ (vt_ok arg6 X6 x2 h6 (8 * k.val + 7) _ (off8_7 k))
    rw [View.readCov_full, pay17_eq]
    exact (score_ok arg1 arg2 arg4 X1 X2 X4 x0 x1 x3 h1 h2 h4 (8 * k.val + 7) _ _ _ (off5_6 k) (off6_6 k) (off7_6 k))
  · rw [pay19_eq]
    refine isBlk_of x0 x1 x2 x3 (8 * k.val + 6) _ (off9_6 k) _ _ ?_ (vt_ok arg6 X6 x2 h6 (8 * k.val + 6) _ (off8_6 k))
    rw [View.readCov_full, pay15_eq]
    exact (score_ok arg1 arg2 arg4 X1 X2 X4 x0 x1 x3 h1 h2 h4 (8 * k.val + 6) _ _ _ (off5_5 k) (off6_5 k) (off7_5 k))
  · rw [pay16_eq]
    refine isBlk_of x0 x1 x2 x3 (8 * k.val + 5) _ (off9_5 k) _ _ ?_ (vt_ok arg6 X6 x2 h6 (8 * k.val + 5) _ (off8_5 k))
    rw [View.readCov_full, pay12_eq]
    exact (score_ok arg1 arg2 arg4 X1 X2 X4 x0 x1 x3 h1 h2 h4 (8 * k.val + 5) _ _ _ (off5_4 k) (off6_4 k) (off7_4 k))
  · rw [pay14_eq]
    refine isBlk_of x0 x1 x2 x3 (8 * k.val + 4) _ (off9_4 k) _ _ ?_ (vt_ok arg6 X6 x2 h6 (8 * k.val + 4) _ (off8_4 k))
    rw [View.readCov_full, pay10_eq]
    exact (score_ok arg1 arg2 arg4 X1 X2 X4 x0 x1 x3 h1 h2 h4 (8 * k.val + 4) _ _ _ (off5_3 k) (off6_3 k) (off7_3 k))
  · rw [pay11_eq]
    refine isBlk_of x0 x1 x2 x3 (8 * k.val + 3) _ (off9_3 k) _ _ ?_ (vt_ok arg6 X6 x2 h6 (8 * k.val + 3) _ (off8_3 k))
    rw [View.readCov_full, pay7_eq]
    exact (score_ok arg1 arg2 arg4 X1 X2 X4 x0 x1 x3 h1 h2 h4 (8 * k.val + 3) _ _ _ (off5_2 k) (off6_2 k) (off7_2 k))
  · rw [pay9_eq]
    refine isBlk_of x0 x1 x2 x3 (8 * k.val + 2) _ (off9_2 k) _ _ ?_ (vt_ok arg6 X6 x2 h6 (8 * k.val + 2) _ (off8_2 k))
    rw [View.readCov_full, pay5_eq]
    exact (score_ok arg1 arg2 arg4 X1 X2 X4 x0 x1 x3 h1 h2 h4 (8 * k.val + 2) _ _ _ (off5_1 k) (off6_1 k) (off7_1 k))
  · rw [pay6_eq]
    refine isBlk_of x0 x1 x2 x3 (8 * k.val + 1) _ (off9_1 k) _ _ ?_ (vt_ok arg6 X6 x2 h6 (8 * k.val + 1) _ (off8_1 k))
    rw [View.readCov_full]
    exact (score_ok arg1 arg2 arg4 X1 X2 X4 x0 x1 x3 h1 h2 h4 (8 * k.val + 1) _ _ _ (off5_0 k) (off6_0 k) (off7_0 k))
  · rw [pay4_eq]
    refine isBlk_of x0 x1 x2 x3 (8 * k.val + 0) _ (off9_0 k) _ _ ?_ (vt_ok arg6 X6 x2 h6 (8 * k.val + 0) _ (off8_0 k))
    rw [View.readAt_full]; exact h7

theorem trip2_scores (𝒱 : Variants) (c : Dev nD) (bd : Option 𝒱.V) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S1x3x768x256 .f32) (harg4 : arg4.IsWhole) (arg5 : Memref sig .tc .vmem S8192x128 .bf16) (harg5 : arg5.IsWhole) (arg6 : Memref sig .tc .vmem S144x8192 .bf16) (harg6 : arg6.IsWhole) (arg7 : Memref sig .tc .vmem S768x256 .f32) (harg7 : arg7.IsWhole) (arg8 : Memref sig .tc .vmem S768x256 .f32) (harg8 : arg8.IsWhole) (X1 : BufTy.Contents (Elt F) arg1.view.ty) (X2 : BufTy.Contents (Elt F) arg2.view.ty) (X4 : BufTy.Contents (Elt F) arg4.view.ty) (X6 : BufTy.Contents (Elt F) arg6.view.ty) (k : Fin k0_t2_loop.trips) (f5 : BufTy.Contents (Elt F) arg5.view.ty) (f7 : BufTy.Contents (Elt F) arg7.view.ty) (f8 : BufTy.Contents (Elt F) arg8.view.ty) (g : BufTy.Contents (Elt F) arg7.view.ty)
    (x0 x1 : Vec F S8192x128 .bf16) (x3 : Vec F S1x3x768x256 .f32)
    (h1 : arg1.view.read (Elt F) X1 = x0) (h2 : arg2.view.read (Elt F) X2 = x1) (h4 : arg4.view.read (Elt F) X4 = x3) :
    arg7.view.read (Elt F) (arg7.view.writes (Elt F) g (tripL_k0_t2 (F := F) 𝒱 c bd i arg1 harg1 arg2 harg2 arg3 harg3 arg4 harg4 arg5 harg5 arg6 harg6 arg7 harg7 arg8 harg8 X1 X2 X4 X6 k f5 f7 f8).2.1) = SC x0 x1 x3 (8 * k.val + 8) := by
  delta tripL_k0_t2 trip_k0_t2
  dsimp only
  sl_unfold_words
  rw [View.read_writes_full, pay20_eq]
  exact (score_ok arg1 arg2 arg4 X1 X2 X4 x0 x1 x3 h1 h2 h4 (8 * k.val + 8) _ _ _ (off5_7 k) (off6_7 k) (off7_7 k))

theorem trip1_cols (𝒱 : Variants) (c : Dev nD) (bd : Option 𝒱.V) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S1x3x768x256 .f32) (harg4 : arg4.IsWhole) (arg5 : Memref sig .tc .vmem S8192x128 .bf16) (harg5 : arg5.IsWhole) (arg6 : Memref sig .tc .vmem S144x8192 .bf16) (harg6 : arg6.IsWhole) (arg7 : Memref sig .tc .vmem S768x256 .f32) (harg7 : arg7.IsWhole) (arg8 : Memref sig .tc .vmem S768x256 .f32) (harg8 : arg8.IsWhole) (X3 : BufTy.Contents (Elt F) arg3.view.ty) (k : Fin k0_t1_loop.trips) (x2 : Vec F S8192x128 .bf16)
    (h3 : arg3.view.read (Elt F) X3 = x2) :
    List.Forall₂ (IsCol (vtOf x2)) (tripL_k0_t1 (F := F) 𝒱 c bd i arg1 harg1 arg2 harg2 arg3 harg3 arg4 harg4 arg5 harg5 arg6 harg6 arg7 harg7 arg8 harg8 X3 k) [k.val] := by
  delta tripL_k0_t1 trip_k0_t1
  dsimp only
  sl_unfold_words
  exact .cons (isCol_of x2 k.val _ (off2_eq k) _ (load_congr arg3 X3 x2 h3 _ (inbT k.val) (off1_eq k))) .nil

theorem pb1_cols (𝒱 : Variants) (c : Dev nD) (bd : Option 𝒱.V) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S1x3x768x256 .f32) (harg4 : arg4.IsWhole) (arg5 : Memref sig .tc .vmem S8192x128 .bf16) (harg5 : arg5.IsWhole) (arg6 : Memref sig .tc .vmem S144x8192 .bf16) (harg6 : arg6.IsWhole) (arg7 : Memref sig .tc .vmem S768x256 .f32) (harg7 : arg7.IsWhole) (arg8 : Memref sig .tc .vmem S768x256 .f32) (harg8 : arg8.IsWhole) (X3 : BufTy.Contents (Elt F) arg3.view.ty) (x2 : Vec F S8192x128 .bf16)
    (h3 : arg3.view.read (Elt F) X3 = x2) (n : ℕ) (hn : n ≤ k0_t1_loop.trips) :
    List.Forall₂ (IsCol (vtOf x2)) (pb_k0_t1 (F := F) 𝒱 c bd i arg1 harg1 arg2 harg2 arg3 harg3 arg4 harg4 arg5 harg5 arg6 harg6 arg7 harg7 arg8 harg8 X3 n) (down n) := by
  induction n with
  | zero => rw [pb_k0_t1.eq_1]; exact .nil
  | succ n ih =>
    have e := pb_k0_t1_succ (F := F) 𝒱 c bd i arg1 harg1 arg2 harg2 arg3 harg3 arg4 harg4 arg5 harg5 arg6 harg6 arg7 harg7 arg8 harg8 X3 ⟨n, hn⟩
    rw [show n + 1 = (⟨n, hn⟩ : Fin k0_t1_loop.trips).val + 1 from rfl, e]
    exact forall2_append (trip1_cols 𝒱 c bd i arg1 harg1 arg2 harg2 arg3 harg3 arg4 harg4 arg5 harg5 arg6 harg6 arg7 harg7 arg8 harg8 X3 ⟨n, hn⟩ x2 h3) (ih (Nat.le_of_succ_le hn))

theorem pb2_blocks (𝒱 : Variants) (c : Dev nD) (bd : Option 𝒱.V) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S1x3x768x256 .f32) (harg4 : arg4.IsWhole) (arg5 : Memref sig .tc .vmem S8192x128 .bf16) (harg5 : arg5.IsWhole) (arg6 : Memref sig .tc .vmem S144x8192 .bf16) (harg6 : arg6.IsWhole) (arg7 : Memref sig .tc .vmem S768x256 .f32) (harg7 : arg7.IsWhole) (arg8 : Memref sig .tc .vmem S768x256 .f32) (harg8 : arg8.IsWhole) (X1 : BufTy.Contents (Elt F) arg1.view.ty) (X2 : BufTy.Contents (Elt F) arg2.view.ty) (X4 : BufTy.Contents (Elt F) arg4.view.ty) (X6 : BufTy.Contents (Elt F) arg6.view.ty) (f5 : BufTy.Contents (Elt F) arg5.view.ty) (f7 : BufTy.Contents (Elt F) arg7.view.ty) (f8 : BufTy.Contents (Elt F) arg8.view.ty)
    (x0 x1 x2 : Vec F S8192x128 .bf16) (x3 : Vec F S1x3x768x256 .f32)
    (h1 : arg1.view.read (Elt F) X1 = x0) (h2 : arg2.view.read (Elt F) X2 = x1) (h4 : arg4.view.read (Elt F) X4 = x3) (h6 : arg6.view.read (Elt F) X6 = vtOf x2)
    (h7 : arg7.view.read (Elt F) f7 = SC x0 x1 x3 0) (n : ℕ) (hn : n ≤ k0_t2_loop.trips) :
    List.Forall₂ (IsBlk (outOf x0 x1 x2 x3)) (pb_k0_t2 (F := F) 𝒱 c bd i arg1 harg1 arg2 harg2 arg3 harg3 arg4 harg4 arg5 harg5 arg6 harg6 arg7 harg7 arg8 harg8 X1 X2 X4 X6 f5 f7 f8 n).1 (down (8 * n))
      ∧ arg7.view.read (Elt F) (arg7.view.writes (Elt F) f7 (pb_k0_t2 (F := F) 𝒱 c bd i arg1 harg1 arg2 harg2 arg3 harg3 arg4 harg4 arg5 harg5 arg6 harg6 arg7 harg7 arg8 harg8 X1 X2 X4 X6 f5 f7 f8 n).2.1) = SC x0 x1 x3 (8 * n) := by
  induction n with
  | zero => rw [pb_k0_t2.eq_1]; exact ⟨.nil, h7⟩
  | succ n ih =>
    obtain ⟨ih1, ih2⟩ := ih (Nat.le_of_succ_le hn)
    have e := pb_k0_t2_succ (F := F) 𝒱 c bd i arg1 harg1 arg2 harg2 arg3 harg3 arg4 harg4 arg5 harg5 arg6 harg6 arg7 harg7 arg8 harg8 X1 X2 X4 X6 f5 f7 f8 ⟨n, hn⟩
    rw [show n + 1 = (⟨n, hn⟩ : Fin k0_t2_loop.trips).val + 1 from rfl, e]
    refine ⟨?_, ?_⟩
    · exact forall2_append (trip2_blocks 𝒱 c bd i arg1 harg1 arg2 harg2 arg3 harg3 arg4 harg4 arg5 harg5 arg6 harg6 arg7 harg7 arg8 harg8 X1 X2 X4 X6 ⟨n, hn⟩ _ _ _ x0 x1 x2 x3 h1 h2 h4 h6 ih2) ih1
    · rw [View.writes_append]
      exact trip2_scores 𝒱 c bd i arg1 harg1 arg2 harg2 arg3 harg3 arg4 harg4 arg5 harg5 arg6 harg6 arg7 harg7 arg8 harg8 X1 X2 X4 X6 ⟨n, hn⟩ _ _ _ _ x0 x1 x3 h1 h2 h4

end Cert.NaIdeal.Hand

end
-- ==== Proof.NaIdealRun.lean ====
/- One run of the neighbourhood attention's body. -/
module

public import proofs.«01_k».proof.Proof.Gen.NaIdeal.Frame
public import proofs.«01_k».proof.Proof.Gen.NaIdeal.Loops
public import proofs.«01_k».proof.Proof.Gen.NaIdeal.Skeleton
public import Idealize.ShloMosaic.Lib.Pipeline.ValueKit
public import proofs.«01_k».proof.Proof.NaIdealBody
public import Idealize.ShloMosaic.Lib.Writes
public import Idealize.ShloMosaic.Lib.VecWindow

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- One run of the body over whole memrefs: the inputs stay, the output holds `outOf` of them. -/
theorem body_run (c : Dev nD) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S1x3x768x256 .f32) (harg4 : arg4.IsWhole) (arg5 : Memref sig .tc .vmem S8192x128 .bf16) (harg5 : arg5.IsWhole) (arg6 : Memref sig .tc .vmem S144x8192 .bf16) (harg6 : arg6.IsWhole) (arg7 : Memref sig .tc .vmem S768x256 .f32) (harg7 : arg7.IsWhole) (arg8 : Memref sig .tc .vmem S768x256 .f32) (harg8 : arg8.IsWhole)
    (x0 : Vec F S8192x128 .bf16) (x1 : Vec F S8192x128 .bf16) (x2 : Vec F S8192x128 .bf16) (x3 : Vec F S1x3x768x256 .f32)  (E : Set ℕ) (K : PUnit → sProp (MT nD τ sig Unit (Elt F) ℕ (UR sig nD τ) ℕ)) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outOf x0 x1 x2 x3) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_na_attn i arg1 harg1 arg2 harg2 arg3 harg3 arg4 harg4 arg5 harg5 arg6 harg6 arg7 harg7 arg8 harg8) K := by
  simp only [cc0_na_attn_eq_skeleton]; unfold cc0_na_attn_skel
  simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    have hr1 : arg1.view.read (Elt F) (harg1.unread x0) = x0 := harg1.read_unread x0
    have hr2 : arg2.view.read (Elt F) (harg2.unread x1) = x1 := harg2.read_unread x1
    have hr3 : arg3.view.read (Elt F) (harg3.unread x2) = x2 := harg3.read_unread x2
    have hr4 : arg4.view.read (Elt F) (harg4.unread x3) = x3 := harg4.read_unread x3
    sl_unfold_words
    have hc := pb1_cols (F := F) Variants.none c none i arg1 harg1 arg2 harg2 arg3 harg3 arg4 harg4 arg5 harg5 arg6 harg6 arg7 harg7 arg8 harg8 (harg3.unread x2) x2 hr3 k0_t1_loop.trips le_rfl
    rw [show down k0_t1_loop.trips = down 16 from congrArg down (by decide +kernel)] at hc
    have hv := read_vt arg6 fs0 x2 (o := ![128, 0]) inb_S144x8192_S16x8192_128_0 rfl _ hc
    have h0 : ∀ (g : BufTy.Contents (Elt F) arg7.view.ty), arg7.view.read (Elt F) g = SC x0 x1 x3 0 →
        _ := fun g hg => pb2_blocks (F := F) Variants.none c none i arg1 harg1 arg2 harg2 arg3 harg3 arg4 harg4 arg5 harg5 arg6 harg6 arg7 harg7 arg8 harg8 (harg1.unread x0) (harg2.unread x1) (harg4.unread x3) _ f4 g fs2 x0 x1 x2 x3 hr1 hr2 hr4 hv hg k0_t2_loop.trips le_rfl
    simp only [show 8 * k0_t2_loop.trips = 24 from by decide +kernel] at h0
    refine read_out arg5 _ _ _ (.cons ?_ (.cons ?_ (.cons ?_ (.cons ?_ (.cons ?_ (.cons ?_ (.cons ?_ (.cons ?_ ?_))))))))
    · refine isBlk_of x0 x1 x2 x3 31 _ (by decide +kernel) _ _ ?_ (vt_ok arg6 _ x2 hv 31 _ (by decide +kernel))
      rw [View.readCov_full, pay41_eq]
      exact (score_ok arg1 arg2 arg4 _ _ _ x0 x1 x3 hr1 hr2 hr4 31 _ _ _ (by decide +kernel) (by decide +kernel) (by decide +kernel))
    · rw [pay42_eq]
      refine isBlk_of x0 x1 x2 x3 30 _ (by decide +kernel) _ _ ?_ (vt_ok arg6 _ x2 hv 30 _ (by decide +kernel))
      rw [View.readCov_full, pay39_eq]
      exact (score_ok arg1 arg2 arg4 _ _ _ x0 x1 x3 hr1 hr2 hr4 30 _ _ _ (by decide +kernel) (by decide +kernel) (by decide +kernel))
    · rw [pay40_eq]
      refine isBlk_of x0 x1 x2 x3 29 _ (by decide +kernel) _ _ ?_ (vt_ok arg6 _ x2 hv 29 _ (by decide +kernel))
      rw [View.readCov_full, pay37_eq]
      exact (score_ok arg1 arg2 arg4 _ _ _ x0 x1 x3 hr1 hr2 hr4 29 _ _ _ (by decide +kernel) (by decide +kernel) (by decide +kernel))
    · rw [pay38_eq]
      refine isBlk_of x0 x1 x2 x3 28 _ (by decide +kernel) _ _ ?_ (vt_ok arg6 _ x2 hv 28 _ (by decide +kernel))
      rw [View.readCov_full, pay34_eq]
      exact (score_ok arg1 arg2 arg4 _ _ _ x0 x1 x3 hr1 hr2 hr4 28 _ _ _ (by decide +kernel) (by decide +kernel) (by decide +kernel))
    · rw [pay35_eq]
      refine isBlk_of x0 x1 x2 x3 27 _ (by decide +kernel) _ _ ?_ (vt_ok arg6 _ x2 hv 27 _ (by decide +kernel))
      rw [View.readCov_full, pay31_eq]
      exact (score_ok arg1 arg2 arg4 _ _ _ x0 x1 x3 hr1 hr2 hr4 27 _ _ _ (by decide +kernel) (by decide +kernel) (by decide +kernel))
    · rw [pay33_eq]
      refine isBlk_of x0 x1 x2 x3 26 _ (by decide +kernel) _ _ ?_ (vt_ok arg6 _ x2 hv 26 _ (by decide +kernel))
      rw [View.readCov_full, pay28_eq]
      exact (score_ok arg1 arg2 arg4 _ _ _ x0 x1 x3 hr1 hr2 hr4 26 _ _ _ (by decide +kernel) (by decide +kernel) (by decide +kernel))
    · rw [pay30_eq]
      refine isBlk_of x0 x1 x2 x3 25 _ (by decide +kernel) _ _ ?_ (vt_ok arg6 _ x2 hv 25 _ (by decide +kernel))
      rw [View.readCov_full, pay25_eq]
      exact (score_ok arg1 arg2 arg4 _ _ _ x0 x1 x3 hr1 hr2 hr4 25 _ _ _ (by decide +kernel) (by decide +kernel) (by decide +kernel))
    · rw [pay27_eq]
      refine isBlk_of x0 x1 x2 x3 24 _ (by decide +kernel) _ _ ?_ (vt_ok arg6 _ x2 hv 24 _ (by decide +kernel))
      refine (View.readAt_full arg7.view (arg7.view.writes (Elt F) arg7.view.junk _) _).trans ?_
      rw [View.writes_append]
      refine (h0 _ ?_).2
      rw [View.read_writes_full, pay24_eq]
      exact (score_ok arg1 arg2 arg4 _ _ _ x0 x1 x3 hr1 hr2 hr4 0 _ _ _ (by decide +kernel) (by decide +kernel) (by decide +kernel))
    · refine (h0 _ ?_).1
      rw [View.read_writes_full, pay24_eq]
      exact (score_ok arg1 arg2 arg4 _ _ _ x0 x1 x3 hr1 hr2 hr4 0 _ _ _ (by decide +kernel) (by decide +kernel) (by decide +kernel))
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.NaIdeal.Hand

end
-- ==== Proof.NaIdealFrame.lean ====
/- The neighbourhood attention's launch: the run of the whole program and its frame. -/
module

public import proofs.«01_k».proof.Proof.Gen.NaIdeal.Frame
public import proofs.«01_k».proof.Proof.Gen.NaIdeal.Loops
public import proofs.«01_k».proof.Proof.Gen.NaIdeal.Skeleton
public import proofs.«01_k».proof.Proof.NaIdealRun
public import Idealize.ShloMosaic.Lib.Pipeline.FrameBody
public import Idealize.ShloMosaic.Lib.Claim

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ### The staging buffers at a point, and the scratch buffers -/

abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x768x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x128 .bf16 := win0_4.stage (cfg0.slots t 4)
abbrev hs0_4 (t : Fin cfg0.N) : (ms0_4 t).IsWhole := hstage0_4 ((cfg0.slots t 4).cast nbuf0_4)
abbrev scM0_0 : Memref sig .tc .vmem S144x8192 .bf16 := Memref.whole cc0_scratch0
abbrev scM0_1 : Memref sig .tc .vmem S768x256 .f32 := Memref.whole cc0_scratch1
abbrev scM0_2 : Memref sig .tc .vmem S768x256 .f32 := Memref.whole cc0_scratch2

/-- The invariant between points: the three scratch buffers at some contents, and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ### What the buffers hold -/

/-- The output block after point `t`: `outOf` of the point's input blocks. -/
def outsAt0 (c : Dev nD) (t : Fin cfg0.N) : Vec F S8192x128 .bf16 :=
  outOf (iblk m c 0 t) (iblk m c 1 t) (iblk m c 2 t) (iblk m c 3 t)

/-- The inputs stay at their blocks, the output is left at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ### The body at a point -/

/-- What the body finds. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨⟨HS0, HS1, HS2⟩, Hg⟩, Ho, ⟨%d0, H0⟩, ⟨%d1, H1⟩, ⟨%d2, H2⟩, ⟨%d3, H3⟩, ⟨%d4, H4⟩⟩
  iapply (body_run c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- Every run ends, the arguments as launched and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-- The run with the result array named. -/
theorem run_blocks : θ_run defs (onTc (τ := τ) (main (F := F))) ⟨m, fun _ => 0, ρ⟩ fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 4,
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c)))⟩) (run_main m ρ)

end Cert.NaIdeal.Hand

end
-- ==== Proof.FfnMath.lean ====
/- The mathematics of one gated feed-forward layer over the extended reals, as functions of a row: the scaled
   root-mean-square normalisation, the hidden units, and the row the layer returns, written once with the hidden axis
   whole and once cut into 22 tiles of 256 units, the factor one half inside every unit. -/
module

public import Idealize.ShloMosaic.PureOps.Ideal
public import Idealize.ShloMosaic.Lib.Pointwise
public import Idealize.ShloMosaic.Lib.Pipeline.ValueKit

@[expose] public section

set_option maxRecDepth 16384

noncomputable section

namespace Cert.FfnMath

open Idealize.ShloMosaic

/-- The word of one half, as both programs write it. -/
abbrev half : EReal := Ideal.ofBits .f32 0x3F000000#32

theorem half_eq : half = (((1 : ℝ) / 2 : ℝ) : EReal) := by
  simp [half, Ideal.ofBits, Ideal.ieee, -EReal.coe_mul]; norm_num

/-- A row scaled by the reciprocal root of its mean square (plus the small constant) and by the gains `g`. -/
def rms (x g : Fin 2048 → EReal) (k : Fin 2048) : EReal :=
  x k * Ideal.rsqrt (Ideal.div (∑ l, x l * x l) (Ideal.ofBits .f32 0x45000000#32)
    + Ideal.ofBits .f32 0x358637BD#32) * g k

/-- One hidden unit: the gate's pre-activation through `a · logistic a`, times the linear branch. -/
def unit (h w u : Fin 2048 → EReal) : EReal :=
  (∑ k, h k * w k) * Ideal.logistic (∑ k, h k * w k) * ∑ k, h k * u k

/-- The hidden unit with one half multiplied into the pre-activation first. -/
def unitHalf (h w u : Fin 2048 → EReal) : EReal :=
  (half * ∑ k, h k * w k) * Ideal.logistic (∑ k, h k * w k) * ∑ k, h k * u k

theorem unitHalf_eq (h w u : Fin 2048 → EReal) : unitHalf h w u = half * unit h w u := by
  unfold unitHalf unit; simp only [mul_assoc]

/-- One entry of the layer's row: the residual plus half the down projection of the hidden units. -/
def row (x h : Fin 2048 → EReal) (w u : Fin 5632 → Fin 2048 → EReal) (d : Fin 5632 → Fin 2048 → EReal)
    (k : Fin 2048) : EReal :=
  x k + half * ∑ f, unit h (w f) (u f) * d f k

/-- The part of the down projection that the hidden units of tile `j` contribute. -/
def tile (h : Fin 2048 → EReal) (w u : Fin 5632 → Fin 2048 → EReal) (d : Fin 5632 → Fin 2048 → EReal)
    (k : Fin 2048) (j : Fin 22) : EReal :=
  ∑ f : Fin 256, unitHalf h (w ⟨j.val * 256 + f.val, by omega⟩) (u ⟨j.val * 256 + f.val, by omega⟩)
    * d ⟨j.val * 256 + f.val, by omega⟩ k

/-- One half goes through a finite sum of extended reals. -/
theorem half_mul_sum {n : ℕ} (f : Fin n → EReal) : half * ∑ i, f i = ∑ i, half * f i := by
  rw [half_eq]
  induction n with
  | zero => simp
  | succ n ih =>
    rw [Fin.sum_univ_succ, Fin.sum_univ_succ,
      EReal.left_distrib_of_nonneg_of_ne_top (by exact_mod_cast (by norm_num : (0 : ℝ) ≤ 1 / 2)) (EReal.coe_ne_top _),
      ih (fun i => f i.succ)]

/-- The residual plus the 22 tiles is the layer's row. -/
theorem row_eq_tiles (x h : Fin 2048 → EReal) (w u : Fin 5632 → Fin 2048 → EReal)
    (d : Fin 5632 → Fin 2048 → EReal) (k : Fin 2048) :
    x k + ∑ j : Fin 22, tile h w u d k j = row x h w u d k := by
  unfold row
  rw [half_mul_sum]
  refine congrArg (x k + ·) ?_
  rw [show (∑ f : Fin 5632, half * (unit h (w f) (u f) * d f k)) = ∑ j : Fin 22, ∑ t : Fin 256,
      half * (unit h (w ⟨j.val * 256 + t.val, by omega⟩) (u ⟨j.val * 256 + t.val, by omega⟩)
        * d ⟨j.val * 256 + t.val, by omega⟩ k) from
    Fin.sum_univ_tiles 22 256 rfl (fun f : Fin 5632 => half * (unit h (w f) (u f) * d f k))]
  refine Finset.sum_congr rfl fun j _ => Finset.sum_congr rfl fun f _ => ?_
  rw [unitHalf_eq, mul_assoc]

/-- A term that only a run's first point carries comes out of the run's sum. -/
theorem sum_first (a : EReal) (f : Fin 22 → EReal) :
    (∑ s : Fin 22, ((if s.val = 0 then a else 0) + f s)) = a + ∑ s, f s := by
  rw [Finset.sum_add_distrib, Finset.sum_eq_single (0 : Fin 22)]
  · rfl
  · intro s _ hs
    exact if_neg fun h => hs (Fin.ext h)
  · intro h; exact absurd (Finset.mem_univ _) h

end Cert.FfnMath

end
-- ==== Proof.FfnOddKernel.lean ====
/- What the second layer's feed-forward call (without the final norm) leaves in its result array: at every row and column the layer's row of `FfnMath`, read
   from the call's arguments. -/
module

public import proofs.«01_k».proof.Proof.FfnMath
public import proofs.«01_k».proof.Proof.Gen.FfnOddIdeal.Value
public import Idealize.ShloMosaic.Lib.Pointwise
public import Idealize.ShloMosaic.Lib.Pipeline.ValueKit
public import Idealize.ShloMosaic.Lib.Claim

@[expose] public section

set_option maxRecDepth 16384

noncomputable section

namespace Cert.FfnOddIdeal.Hand

open Cert.FfnOddIdeal Cert.FfnOddIdeal.Gen Cert.FfnMath Idealize.ShloMosaic Idealize.ShloMosaic.TcCoe Idealize.SL.Sem

/-- The body's first payload is the normalised row. -/
theorem norm_apply (x : FVec Ideal S1024x2048 .f32) (g : FVec Ideal S1x2048 .f32) (r : Fin 1024) (k : Fin 2048) :
    k0_pay1 (F := Ideal) x g (ix2 r k) = rms (fun l => x (ix2 r l)) (fun l => g (ix2 0 l)) k := by
  pointwise [k0_pay1, rms]

/-- The body's second payload adds one tile of hidden units to what the block held. -/
theorem step_apply (h : FVec Ideal S1024x2048 .bf16) (w u : FVec Ideal S1x2048x256 .f32)
    (o : FVec Ideal S1024x2048 .f32) (d : FVec Ideal S1x256x2048 .f32) (r : Fin 1024) (k : Fin 2048) :
    k0_pay2 (F := Ideal) h w u o d (ix2 r k) = o (ix2 r k)
      + ∑ f : Fin 256, unitHalf (fun l => h (ix2 r l)) (fun l => w (ix3 0 l f)) (fun l => u (ix3 0 l f)) * d (ix3 0 f k) := by
  pointwise [k0_pay2, unitHalf]

variable (m : (ℓ : Loc nD τ sig) → Buf (Elt Ideal) ℓ)

abbrev prev (c : Dev nD) (t : Fin cfg0.N) := outsAt0 m c (t.val - 1) (Nat.lt_of_le_of_lt (Nat.sub_le _ _) t.isLt)

/-- A run's first point: the block is the residual plus the first tile, the scratch the normalised rows. -/
theorem outs_first (c : Dev nD) (t : Fin cfg0.N) (h : t.val % 22 = 0) : outsAt0 m c t.val t.isLt =
    (k0_pay2 (k0_pay1 (iblk m c 0 t) (iblk m c 1 t)) (iblk m c 2 t) (iblk m c 3 t) (iblk m c 0 t) (iblk m c 4 t),
      k0_pay1 (iblk m c 0 t) (iblk m c 1 t)) := by
  rw [outsAt0_A m c t h]; refine Prod.ext ?_ ?_ <;> frame_out

/-- A later point: one more tile, the scratch untouched. -/
theorem outs_next (c : Dev nD) (t : Fin cfg0.N) (h : ¬t.val % 22 = 0) : outsAt0 m c t.val t.isLt =
    (k0_pay2 (prev m c t).2 (iblk m c 2 t) (iblk m c 3 t) (prev m c t).1 (iblk m c 4 t), (prev m c t).2) := by
  rw [outsAt0_B m c t h]; refine Prod.ext ?_ ?_
  · frame_out
    rw [(Memref.isWhole_whole _).read_unread]
  · unfold sout0_B_0
    rfl

/-- Where the blocks lie, decided once over the grid. -/
theorem idx : ∀ t : Fin cfg0.N,
    win0_0.index t (0 : Fin 2) = t.val / 22 ∧ win0_0.index t (1 : Fin 2) = 0
    ∧ win0_1.index t (0 : Fin 2) = 0 ∧ win0_1.index t (1 : Fin 2) = 0
    ∧ win0_2.index t (0 : Fin 3) = 1 ∧ win0_2.index t (1 : Fin 3) = 0 ∧ win0_2.index t (2 : Fin 3) = t.val % 22
    ∧ win0_3.index t (0 : Fin 3) = 1 ∧ win0_3.index t (1 : Fin 3) = 0 ∧ win0_3.index t (2 : Fin 3) = t.val % 22
    ∧ win0_4.index t (0 : Fin 3) = 1 ∧ win0_4.index t (1 : Fin 3) = t.val % 22 ∧ win0_4.index t (2 : Fin 3) = 0
    ∧ win0_6.index t (0 : Fin 2) = t.val / 22 ∧ win0_6.index t (1 : Fin 2) = 0 :=
  (by decide +kernel : ∀ t : Fin grid0.N, _)

abbrev X (c : Dev nD) : FVec Ideal S8192x2048 .f32 := m ((c : Thread nD τ).loc main_arg0)
abbrev G (c : Dev nD) : FVec Ideal S2x2048 .f32 := m ((c : Thread nD τ).loc main_arg1)
abbrev WG (c : Dev nD) : FVec Ideal S2x2048x5632 .f32 := m ((c : Thread nD τ).loc main_arg2)
abbrev WU (c : Dev nD) : FVec Ideal S2x2048x5632 .f32 := m ((c : Thread nD τ).loc main_arg3)
abbrev WD (c : Dev nD) : FVec Ideal S2x5632x2048 .f32 := m ((c : Thread nD τ).loc main_arg4)

theorem blk_x (c : Dev nD) (t : Fin cfg0.N) (r : Fin 1024) (k : Fin 2048) (hr : t.val / 22 * 1024 + r.val < 8192) :
    (show FVec Ideal S1024x2048 .f32 from iblk m c 0 t) (ix2 r k) = X m c (ix2 ⟨t.val / 22 * 1024 + r.val, hr⟩ k) := by
  blk_ext [iblk, V, idx t]

/-- The gains the call stages: the second row of the argument, which the host slices out. -/
theorem entry_g (c : Dev nD) (k : Fin 2048) :
    (show FVec Ideal S1x2048 .f32 from V m c main_v2) (ix2 0 k) = G m c (ix2 1 k) := by
  entry_read
  pointwise

theorem blk_g (c : Dev nD) (t : Fin cfg0.N) (k : Fin 2048) :
    (show FVec Ideal S1x2048 .f32 from iblk m c 1 t) (ix2 0 k) = G m c (ix2 1 k) := by
  rw [← entry_g m c k]
  blk_ext [iblk, idx t]

theorem blk_wg (c : Dev nD) (t : Fin cfg0.N) (l : Fin 2048) (f : Fin 256) (hf : t.val % 22 * 256 + f.val < 5632) :
    (show FVec Ideal S1x2048x256 .f32 from iblk m c 2 t) (ix3 0 l f) = WG m c (ix3 1 l ⟨t.val % 22 * 256 + f.val, hf⟩) := by
  blk_ext [iblk, V, idx t]

theorem blk_wu (c : Dev nD) (t : Fin cfg0.N) (l : Fin 2048) (f : Fin 256) (hf : t.val % 22 * 256 + f.val < 5632) :
    (show FVec Ideal S1x2048x256 .f32 from iblk m c 3 t) (ix3 0 l f) = WU m c (ix3 1 l ⟨t.val % 22 * 256 + f.val, hf⟩) := by
  blk_ext [iblk, V, idx t]

theorem blk_wd (c : Dev nD) (t : Fin cfg0.N) (f : Fin 256) (k : Fin 2048) (hf : t.val % 22 * 256 + f.val < 5632) :
    (show FVec Ideal S1x256x2048 .f32 from iblk m c 4 t) (ix3 0 f k) = WD m c (ix3 1 ⟨t.val % 22 * 256 + f.val, hf⟩ k) := by
  blk_ext [iblk, V, idx t]

/-- The row of the array that row `r` of point `t`'s block is. -/
abbrev rowOf (t : Fin cfg0.N) (r : Fin 1024) : Fin 8192 :=
  ⟨t.val / 22 * 1024 + r.val, by have := t.isLt; have hN : cfg0.N = 176 := N_0; have := r.isLt; omega⟩

/-- The normalised row `R` of the argument. -/
abbrev hRow (c : Dev nD) (R : Fin 8192) : Fin 2048 → EReal :=
  rms (fun l => X m c (ix2 R l)) (fun l => G m c (ix2 1 l))

theorem norm_blk (c : Dev nD) (t : Fin cfg0.N) (r : Fin 1024) (l : Fin 2048) :
    k0_pay1 (F := Ideal) (iblk m c 0 t) (iblk m c 1 t) (ix2 r l) = hRow m c (rowOf t r) l := by
  rw [norm_apply]
  exact congrArg₂ (fun a b => rms a b l) (funext fun k => blk_x m c t r k _) (funext fun k => blk_g m c t k)

/-- After every point the scratch holds the normalised rows of the point's block. -/
theorem scratch_eq (c : Dev nD) : ∀ (n : ℕ) (hn : n < cfg0.N) (r : Fin 1024) (l : Fin 2048),
    (outsAt0 m c n hn).2 (ix2 r l) = hRow m c (rowOf ⟨n, hn⟩ r) l := by
  intro n
  induction n with
  | zero =>
    intro hn r l
    rw [outs_first m c ⟨0, hn⟩ rfl]; exact norm_blk m c ⟨0, hn⟩ r l
  | succ n ih =>
    intro hn r l
    by_cases h : (n + 1) % 22 = 0
    · rw [outs_first m c ⟨n + 1, hn⟩ h]; exact norm_blk m c ⟨n + 1, hn⟩ r l
    · rw [outs_next m c ⟨n + 1, hn⟩ h]
      refine (ih (Nat.lt_of_succ_lt hn) r l).trans ?_
      refine congrArg (fun R => hRow m c R l) (Fin.ext ?_)
      show n / 22 * 1024 + r.val = (n + 1) / 22 * 1024 + r.val
      rw [show n / 22 = (n + 1) / 22 by omega]

/-- What point `t` adds to its block. -/
def part (c : Dev nD) (t : Fin cfg0.N) (i : S1024x2048.Idx) : EReal :=
  tile (hRow m c (rowOf t (i 0))) (fun f l => WG m c (ix3 1 l f)) (fun f l => WU m c (ix3 1 l f))
    (fun f k => WD m c (ix3 1 f k)) (i 1) ⟨t.val % 22, Nat.mod_lt _ (by decide)⟩

theorem step_blk (c : Dev nD) (t : Fin cfg0.N) (h : FVec Ideal S1024x2048 .bf16) (o : FVec Ideal S1024x2048 .f32)
    (r : Fin 1024) (k : Fin 2048) (hh : ∀ l, h (ix2 r l) = hRow m c (rowOf t r) l) :
    k0_pay2 (F := Ideal) h (iblk m c 2 t) (iblk m c 3 t) o (iblk m c 4 t) (ix2 r k)
      = o (ix2 r k) + part m c t (ix2 r k) := by
  rw [step_apply]
  refine congrArg (o (ix2 r k) + ·) ?_
  unfold part tile
  refine Finset.sum_congr rfl fun f _ => Ideal.mul_congr ?_ (blk_wd m c t f k _)
  rw [show (fun l => h (ix2 r l)) = hRow m c (rowOf t r) from funext hh,
    show (fun l => (show FVec Ideal S1x2048x256 .f32 from iblk m c 2 t) (ix3 0 l f)) = _ from
      funext fun l => blk_wg m c t l f (by have := Nat.mod_lt t.val (show 22 > 0 by decide); omega),
    show (fun l => (show FVec Ideal S1x2048x256 .f32 from iblk m c 3 t) (ix3 0 l f)) = _ from
      funext fun l => blk_wu m c t l f (by have := Nat.mod_lt t.val (show 22 > 0 by decide); omega)]
  rfl

/-- The layer's row, entry by entry, from the call's arguments. -/
def layer (c : Dev nD) (i : S8192x2048.Idx) : EReal :=
  row (fun l => X m c (ix2 (i 0) l)) (hRow m c (i 0)) (fun f l => WG m c (ix3 1 l f)) (fun f l => WU m c (ix3 1 l f))
    (fun f k => WD m c (ix3 1 f k)) (i 1)

/-- The residual entry that a run's first point stores before the tiles are added, and the point's tile. -/
def term (c : Dev nD) (t : Fin cfg0.N) (i : S1024x2048.Idx) : EReal :=
  (if t.val % 22 = 0 then X m c (ix2 (rowOf t (i 0)) (i 1)) else 0) + part m c t i

/-- The block as a run's last point leaves it. -/
theorem block_eq (c : Dev nD) (t : Fin cfg0.N) (hm : t.val % 22 = 21) (r : Fin 1024) (k : Fin 2048) :
    (outsAt0 m c t.val t.isLt).1 (ix2 r k) = layer m c (ix2 (rowOf t r) k) := by
  have key := Pipeline.eq_sum_fin_of_reset_step_apply_of_flush (M := EReal) (ι := S1024x2048.Idx)
    (fun n h => (outsAt0 m c n h).1) 22 (fun _ => 0) (term m c)
    (fun t h i => by
      idx_vars i
      rw [outs_first m c t h]
      refine (step_blk m c t _ _ i0 i1 (fun l => norm_blk m c t i0 l)).trans ?_
      unfold term
      rw [if_pos h, zero_add]
      exact congrArg (· + _) (blk_x m c t i0 i1 _))
    (fun t h i => by
      idx_vars i
      rw [outs_next m c t h]
      refine (step_blk m c t _ _ i0 i1 (fun l => ?_)).trans ?_
      · refine (scratch_eq m c _ _ i0 l).trans (congrArg (fun R => hRow m c R l) (Fin.ext ?_))
        show (t.val - 1) / 22 * 1024 + i0.val = t.val / 22 * 1024 + i0.val
        rw [show (t.val - 1) / 22 = t.val / 22 by omega]
      · unfold term
        rw [if_neg h, zero_add])
    t hm (ix2 r k)
  refine key.trans ?_
  rw [zero_add]
  unfold layer
  refine Eq.trans ?_ (row_eq_tiles _ _ _ _ _ _)
  refine Eq.trans ?_ (sum_first _ _)
  refine Finset.sum_congr rfl fun s _ => ?_
  have hq : (22 * (t.val / 22) + s.val) / 22 = t.val / 22 := by omega
  have hs : (22 * (t.val / 22) + s.val) % 22 = s.val := by omega
  have hR : rowOf ⟨22 * (t.val / 22) + s.val, Pipeline.run_point_lt_of_flush t hm s⟩ r = rowOf t r :=
    Fin.ext (by show (22 * (t.val / 22) + s.val) / 22 * 1024 + r.val = _; rw [hq])
  unfold term part
  refine congrArg₂ (· + ·) ?_ ?_
  · show (if (22 * (t.val / 22) + s.val) % 22 = 0 then X m c (ix2 (rowOf _ r) k) else 0) = _
    rw [hR, hs]
    rfl
  · show tile (hRow m c (rowOf _ r)) _ _ _ k ⟨(22 * (t.val / 22) + s.val) % 22, _⟩ = _
    rw [hR]
    exact congrArg _ (Fin.ext hs)

/-- The result array after the run. -/
theorem array_eq (c : Dev nD) : (dats m 0 c).arrAt 6 cfg0.N = layer m c := by
  refine (dats m 0 c).arrAt_eq_of_covers 6 _ (by decide +kernel) fun t hf y => ?_
  have hm : t.val % 22 = 21 := (flush0_6 t).mp hf
  have hN : t.val < 176 := lt_of_lt_of_eq t.isLt N_0
  blk_simp
  rw [after0_6]
  idx_vars y
  have e : ((View.whole main_v4).slice (win0_6.rect t)).emb (ix2 y0 y1) = ix2 (rowOf t y0) y1 := by
    blk_ext [idx t]
  rw [e]
  exact block_eq m c t hm y0 y1

end Cert.FfnOddIdeal.Hand

end
-- ==== Proof.FfnOddReference.lean ====
/- The second layer's feed-forward reference read at an index: the layer's row of `FfnMath`. -/
module

public import proofs.«01_k».proof.Proof.FfnMath
public import proofs.«01_k».proof.Proof.Gen.FfnOddRefIdeal.Run
public import Idealize.ShloMosaic.Lib.Pointwise
public import Idealize.ShloMosaic.Lib.Claim

@[expose] public section

set_option maxRecDepth 16384

noncomputable section

namespace Cert.FfnOddRefIdeal.Hand

open Cert.FfnOddRefIdeal Cert.FfnOddRefIdeal.Gen Cert.FfnMath Idealize.ShloMosaic Idealize.ShloMosaic.TcCoe Idealize.SL.Sem

/-- The normalised rows. -/
def normed (x : FVec Ideal S8192x2048 .f32) (g : FVec Ideal S2x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))

/-- The reference's term. -/
def term (x : FVec Ideal S8192x2048 .f32) (g : FVec Ideal S2x2048 .f32) (wg wu : FVec Ideal S2x2048x5632 .f32)
    (wd : FVec Ideal S2x5632x2048 .f32) : FVec Ideal S8192x2048 .f32 :=
  addf x (mulf (broadcastInDim S8192x2048 ![] bcast_S_S8192x2048 (constant S_ .f32 0x3F000000#32)) (Host.dotGeneral dot_S8192x5632_S5632x2048_S8192x2048_1_0_0_1_n_n none (mulf (mulf (Host.dotGeneral dot_S8192x2048_S2048x5632_S8192x5632_1_0_0_1_n_n none (normed x g) (shapeCast _ (extractStridedSlice S1x2048x5632 ![1, 0, 0] wg slices_S2x2048x5632_S1x2048x5632_1_0_0) shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (normed x g) (shapeCast _ (extractStridedSlice S1x2048x5632 ![1, 0, 0] wg slices_S2x2048x5632_S1x2048x5632_1_0_0) shapeCasts_S1x2048x5632_S2048x5632))))))) (Host.dotGeneral dot_S8192x2048_S2048x5632_S8192x5632_1_0_0_1_n_n none (normed x g) (shapeCast _ (extractStridedSlice S1x2048x5632 ![1, 0, 0] wu slices_S2x2048x5632_S1x2048x5632_1_0_0) shapeCasts_S1x2048x5632_S2048x5632))) (shapeCast _ (extractStridedSlice S1x5632x2048 ![1, 0, 0] wd slices_S2x5632x2048_S1x5632x2048_1_0_0) shapeCasts_S1x5632x2048_S5632x2048)))

theorem normed_apply (x : FVec Ideal S8192x2048 .f32) (g : FVec Ideal S2x2048 .f32) (r : Fin 8192) (k : Fin 2048) :
    normed x g (ix2 r k) = rms (fun l => x (ix2 r l)) (fun l => g (ix2 1 l)) k := by
  pointwise [normed, rms]

theorem term_apply (x : FVec Ideal S8192x2048 .f32) (g : FVec Ideal S2x2048 .f32) (wg wu : FVec Ideal S2x2048x5632 .f32)
    (wd : FVec Ideal S2x5632x2048 .f32) (r : Fin 8192) (k : Fin 2048) :
    term x g wg wu wd (ix2 r k) = row (fun l => x (ix2 r l)) (rms (fun l => x (ix2 r l)) (fun l => g (ix2 1 l)))
      (fun f l => wg (ix3 1 l f)) (fun f l => wu (ix3 1 l f)) (fun f k => wd (ix3 1 f k)) k := by
  pointwise [term, normed_apply, row, unit, Ideal.logistic]

end Cert.FfnOddRefIdeal.Hand

end
-- ==== Proof.FfnOddTie.lean ====
/- The second layer's feed-forward claim without the final norm: the reference's term is the array the call leaves. -/
module

public import proofs.«01_k».proof.Proof.FfnOddKernel
public import proofs.«01_k».proof.Proof.FfnOddReference

@[expose] public section

set_option maxRecDepth 16384

noncomputable section

namespace Cert.FfnOddTie

open Idealize.ShloMosaic Idealize.SL.Sem

theorem ffn (m : (ℓ : Loc Cert.FfnOddIdeal.nD Cert.FfnOddIdeal.τ Cert.FfnOddIdeal.sig) → Buf (Elt Ideal) ℓ)
    (m' : (ℓ : Loc Cert.FfnOddRefIdeal.nD Cert.FfnOddRefIdeal.τ Cert.FfnOddRefIdeal.sig) → Buf (Elt Ideal) ℓ) (c : Dev Cert.FfnOddIdeal.nD)
    (h0 : m' ((c.tc : Thread Cert.FfnOddRefIdeal.nD Cert.FfnOddRefIdeal.τ).loc Cert.FfnOddRefIdeal.main_arg0) = m ((c.tc : Thread Cert.FfnOddIdeal.nD Cert.FfnOddIdeal.τ).loc Cert.FfnOddIdeal.main_arg0))
    (h1 : m' ((c.tc : Thread Cert.FfnOddRefIdeal.nD Cert.FfnOddRefIdeal.τ).loc Cert.FfnOddRefIdeal.main_arg1) = m ((c.tc : Thread Cert.FfnOddIdeal.nD Cert.FfnOddIdeal.τ).loc Cert.FfnOddIdeal.main_arg1))
    (h2 : m' ((c.tc : Thread Cert.FfnOddRefIdeal.nD Cert.FfnOddRefIdeal.τ).loc Cert.FfnOddRefIdeal.main_arg2) = m ((c.tc : Thread Cert.FfnOddIdeal.nD Cert.FfnOddIdeal.τ).loc Cert.FfnOddIdeal.main_arg2))
    (h3 : m' ((c.tc : Thread Cert.FfnOddRefIdeal.nD Cert.FfnOddRefIdeal.τ).loc Cert.FfnOddRefIdeal.main_arg3) = m ((c.tc : Thread Cert.FfnOddIdeal.nD Cert.FfnOddIdeal.τ).loc Cert.FfnOddIdeal.main_arg3))
    (h4 : m' ((c.tc : Thread Cert.FfnOddRefIdeal.nD Cert.FfnOddRefIdeal.τ).loc Cert.FfnOddRefIdeal.main_arg4) = m ((c.tc : Thread Cert.FfnOddIdeal.nD Cert.FfnOddIdeal.τ).loc Cert.FfnOddIdeal.main_arg4)) :
    Cert.FfnOddRefIdeal.Hand.term (m' ((c.tc : Thread Cert.FfnOddRefIdeal.nD Cert.FfnOddRefIdeal.τ).loc Cert.FfnOddRefIdeal.main_arg0)) (m' ((c.tc : Thread Cert.FfnOddRefIdeal.nD Cert.FfnOddRefIdeal.τ).loc Cert.FfnOddRefIdeal.main_arg1)) (m' ((c.tc : Thread Cert.FfnOddRefIdeal.nD Cert.FfnOddRefIdeal.τ).loc Cert.FfnOddRefIdeal.main_arg2)) (m' ((c.tc : Thread Cert.FfnOddRefIdeal.nD Cert.FfnOddRefIdeal.τ).loc Cert.FfnOddRefIdeal.main_arg3)) (m' ((c.tc : Thread Cert.FfnOddRefIdeal.nD Cert.FfnOddRefIdeal.τ).loc Cert.FfnOddRefIdeal.main_arg4)) = Cert.FfnOddIdeal.Value.G6 m c := by
  rw [← Cert.FfnOddIdeal.Value.final6 m c]
  refine Eq.trans ?_ (Cert.FfnOddIdeal.Hand.array_eq m c).symm
  funext i
  obtain ⟨r, k, rfl⟩ : ∃ r k, i = ix2 r k := ⟨i 0, i 1, eq_ix2 i⟩
  rw [h0, h1, h2, h3, h4]
  exact Cert.FfnOddRefIdeal.Hand.term_apply _ _ _ _ _ r k

end Cert.FfnOddTie

end
-- ==== Proof.FfnKernel.lean ====
/- What the feed-forward call leaves in its result array: at every row and column the layer's row of `FfnMath`, read
   from the call's arguments. -/
module

public import proofs.«01_k».proof.Proof.FfnMath
public import proofs.«01_k».proof.Proof.Gen.FfnIdeal.Value
public import Idealize.ShloMosaic.Lib.Pointwise
public import Idealize.ShloMosaic.Lib.Pipeline.ValueKit
public import Idealize.ShloMosaic.Lib.Claim

@[expose] public section

set_option maxRecDepth 16384

noncomputable section

namespace Cert.FfnIdeal.Hand

open Cert.FfnIdeal Cert.FfnIdeal.Gen Cert.FfnMath Idealize.ShloMosaic Idealize.ShloMosaic.TcCoe Idealize.SL.Sem

/-- The body's first payload is the normalised row. -/
theorem norm_apply (x : FVec Ideal S1024x2048 .f32) (g : FVec Ideal S1x2048 .f32) (r : Fin 1024) (k : Fin 2048) :
    k0_pay1 (F := Ideal) x g (ix2 r k) = rms (fun l => x (ix2 r l)) (fun l => g (ix2 0 l)) k := by
  pointwise [k0_pay1, rms]

/-- The body's second payload adds one tile of hidden units to what the block held. -/
theorem step_apply (h : FVec Ideal S1024x2048 .bf16) (w u : FVec Ideal S1x2048x256 .f32)
    (o : FVec Ideal S1024x2048 .f32) (d : FVec Ideal S1x256x2048 .f32) (r : Fin 1024) (k : Fin 2048) :
    k0_pay2 (F := Ideal) h w u o d (ix2 r k) = o (ix2 r k)
      + ∑ f : Fin 256, unitHalf (fun l => h (ix2 r l)) (fun l => w (ix3 0 l f)) (fun l => u (ix3 0 l f)) * d (ix3 0 f k) := by
  pointwise [k0_pay2, unitHalf]

variable (m : (ℓ : Loc nD τ sig) → Buf (Elt Ideal) ℓ)

abbrev prev (c : Dev nD) (t : Fin cfg0.N) := outsAt0 m c (t.val - 1) (Nat.lt_of_le_of_lt (Nat.sub_le _ _) t.isLt)

/-- A run's first point: the block is the residual plus the first tile, the scratch the normalised rows. -/
theorem outs_first (c : Dev nD) (t : Fin cfg0.N) (h : t.val % 22 = 0) : outsAt0 m c t.val t.isLt =
    (k0_pay2 (k0_pay1 (iblk m c 0 t) (iblk m c 1 t)) (iblk m c 2 t) (iblk m c 3 t) (iblk m c 0 t) (iblk m c 4 t),
      k0_pay1 (iblk m c 0 t) (iblk m c 1 t)) := by
  rw [outsAt0_A m c t h]; refine Prod.ext ?_ ?_ <;> frame_out

/-- A later point: one more tile, the scratch untouched. -/
theorem outs_next (c : Dev nD) (t : Fin cfg0.N) (h : ¬t.val % 22 = 0) : outsAt0 m c t.val t.isLt =
    (k0_pay2 (prev m c t).2 (iblk m c 2 t) (iblk m c 3 t) (prev m c t).1 (iblk m c 4 t), (prev m c t).2) := by
  rw [outsAt0_B m c t h]; refine Prod.ext ?_ ?_
  · frame_out
    rw [(Memref.isWhole_whole _).read_unread]
  · unfold sout0_B_0
    rfl

/-- Where the blocks lie, decided once over the grid. -/
theorem idx : ∀ t : Fin cfg0.N,
    win0_0.index t (0 : Fin 2) = t.val / 22 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 22
    ∧ win0_3.index t (0 : Fin 3) = 0 ∧ win0_3.index t (1 : Fin 3) = 0 ∧ win0_3.index t (2 : Fin 3) = t.val % 22
    ∧ win0_4.index t (0 : Fin 3) = 0 ∧ win0_4.index t (1 : Fin 3) = t.val % 22 ∧ win0_4.index t (2 : Fin 3) = 0
    ∧ win0_6.index t (0 : Fin 2) = t.val / 22 ∧ win0_6.index t (1 : Fin 2) = 0 :=
  (by decide +kernel : ∀ t : Fin grid0.N, _)

abbrev X (c : Dev nD) : FVec Ideal S8192x2048 .f32 := m ((c : Thread nD τ).loc main_arg0)
abbrev G (c : Dev nD) : FVec Ideal S2x2048 .f32 := m ((c : Thread nD τ).loc main_arg1)
abbrev WG (c : Dev nD) : FVec Ideal S2x2048x5632 .f32 := m ((c : Thread nD τ).loc main_arg2)
abbrev WU (c : Dev nD) : FVec Ideal S2x2048x5632 .f32 := m ((c : Thread nD τ).loc main_arg3)
abbrev WD (c : Dev nD) : FVec Ideal S2x5632x2048 .f32 := m ((c : Thread nD τ).loc main_arg4)

theorem blk_x (c : Dev nD) (t : Fin cfg0.N) (r : Fin 1024) (k : Fin 2048) (hr : t.val / 22 * 1024 + r.val < 8192) :
    (show FVec Ideal S1024x2048 .f32 from iblk m c 0 t) (ix2 r k) = X m c (ix2 ⟨t.val / 22 * 1024 + r.val, hr⟩ k) := by
  blk_ext [iblk, V, idx t]

/-- The gains the call stages: the first row of the argument, which the host slices out. -/
theorem entry_g (c : Dev nD) (k : Fin 2048) :
    (show FVec Ideal S1x2048 .f32 from V m c main_v2) (ix2 0 k) = G m c (ix2 0 k) := by
  entry_read
  pointwise

theorem blk_g (c : Dev nD) (t : Fin cfg0.N) (k : Fin 2048) :
    (show FVec Ideal S1x2048 .f32 from iblk m c 1 t) (ix2 0 k) = G m c (ix2 0 k) := by
  rw [← entry_g m c k]
  blk_ext [iblk, idx t]

theorem blk_wg (c : Dev nD) (t : Fin cfg0.N) (l : Fin 2048) (f : Fin 256) (hf : t.val % 22 * 256 + f.val < 5632) :
    (show FVec Ideal S1x2048x256 .f32 from iblk m c 2 t) (ix3 0 l f) = WG m c (ix3 0 l ⟨t.val % 22 * 256 + f.val, hf⟩) := by
  blk_ext [iblk, V, idx t]

theorem blk_wu (c : Dev nD) (t : Fin cfg0.N) (l : Fin 2048) (f : Fin 256) (hf : t.val % 22 * 256 + f.val < 5632) :
    (show FVec Ideal S1x2048x256 .f32 from iblk m c 3 t) (ix3 0 l f) = WU m c (ix3 0 l ⟨t.val % 22 * 256 + f.val, hf⟩) := by
  blk_ext [iblk, V, idx t]

theorem blk_wd (c : Dev nD) (t : Fin cfg0.N) (f : Fin 256) (k : Fin 2048) (hf : t.val % 22 * 256 + f.val < 5632) :
    (show FVec Ideal S1x256x2048 .f32 from iblk m c 4 t) (ix3 0 f k) = WD m c (ix3 0 ⟨t.val % 22 * 256 + f.val, hf⟩ k) := by
  blk_ext [iblk, V, idx t]

/-- The row of the array that row `r` of point `t`'s block is. -/
abbrev rowOf (t : Fin cfg0.N) (r : Fin 1024) : Fin 8192 :=
  ⟨t.val / 22 * 1024 + r.val, by have := t.isLt; have hN : cfg0.N = 176 := N_0; have := r.isLt; omega⟩

/-- The normalised row `R` of the argument. -/
abbrev hRow (c : Dev nD) (R : Fin 8192) : Fin 2048 → EReal :=
  rms (fun l => X m c (ix2 R l)) (fun l => G m c (ix2 0 l))

theorem norm_blk (c : Dev nD) (t : Fin cfg0.N) (r : Fin 1024) (l : Fin 2048) :
    k0_pay1 (F := Ideal) (iblk m c 0 t) (iblk m c 1 t) (ix2 r l) = hRow m c (rowOf t r) l := by
  rw [norm_apply]
  exact congrArg₂ (fun a b => rms a b l) (funext fun k => blk_x m c t r k _) (funext fun k => blk_g m c t k)

/-- After every point the scratch holds the normalised rows of the point's block. -/
theorem scratch_eq (c : Dev nD) : ∀ (n : ℕ) (hn : n < cfg0.N) (r : Fin 1024) (l : Fin 2048),
    (outsAt0 m c n hn).2 (ix2 r l) = hRow m c (rowOf ⟨n, hn⟩ r) l := by
  intro n
  induction n with
  | zero =>
    intro hn r l
    rw [outs_first m c ⟨0, hn⟩ rfl]; exact norm_blk m c ⟨0, hn⟩ r l
  | succ n ih =>
    intro hn r l
    by_cases h : (n + 1) % 22 = 0
    · rw [outs_first m c ⟨n + 1, hn⟩ h]; exact norm_blk m c ⟨n + 1, hn⟩ r l
    · rw [outs_next m c ⟨n + 1, hn⟩ h]
      refine (ih (Nat.lt_of_succ_lt hn) r l).trans ?_
      refine congrArg (fun R => hRow m c R l) (Fin.ext ?_)
      show n / 22 * 1024 + r.val = (n + 1) / 22 * 1024 + r.val
      rw [show n / 22 = (n + 1) / 22 by omega]

/-- What point `t` adds to its block. -/
def part (c : Dev nD) (t : Fin cfg0.N) (i : S1024x2048.Idx) : EReal :=
  tile (hRow m c (rowOf t (i 0))) (fun f l => WG m c (ix3 0 l f)) (fun f l => WU m c (ix3 0 l f))
    (fun f k => WD m c (ix3 0 f k)) (i 1) ⟨t.val % 22, Nat.mod_lt _ (by decide)⟩

theorem step_blk (c : Dev nD) (t : Fin cfg0.N) (h : FVec Ideal S1024x2048 .bf16) (o : FVec Ideal S1024x2048 .f32)
    (r : Fin 1024) (k : Fin 2048) (hh : ∀ l, h (ix2 r l) = hRow m c (rowOf t r) l) :
    k0_pay2 (F := Ideal) h (iblk m c 2 t) (iblk m c 3 t) o (iblk m c 4 t) (ix2 r k)
      = o (ix2 r k) + part m c t (ix2 r k) := by
  rw [step_apply]
  refine congrArg (o (ix2 r k) + ·) ?_
  unfold part tile
  refine Finset.sum_congr rfl fun f _ => Ideal.mul_congr ?_ (blk_wd m c t f k _)
  rw [show (fun l => h (ix2 r l)) = hRow m c (rowOf t r) from funext hh,
    show (fun l => (show FVec Ideal S1x2048x256 .f32 from iblk m c 2 t) (ix3 0 l f)) = _ from
      funext fun l => blk_wg m c t l f (by have := Nat.mod_lt t.val (show 22 > 0 by decide); omega),
    show (fun l => (show FVec Ideal S1x2048x256 .f32 from iblk m c 3 t) (ix3 0 l f)) = _ from
      funext fun l => blk_wu m c t l f (by have := Nat.mod_lt t.val (show 22 > 0 by decide); omega)]
  rfl

/-- The layer's row, entry by entry, from the call's arguments. -/
def layer (c : Dev nD) (i : S8192x2048.Idx) : EReal :=
  row (fun l => X m c (ix2 (i 0) l)) (hRow m c (i 0)) (fun f l => WG m c (ix3 0 l f)) (fun f l => WU m c (ix3 0 l f))
    (fun f k => WD m c (ix3 0 f k)) (i 1)

/-- The residual entry that a run's first point stores before the tiles are added, and the point's tile. -/
def term (c : Dev nD) (t : Fin cfg0.N) (i : S1024x2048.Idx) : EReal :=
  (if t.val % 22 = 0 then X m c (ix2 (rowOf t (i 0)) (i 1)) else 0) + part m c t i

/-- The block as a run's last point leaves it. -/
theorem block_eq (c : Dev nD) (t : Fin cfg0.N) (hm : t.val % 22 = 21) (r : Fin 1024) (k : Fin 2048) :
    (outsAt0 m c t.val t.isLt).1 (ix2 r k) = layer m c (ix2 (rowOf t r) k) := by
  have key := Pipeline.eq_sum_fin_of_reset_step_apply_of_flush (M := EReal) (ι := S1024x2048.Idx)
    (fun n h => (outsAt0 m c n h).1) 22 (fun _ => 0) (term m c)
    (fun t h i => by
      idx_vars i
      rw [outs_first m c t h]
      refine (step_blk m c t _ _ i0 i1 (fun l => norm_blk m c t i0 l)).trans ?_
      unfold term
      rw [if_pos h, zero_add]
      exact congrArg (· + _) (blk_x m c t i0 i1 _))
    (fun t h i => by
      idx_vars i
      rw [outs_next m c t h]
      refine (step_blk m c t _ _ i0 i1 (fun l => ?_)).trans ?_
      · refine (scratch_eq m c _ _ i0 l).trans (congrArg (fun R => hRow m c R l) (Fin.ext ?_))
        show (t.val - 1) / 22 * 1024 + i0.val = t.val / 22 * 1024 + i0.val
        rw [show (t.val - 1) / 22 = t.val / 22 by omega]
      · unfold term
        rw [if_neg h, zero_add])
    t hm (ix2 r k)
  refine key.trans ?_
  rw [zero_add]
  unfold layer
  refine Eq.trans ?_ (row_eq_tiles _ _ _ _ _ _)
  refine Eq.trans ?_ (sum_first _ _)
  refine Finset.sum_congr rfl fun s _ => ?_
  have hq : (22 * (t.val / 22) + s.val) / 22 = t.val / 22 := by omega
  have hs : (22 * (t.val / 22) + s.val) % 22 = s.val := by omega
  have hR : rowOf ⟨22 * (t.val / 22) + s.val, Pipeline.run_point_lt_of_flush t hm s⟩ r = rowOf t r :=
    Fin.ext (by show (22 * (t.val / 22) + s.val) / 22 * 1024 + r.val = _; rw [hq])
  unfold term part
  refine congrArg₂ (· + ·) ?_ ?_
  · show (if (22 * (t.val / 22) + s.val) % 22 = 0 then X m c (ix2 (rowOf _ r) k) else 0) = _
    rw [hR, hs]
    rfl
  · show tile (hRow m c (rowOf _ r)) _ _ _ k ⟨(22 * (t.val / 22) + s.val) % 22, _⟩ = _
    rw [hR]
    exact congrArg _ (Fin.ext hs)

/-- The result array after the run. -/
theorem array_eq (c : Dev nD) : (dats m 0 c).arrAt 6 cfg0.N = layer m c := by
  refine (dats m 0 c).arrAt_eq_of_covers 6 _ (by decide +kernel) fun t hf y => ?_
  have hm : t.val % 22 = 21 := (flush0_6 t).mp hf
  have hN : t.val < 176 := lt_of_lt_of_eq t.isLt N_0
  blk_simp
  rw [after0_6]
  idx_vars y
  have e : ((View.whole main_v4).slice (win0_6.rect t)).emb (ix2 y0 y1) = ix2 (rowOf t y0) y1 := by
    blk_ext [idx t]
  rw [e]
  exact block_eq m c t hm y0 y1

end Cert.FfnIdeal.Hand

end
-- ==== Proof.FfnReference.lean ====
/- The feed-forward reference read at an index: the layer's row of `FfnMath`. -/
module

public import proofs.«01_k».proof.Proof.FfnMath
public import proofs.«01_k».proof.Proof.Gen.FfnRefIdeal.Run
public import Idealize.ShloMosaic.Lib.Pointwise
public import Idealize.ShloMosaic.Lib.Claim

@[expose] public section

set_option maxRecDepth 16384

noncomputable section

namespace Cert.FfnRefIdeal.Hand

open Cert.FfnRefIdeal Cert.FfnRefIdeal.Gen Cert.FfnMath Idealize.ShloMosaic Idealize.ShloMosaic.TcCoe Idealize.SL.Sem

/-- The normalised rows. -/
def normed (x : FVec Ideal S8192x2048 .f32) (g : FVec Ideal S2x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S2x2048_S1x2048_0_0) shapeCasts_S1x2048_S2048)))

/-- The reference's term. -/
def term (x : FVec Ideal S8192x2048 .f32) (g : FVec Ideal S2x2048 .f32) (wg wu : FVec Ideal S2x2048x5632 .f32)
    (wd : FVec Ideal S2x5632x2048 .f32) : FVec Ideal S8192x2048 .f32 :=
  addf x (mulf (broadcastInDim S8192x2048 ![] bcast_S_S8192x2048 (constant S_ .f32 0x3F000000#32)) (Host.dotGeneral dot_S8192x5632_S5632x2048_S8192x2048_1_0_0_1_n_n none (mulf (mulf (Host.dotGeneral dot_S8192x2048_S2048x5632_S8192x5632_1_0_0_1_n_n none (normed x g) (shapeCast _ (extractStridedSlice S1x2048x5632 ![0, 0, 0] wg slices_S2x2048x5632_S1x2048x5632_0_0_0) shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (normed x g) (shapeCast _ (extractStridedSlice S1x2048x5632 ![0, 0, 0] wg slices_S2x2048x5632_S1x2048x5632_0_0_0) shapeCasts_S1x2048x5632_S2048x5632))))))) (Host.dotGeneral dot_S8192x2048_S2048x5632_S8192x5632_1_0_0_1_n_n none (normed x g) (shapeCast _ (extractStridedSlice S1x2048x5632 ![0, 0, 0] wu slices_S2x2048x5632_S1x2048x5632_0_0_0) shapeCasts_S1x2048x5632_S2048x5632))) (shapeCast _ (extractStridedSlice S1x5632x2048 ![0, 0, 0] wd slices_S2x5632x2048_S1x5632x2048_0_0_0) shapeCasts_S1x5632x2048_S5632x2048)))

theorem normed_apply (x : FVec Ideal S8192x2048 .f32) (g : FVec Ideal S2x2048 .f32) (r : Fin 8192) (k : Fin 2048) :
    normed x g (ix2 r k) = rms (fun l => x (ix2 r l)) (fun l => g (ix2 0 l)) k := by
  pointwise [normed, rms]

theorem term_apply (x : FVec Ideal S8192x2048 .f32) (g : FVec Ideal S2x2048 .f32) (wg wu : FVec Ideal S2x2048x5632 .f32)
    (wd : FVec Ideal S2x5632x2048 .f32) (r : Fin 8192) (k : Fin 2048) :
    term x g wg wu wd (ix2 r k) = row (fun l => x (ix2 r l)) (rms (fun l => x (ix2 r l)) (fun l => g (ix2 0 l)))
      (fun f l => wg (ix3 0 l f)) (fun f l => wu (ix3 0 l f)) (fun f k => wd (ix3 0 f k)) k := by
  pointwise [term, normed_apply, row, unit, Ideal.logistic]

end Cert.FfnRefIdeal.Hand

end
-- ==== Proof.FfnLastKernel.lean ====
/- What the last feed-forward call leaves in its result array: at every row and column the layer's row of `FfnMath`
   with the second layer's weights, normalised by the final gains. -/
module

public import proofs.«01_k».proof.Proof.FfnMath
public import proofs.«01_k».proof.Proof.Gen.FfnLastIdeal.Value
public import Idealize.ShloMosaic.Lib.Pointwise
public import Idealize.ShloMosaic.Lib.Pipeline.ValueKit
public import Idealize.ShloMosaic.Lib.Claim

@[expose] public section

set_option maxRecDepth 16384

noncomputable section

namespace Cert.FfnLastIdeal.Hand

open Cert.FfnLastIdeal Cert.FfnLastIdeal.Gen Cert.FfnMath Idealize.ShloMosaic Idealize.ShloMosaic.TcCoe Idealize.SL.Sem

/-- The body's first payload is the normalised row. -/
theorem norm_apply (x : FVec Ideal S1024x2048 .f32) (g : FVec Ideal S1x2048 .f32) (r : Fin 1024) (k : Fin 2048) :
    k0_pay1 (F := Ideal) x g (ix2 r k) = rms (fun l => x (ix2 r l)) (fun l => g (ix2 0 l)) k := by
  pointwise [k0_pay1, rms]

/-- The body's second payload adds one tile of hidden units to what the block held. -/
theorem step_apply (h : FVec Ideal S1024x2048 .bf16) (w u : FVec Ideal S1x2048x256 .f32)
    (o : FVec Ideal S1024x2048 .f32) (d : FVec Ideal S1x256x2048 .f32) (r : Fin 1024) (k : Fin 2048) :
    k0_pay2 (F := Ideal) h w u o d (ix2 r k) = o (ix2 r k)
      + ∑ f : Fin 256, unitHalf (fun l => h (ix2 r l)) (fun l => w (ix3 0 l f)) (fun l => u (ix3 0 l f)) * d (ix3 0 f k) := by
  pointwise [k0_pay2, unitHalf]

/-- The body's third payload normalises the finished row. -/
theorem final_apply (x : FVec Ideal S1024x2048 .f32) (g : FVec Ideal S1x2048 .f32) (r : Fin 1024) (k : Fin 2048) :
    k0_pay3 (F := Ideal) x g (ix2 r k) = rms (fun l => x (ix2 r l)) (fun l => g (ix2 0 l)) k := by
  pointwise [k0_pay3, rms]

variable (m : (ℓ : Loc nD τ sig) → Buf (Elt Ideal) ℓ)

abbrev prev (c : Dev nD) (t : Fin cfg0.N) := outsAt0 m c (t.val - 1) (Nat.lt_of_le_of_lt (Nat.sub_le _ _) t.isLt)

/-- The block with the point's tile added, before any final normalisation. -/
def summed (c : Dev nD) (n : ℕ) (h : n < cfg0.N) : FVec Ideal S1024x2048 .f32 :=
  if n % 22 = 0 then
    k0_pay2 (k0_pay1 (iblk m c 0 ⟨n, h⟩) (iblk m c 1 ⟨n, h⟩)) (iblk m c 2 ⟨n, h⟩) (iblk m c 3 ⟨n, h⟩) (iblk m c 0 ⟨n, h⟩)
      (iblk m c 4 ⟨n, h⟩)
  else k0_pay2 (prev m c ⟨n, h⟩).2 (iblk m c 2 ⟨n, h⟩) (iblk m c 3 ⟨n, h⟩) (prev m c ⟨n, h⟩).1 (iblk m c 4 ⟨n, h⟩)

/-- A run's first point: the block is the residual plus the first tile, the scratch the normalised rows. -/
theorem outs_first (c : Dev nD) (t : Fin cfg0.N) (h : t.val % 22 = 0) : outsAt0 m c t.val t.isLt =
    (summed m c t.val t.isLt, k0_pay1 (iblk m c 0 t) (iblk m c 1 t)) := by
  rw [outsAt0_A m c t h (by omega)]; unfold summed; rw [if_pos h]; refine Prod.ext ?_ ?_ <;> frame_out

/-- A later point but the run's last: one more tile, the scratch untouched. -/
theorem outs_next (c : Dev nD) (t : Fin cfg0.N) (h : ¬t.val % 22 = 0) (h' : ¬t.val % 22 = 21) :
    outsAt0 m c t.val t.isLt = (summed m c t.val t.isLt, (prev m c t).2) := by
  rw [outsAt0_B m c t h h']; unfold summed; rw [if_neg h]; refine Prod.ext ?_ ?_
  · frame_out
    rw [(Memref.isWhole_whole _).read_unread]
  · unfold sout0_B_0
    rfl

/-- A run's last point: the last tile, then the final normalisation. -/
theorem outs_last (c : Dev nD) (t : Fin cfg0.N) (h' : t.val % 22 = 21) :
    outsAt0 m c t.val t.isLt = (k0_pay3 (summed m c t.val t.isLt) (iblk m c 5 t), (prev m c t).2) := by
  rw [outsAt0_C m c t (by omega) h']; unfold summed; rw [if_neg (by omega)]; refine Prod.ext ?_ ?_
  · frame_out
    rw [(Memref.isWhole_whole _).read_unread]
  · unfold sout0_C_0
    rfl

/-- Every point but a run's first leaves the scratch untouched. -/
theorem scratch_next (c : Dev nD) (t : Fin cfg0.N) (h : ¬t.val % 22 = 0) :
    (outsAt0 m c t.val t.isLt).2 = (prev m c t).2 := by
  by_cases h' : t.val % 22 = 21
  · rw [outs_last m c t h']
  · rw [outs_next m c t h h']

/-- Every point but a run's last leaves the running block as summed. -/
theorem summed_eq (c : Dev nD) (t : Fin cfg0.N) (h' : ¬t.val % 22 = 21) :
    (outsAt0 m c t.val t.isLt).1 = summed m c t.val t.isLt := by
  by_cases h : t.val % 22 = 0
  · rw [outs_first m c t h]
  · rw [outs_next m c t h h']

/-- Where the blocks lie, decided once over the grid. -/
theorem idx : ∀ t : Fin cfg0.N,
    win0_0.index t (0 : Fin 2) = t.val / 22 ∧ win0_0.index t (1 : Fin 2) = 0
    ∧ win0_1.index t (0 : Fin 2) = 0 ∧ win0_1.index t (1 : Fin 2) = 0
    ∧ win0_2.index t (0 : Fin 3) = 1 ∧ win0_2.index t (1 : Fin 3) = 0 ∧ win0_2.index t (2 : Fin 3) = t.val % 22
    ∧ win0_3.index t (0 : Fin 3) = 1 ∧ win0_3.index t (1 : Fin 3) = 0 ∧ win0_3.index t (2 : Fin 3) = t.val % 22
    ∧ win0_4.index t (0 : Fin 3) = 1 ∧ win0_4.index t (1 : Fin 3) = t.val % 22 ∧ win0_4.index t (2 : Fin 3) = 0
    ∧ win0_5.index t (0 : Fin 2) = 0 ∧ win0_5.index t (1 : Fin 2) = 0
    ∧ win0_6.index t (0 : Fin 2) = t.val / 22 ∧ win0_6.index t (1 : Fin 2) = 0 :=
  (by decide +kernel : ∀ t : Fin grid0.N, _)

abbrev X (c : Dev nD) : FVec Ideal S8192x2048 .f32 := m ((c : Thread nD τ).loc main_arg0)
abbrev G (c : Dev nD) : FVec Ideal S2x2048 .f32 := m ((c : Thread nD τ).loc main_arg1)
abbrev WG (c : Dev nD) : FVec Ideal S2x2048x5632 .f32 := m ((c : Thread nD τ).loc main_arg2)
abbrev WU (c : Dev nD) : FVec Ideal S2x2048x5632 .f32 := m ((c : Thread nD τ).loc main_arg3)
abbrev WD (c : Dev nD) : FVec Ideal S2x5632x2048 .f32 := m ((c : Thread nD τ).loc main_arg4)

abbrev FG (c : Dev nD) : FVec Ideal S2048 .f32 := m ((c : Thread nD τ).loc main_arg5)

theorem blk_x (c : Dev nD) (t : Fin cfg0.N) (r : Fin 1024) (k : Fin 2048) (hr : t.val / 22 * 1024 + r.val < 8192) :
    (show FVec Ideal S1024x2048 .f32 from iblk m c 0 t) (ix2 r k) = X m c (ix2 ⟨t.val / 22 * 1024 + r.val, hr⟩ k) := by
  blk_ext [iblk, V, idx t]

/-- The gains the call stages: the second row of the argument, which the host slices out. -/
theorem entry_g (c : Dev nD) (k : Fin 2048) :
    (show FVec Ideal S1x2048 .f32 from V m c main_v2) (ix2 0 k) = G m c (ix2 1 k) := by
  entry_read
  pointwise

theorem blk_g (c : Dev nD) (t : Fin cfg0.N) (k : Fin 2048) :
    (show FVec Ideal S1x2048 .f32 from iblk m c 1 t) (ix2 0 k) = G m c (ix2 1 k) := by
  rw [← entry_g m c k]
  blk_ext [iblk, idx t]

theorem blk_wg (c : Dev nD) (t : Fin cfg0.N) (l : Fin 2048) (f : Fin 256) (hf : t.val % 22 * 256 + f.val < 5632) :
    (show FVec Ideal S1x2048x256 .f32 from iblk m c 2 t) (ix3 0 l f) = WG m c (ix3 1 l ⟨t.val % 22 * 256 + f.val, hf⟩) := by
  blk_ext [iblk, V, idx t]

theorem blk_wu (c : Dev nD) (t : Fin cfg0.N) (l : Fin 2048) (f : Fin 256) (hf : t.val % 22 * 256 + f.val < 5632) :
    (show FVec Ideal S1x2048x256 .f32 from iblk m c 3 t) (ix3 0 l f) = WU m c (ix3 1 l ⟨t.val % 22 * 256 + f.val, hf⟩) := by
  blk_ext [iblk, V, idx t]

theorem blk_wd (c : Dev nD) (t : Fin cfg0.N) (f : Fin 256) (k : Fin 2048) (hf : t.val % 22 * 256 + f.val < 5632) :
    (show FVec Ideal S1x256x2048 .f32 from iblk m c 4 t) (ix3 0 f k) = WD m c (ix3 1 ⟨t.val % 22 * 256 + f.val, hf⟩ k) := by
  blk_ext [iblk, V, idx t]

theorem entry_fg (c : Dev nD) (k : Fin 2048) :
    (show FVec Ideal S1x2048 .f32 from V m c main_v3) (ix2 0 k) = FG m c (ix1 k) := by
  entry_read
  pointwise

theorem blk_fg (c : Dev nD) (t : Fin cfg0.N) (k : Fin 2048) :
    (show FVec Ideal S1x2048 .f32 from iblk m c 5 t) (ix2 0 k) = FG m c (ix1 k) := by
  rw [← entry_fg m c k]
  blk_ext [iblk, idx t]

/-- The row of the array that row `r` of point `t`'s block is. -/
abbrev rowOf (t : Fin cfg0.N) (r : Fin 1024) : Fin 8192 :=
  ⟨t.val / 22 * 1024 + r.val, by have := t.isLt; have hN : cfg0.N = 176 := N_0; have := r.isLt; omega⟩

/-- The normalised row `R` of the argument. -/
abbrev hRow (c : Dev nD) (R : Fin 8192) : Fin 2048 → EReal :=
  rms (fun l => X m c (ix2 R l)) (fun l => G m c (ix2 1 l))

theorem norm_blk (c : Dev nD) (t : Fin cfg0.N) (r : Fin 1024) (l : Fin 2048) :
    k0_pay1 (F := Ideal) (iblk m c 0 t) (iblk m c 1 t) (ix2 r l) = hRow m c (rowOf t r) l := by
  rw [norm_apply]
  exact congrArg₂ (fun a b => rms a b l) (funext fun k => blk_x m c t r k _) (funext fun k => blk_g m c t k)

/-- After every point the scratch holds the normalised rows of the point's block. -/
theorem scratch_eq (c : Dev nD) : ∀ (n : ℕ) (hn : n < cfg0.N) (r : Fin 1024) (l : Fin 2048),
    (outsAt0 m c n hn).2 (ix2 r l) = hRow m c (rowOf ⟨n, hn⟩ r) l := by
  intro n
  induction n with
  | zero =>
    intro hn r l
    rw [outs_first m c ⟨0, hn⟩ rfl]; exact norm_blk m c ⟨0, hn⟩ r l
  | succ n ih =>
    intro hn r l
    by_cases h : (n + 1) % 22 = 0
    · rw [outs_first m c ⟨n + 1, hn⟩ h]; exact norm_blk m c ⟨n + 1, hn⟩ r l
    · rw [scratch_next m c ⟨n + 1, hn⟩ h]
      refine (ih (Nat.lt_of_succ_lt hn) r l).trans ?_
      refine congrArg (fun R => hRow m c R l) (Fin.ext ?_)
      show n / 22 * 1024 + r.val = (n + 1) / 22 * 1024 + r.val
      rw [show n / 22 = (n + 1) / 22 by omega]

/-- What point `t` adds to its block. -/
def part (c : Dev nD) (t : Fin cfg0.N) (i : S1024x2048.Idx) : EReal :=
  tile (hRow m c (rowOf t (i 0))) (fun f l => WG m c (ix3 1 l f)) (fun f l => WU m c (ix3 1 l f))
    (fun f k => WD m c (ix3 1 f k)) (i 1) ⟨t.val % 22, Nat.mod_lt _ (by decide)⟩

theorem step_blk (c : Dev nD) (t : Fin cfg0.N) (h : FVec Ideal S1024x2048 .bf16) (o : FVec Ideal S1024x2048 .f32)
    (r : Fin 1024) (k : Fin 2048) (hh : ∀ l, h (ix2 r l) = hRow m c (rowOf t r) l) :
    k0_pay2 (F := Ideal) h (iblk m c 2 t) (iblk m c 3 t) o (iblk m c 4 t) (ix2 r k)
      = o (ix2 r k) + part m c t (ix2 r k) := by
  rw [step_apply]
  refine congrArg (o (ix2 r k) + ·) ?_
  unfold part tile
  refine Finset.sum_congr rfl fun f _ => Ideal.mul_congr ?_ (blk_wd m c t f k _)
  rw [show (fun l => h (ix2 r l)) = hRow m c (rowOf t r) from funext hh,
    show (fun l => (show FVec Ideal S1x2048x256 .f32 from iblk m c 2 t) (ix3 0 l f)) = _ from
      funext fun l => blk_wg m c t l f (by have := Nat.mod_lt t.val (show 22 > 0 by decide); omega),
    show (fun l => (show FVec Ideal S1x2048x256 .f32 from iblk m c 3 t) (ix3 0 l f)) = _ from
      funext fun l => blk_wu m c t l f (by have := Nat.mod_lt t.val (show 22 > 0 by decide); omega)]
  rfl

/-- The layer's row, entry by entry, from the call's arguments. -/
def layer (c : Dev nD) (i : S8192x2048.Idx) : EReal :=
  row (fun l => X m c (ix2 (i 0) l)) (hRow m c (i 0)) (fun f l => WG m c (ix3 1 l f)) (fun f l => WU m c (ix3 1 l f))
    (fun f k => WD m c (ix3 1 f k)) (i 1)

/-- The residual entry that a run's first point stores before the tiles are added, and the point's tile. -/
def term (c : Dev nD) (t : Fin cfg0.N) (i : S1024x2048.Idx) : EReal :=
  (if t.val % 22 = 0 then X m c (ix2 (rowOf t (i 0)) (i 1)) else 0) + part m c t i

/-- The block at a run's last point, all its tiles added. -/
theorem sums_eq (c : Dev nD) (t : Fin cfg0.N) (hm : t.val % 22 = 21) (r : Fin 1024) (k : Fin 2048) :
    summed m c t.val t.isLt (ix2 r k) = layer m c (ix2 (rowOf t r) k) := by
  have key := Pipeline.eq_sum_fin_of_reset_step_apply_of_flush (M := EReal) (ι := S1024x2048.Idx)
    (summed m c) 22 (fun _ => 0) (term m c)
    (fun t h i => by
      idx_vars i
      unfold summed; rw [if_pos h]
      refine (step_blk m c t _ _ i0 i1 (fun l => norm_blk m c t i0 l)).trans ?_
      unfold term
      rw [if_pos h, zero_add]
      exact congrArg (· + _) (blk_x m c t i0 i1 _))
    (fun t h i => by
      idx_vars i
      rw [← summed_eq m c ⟨t.val - 1, Nat.lt_of_le_of_lt (Nat.sub_le _ _) t.isLt⟩ (by show ¬(t.val - 1) % 22 = 21; omega)]
      unfold summed; rw [if_neg h]
      refine (step_blk m c t _ _ i0 i1 (fun l => ?_)).trans ?_
      · refine (scratch_eq m c _ _ i0 l).trans (congrArg (fun R => hRow m c R l) (Fin.ext ?_))
        show (t.val - 1) / 22 * 1024 + i0.val = t.val / 22 * 1024 + i0.val
        rw [show (t.val - 1) / 22 = t.val / 22 by omega]
      · unfold term
        rw [if_neg h, zero_add])
    t hm (ix2 r k)
  refine key.trans ?_
  rw [zero_add]
  unfold layer
  refine Eq.trans ?_ (row_eq_tiles _ _ _ _ _ _)
  refine Eq.trans ?_ (sum_first _ _)
  refine Finset.sum_congr rfl fun s _ => ?_
  have hq : (22 * (t.val / 22) + s.val) / 22 = t.val / 22 := by omega
  have hs : (22 * (t.val / 22) + s.val) % 22 = s.val := by omega
  have hR : rowOf ⟨22 * (t.val / 22) + s.val, Pipeline.run_point_lt_of_flush t hm s⟩ r = rowOf t r :=
    Fin.ext (by show (22 * (t.val / 22) + s.val) / 22 * 1024 + r.val = _; rw [hq])
  unfold term part
  refine congrArg₂ (· + ·) ?_ ?_
  · show (if (22 * (t.val / 22) + s.val) % 22 = 0 then X m c (ix2 (rowOf _ r) k) else 0) = _
    rw [hR, hs]
    rfl
  · show tile (hRow m c (rowOf _ r)) _ _ _ k ⟨(22 * (t.val / 22) + s.val) % 22, _⟩ = _
    rw [hR]
    exact congrArg _ (Fin.ext hs)

/-- The layer's row normalised by the final gains. -/
def final (c : Dev nD) (i : S8192x2048.Idx) : EReal :=
  rms (fun l => layer m c (ix2 (i 0) l)) (fun l => FG m c (ix1 l)) (i 1)

/-- The block as a run's last point leaves it. -/
theorem block_eq (c : Dev nD) (t : Fin cfg0.N) (hm : t.val % 22 = 21) (r : Fin 1024) (k : Fin 2048) :
    (outsAt0 m c t.val t.isLt).1 (ix2 r k) = final m c (ix2 (rowOf t r) k) := by
  rw [outs_last m c t hm]
  refine (final_apply _ _ r k).trans ?_
  exact congrArg₂ (fun a b => rms a b k) (funext fun l => sums_eq m c t hm r l) (funext fun l => blk_fg m c t l)

/-- The result array after the run. -/
theorem array_eq (c : Dev nD) : (dats m 0 c).arrAt 6 cfg0.N = final m c := by
  refine (dats m 0 c).arrAt_eq_of_covers 6 _ (by decide +kernel) fun t hf y => ?_
  have hm : t.val % 22 = 21 := (flush0_6 t).mp hf
  have hN : t.val < 176 := lt_of_lt_of_eq t.isLt N_0
  blk_simp
  rw [after0_6]
  idx_vars y
  have e : ((View.whole main_v4).slice (win0_6.rect t)).emb (ix2 y0 y1) = ix2 (rowOf t y0) y1 := by
    blk_ext [idx t]
  rw [e]
  exact block_eq m c t hm y0 y1

end Cert.FfnLastIdeal.Hand

end
-- ==== Proof.FfnLastReference.lean ====
/- The last feed-forward reference read at an index: the layer's row of `FfnMath`, normalised by the final gains. -/
module

public import proofs.«01_k».proof.Proof.FfnMath
public import proofs.«01_k».proof.Proof.Gen.FfnLastRefIdeal.Run
public import Idealize.ShloMosaic.Lib.Pointwise
public import Idealize.ShloMosaic.Lib.Claim

@[expose] public section

set_option maxRecDepth 16384

noncomputable section

namespace Cert.FfnLastRefIdeal.Hand

open Cert.FfnLastRefIdeal Cert.FfnLastRefIdeal.Gen Cert.FfnMath Idealize.ShloMosaic Idealize.ShloMosaic.TcCoe Idealize.SL.Sem

/-- The normalised rows. -/
def normed (x : FVec Ideal S8192x2048 .f32) (g : FVec Ideal S2x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))

/-- The layer before the final normalisation. -/
def layer (x : FVec Ideal S8192x2048 .f32) (g : FVec Ideal S2x2048 .f32) (wg wu : FVec Ideal S2x2048x5632 .f32)
    (wd : FVec Ideal S2x5632x2048 .f32) : FVec Ideal S8192x2048 .f32 :=
  addf x (mulf (broadcastInDim S8192x2048 ![] bcast_S_S8192x2048 (constant S_ .f32 0x3F000000#32)) (Host.dotGeneral dot_S8192x5632_S5632x2048_S8192x2048_1_0_0_1_n_n none (mulf (mulf (Host.dotGeneral dot_S8192x2048_S2048x5632_S8192x5632_1_0_0_1_n_n none (normed x g) (shapeCast _ (extractStridedSlice S1x2048x5632 ![1, 0, 0] wg slices_S2x2048x5632_S1x2048x5632_1_0_0) shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (normed x g) (shapeCast _ (extractStridedSlice S1x2048x5632 ![1, 0, 0] wg slices_S2x2048x5632_S1x2048x5632_1_0_0) shapeCasts_S1x2048x5632_S2048x5632))))))) (Host.dotGeneral dot_S8192x2048_S2048x5632_S8192x5632_1_0_0_1_n_n none (normed x g) (shapeCast _ (extractStridedSlice S1x2048x5632 ![1, 0, 0] wu slices_S2x2048x5632_S1x2048x5632_1_0_0) shapeCasts_S1x2048x5632_S2048x5632))) (shapeCast _ (extractStridedSlice S1x5632x2048 ![1, 0, 0] wd slices_S2x5632x2048_S1x5632x2048_1_0_0) shapeCasts_S1x5632x2048_S5632x2048)))

/-- The reference's term. -/
def term (x : FVec Ideal S8192x2048 .f32) (g : FVec Ideal S2x2048 .f32) (wg wu : FVec Ideal S2x2048x5632 .f32)
    (wd : FVec Ideal S2x5632x2048 .f32) (fg : FVec Ideal S2048 .f32) : FVec Ideal S8192x2048 .f32 :=
  mulf (mulf (layer x g wg wu wd) (broadcastInDim S8192x2048 ![0, 1] bcast_S8192x1_S8192x2048_0_1 (Host.rsqrt (addf (Host.divf (broadcastInDim S8192x1 ![0] bcast_S8192_S8192x1_0 (Host.reduceAdd (mulf (layer x g wg wu wd) (layer x g wg wu wd)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 fg))

theorem normed_apply (x : FVec Ideal S8192x2048 .f32) (g : FVec Ideal S2x2048 .f32) (r : Fin 8192) (k : Fin 2048) :
    normed x g (ix2 r k) = rms (fun l => x (ix2 r l)) (fun l => g (ix2 1 l)) k := by
  pointwise [normed, rms]

theorem layer_apply (x : FVec Ideal S8192x2048 .f32) (g : FVec Ideal S2x2048 .f32) (wg wu : FVec Ideal S2x2048x5632 .f32)
    (wd : FVec Ideal S2x5632x2048 .f32) (r : Fin 8192) (k : Fin 2048) :
    layer x g wg wu wd (ix2 r k) = row (fun l => x (ix2 r l)) (rms (fun l => x (ix2 r l)) (fun l => g (ix2 1 l)))
      (fun f l => wg (ix3 1 l f)) (fun f l => wu (ix3 1 l f)) (fun f k => wd (ix3 1 f k)) k := by
  pointwise [layer, normed_apply, row, unit, Ideal.logistic]

theorem term_apply (x : FVec Ideal S8192x2048 .f32) (g : FVec Ideal S2x2048 .f32) (wg wu : FVec Ideal S2x2048x5632 .f32)
    (wd : FVec Ideal S2x5632x2048 .f32) (fg : FVec Ideal S2048 .f32) (r : Fin 8192) (k : Fin 2048) :
    term x g wg wu wd fg (ix2 r k) = rms (fun l => layer x g wg wu wd (ix2 r l)) (fun l => fg (ix1 l)) k := by
  pointwise [term, rms]

end Cert.FfnLastRefIdeal.Hand

end
-- ==== Proof.FfnTie.lean ====
/- The feed-forward claims' equations: on memories that agree on the arguments the reference's term is the array the
   call leaves. -/
module

public import proofs.«01_k».proof.Proof.FfnKernel
public import proofs.«01_k».proof.Proof.FfnReference
public import proofs.«01_k».proof.Proof.FfnLastKernel
public import proofs.«01_k».proof.Proof.FfnLastReference

@[expose] public section

set_option maxRecDepth 16384

noncomputable section

namespace Cert.FfnTie

open Idealize.ShloMosaic Idealize.SL.Sem

theorem ffn (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    Cert.FfnRefIdeal.Hand.term (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) = Cert.FfnIdeal.Value.G6 m c := by
  rw [← Cert.FfnIdeal.Value.final6 m c]
  refine Eq.trans ?_ (Cert.FfnIdeal.Hand.array_eq m c).symm
  funext i
  obtain ⟨r, k, rfl⟩ : ∃ r k, i = ix2 r k := ⟨i 0, i 1, eq_ix2 i⟩
  rw [h0, h1, h2, h3, h4]
  exact Cert.FfnRefIdeal.Hand.term_apply _ _ _ _ _ r k

theorem last (m : (ℓ : Loc Cert.FfnLastIdeal.nD Cert.FfnLastIdeal.τ Cert.FfnLastIdeal.sig) → Buf (Elt Ideal) ℓ)
    (m' : (ℓ : Loc Cert.FfnLastRefIdeal.nD Cert.FfnLastRefIdeal.τ Cert.FfnLastRefIdeal.sig) → Buf (Elt Ideal) ℓ) (c : Dev Cert.FfnLastIdeal.nD)
    (h0 : m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0))
    (h1 : m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1))
    (h2 : m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2))
    (h3 : m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3))
    (h4 : m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4))
    (h5 : m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) :
    Cert.FfnLastRefIdeal.Hand.term (m' ((c.tc : Thread Cert.FfnLastRefIdeal.nD Cert.FfnLastRefIdeal.τ).loc Cert.FfnLastRefIdeal.main_arg0)) (m' ((c.tc : Thread Cert.FfnLastRefIdeal.nD Cert.FfnLastRefIdeal.τ).loc Cert.FfnLastRefIdeal.main_arg1)) (m' ((c.tc : Thread Cert.FfnLastRefIdeal.nD Cert.FfnLastRefIdeal.τ).loc Cert.FfnLastRefIdeal.main_arg2)) (m' ((c.tc : Thread Cert.FfnLastRefIdeal.nD Cert.FfnLastRefIdeal.τ).loc Cert.FfnLastRefIdeal.main_arg3)) (m' ((c.tc : Thread Cert.FfnLastRefIdeal.nD Cert.FfnLastRefIdeal.τ).loc Cert.FfnLastRefIdeal.main_arg4)) (m' ((c.tc : Thread Cert.FfnLastRefIdeal.nD Cert.FfnLastRefIdeal.τ).loc Cert.FfnLastRefIdeal.main_arg5)) = Cert.FfnLastIdeal.Value.G6 m c := by
  rw [← Cert.FfnLastIdeal.Value.final6 m c]
  refine Eq.trans ?_ (Cert.FfnLastIdeal.Hand.array_eq m c).symm
  funext i
  obtain ⟨r, k, rfl⟩ : ∃ r k, i = ix2 r k := ⟨i 0, i 1, eq_ix2 i⟩
  rw [h0, h1, h2, h3, h4, h5]
  refine (Cert.FfnLastRefIdeal.Hand.term_apply _ _ _ _ _ _ r k).trans ?_
  exact congrArg (fun a => Cert.FfnMath.rms a _ k) (funext fun l => Cert.FfnLastRefIdeal.Hand.layer_apply _ _ _ _ _ r l)

end Cert.FfnTie

end
-- ==== Proof.InProjKernel.lean ====
/- What the first layer's input projection leaves in its result array: at every row and column the normalised row
   against the weight's column, times the column's scale. -/
module

public import proofs.«01_k».proof.Proof.FfnMath
public import proofs.«01_k».proof.Proof.Gen.InProjIdeal.Value
public import Idealize.ShloMosaic.Lib.Pointwise
public import Idealize.ShloMosaic.Lib.Pipeline.ValueKit
public import Idealize.ShloMosaic.Lib.Claim

@[expose] public section

set_option maxRecDepth 16384

noncomputable section

namespace Cert.InProjIdeal.Hand

open Cert.InProjIdeal Cert.InProjIdeal.Gen Cert.FfnMath Idealize.ShloMosaic Idealize.ShloMosaic.TcCoe Idealize.SL.Sem

/-- The body's first payload is the normalised row. -/
theorem norm_apply (x : FVec Ideal S1024x2048 .f32) (g : FVec Ideal S1x2048 .f32) (r : Fin 1024) (k : Fin 2048) :
    k0_pay1 (F := Ideal) x g (ix2 r k) = rms (fun l => x (ix2 r l)) (fun l => g (ix2 0 l)) k := by
  pointwise [k0_pay1, rms]

/-- The body's second payload is the scaled product of a normalised row and a weight column. -/
theorem prod_apply (h : FVec Ideal S1024x2048 .bf16) (w : FVec Ideal S1x2048x1024 .f32) (s : FVec Ideal S1x1024 .f32)
    (r : Fin 1024) (k : Fin 1024) :
    k0_pay2 (F := Ideal) h w s (ix2 r k) = (∑ l : Fin 2048, h (ix2 r l) * w (ix3 0 l k)) * s (ix2 0 k) := by
  pointwise [k0_pay2]

variable (m : (ℓ : Loc nD τ sig) → Buf (Elt Ideal) ℓ)

abbrev prev (c : Dev nD) (t : Fin cfg0.N) := outsAt0 m c (t.val - 1) (Nat.lt_of_le_of_lt (Nat.sub_le _ _) t.isLt)

/-- A block row's first point normalises the rows into the scratch and stores the first block of columns. -/
theorem outs_first (c : Dev nD) (t : Fin cfg0.N) (h : t.val % 6 = 0) : outsAt0 m c t.val t.isLt =
    (k0_pay2 (k0_pay1 (iblk m c 0 t) (iblk m c 1 t)) (iblk m c 2 t) (iblk m c 3 t),
      k0_pay1 (iblk m c 0 t) (iblk m c 1 t)) := by
  rw [outsAt0_A m c t h]; refine Prod.ext ?_ ?_ <;> frame_out

/-- A later point reads the scratch and leaves it. -/
theorem outs_next (c : Dev nD) (t : Fin cfg0.N) (h : ¬t.val % 6 = 0) : outsAt0 m c t.val t.isLt =
    (k0_pay2 (prev m c t).2 (iblk m c 2 t) (iblk m c 3 t), (prev m c t).2) := by
  rw [outsAt0_B m c t h]; refine Prod.ext ?_ ?_
  · frame_out
    rw [(Memref.isWhole_whole _).read_unread]
  · unfold sout0_B_0
    rfl

/-- Where the blocks lie, decided once over the grid. -/
theorem idx : ∀ t : Fin cfg0.N,
    win0_0.index t (0 : Fin 2) = t.val / 6 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 6
    ∧ win0_3.index t (0 : Fin 2) = 0 ∧ win0_3.index t (1 : Fin 2) = t.val % 6
    ∧ win0_4.index t (0 : Fin 2) = t.val / 6 ∧ win0_4.index t (1 : Fin 2) = t.val % 6 :=
  (by decide +kernel : ∀ t : Fin grid0.N, _)

abbrev X (c : Dev nD) : FVec Ideal S8192x2048 .f32 := m ((c : Thread nD τ).loc main_arg0)
abbrev G (c : Dev nD) : FVec Ideal S2x2048 .f32 := m ((c : Thread nD τ).loc main_arg1)
abbrev W (c : Dev nD) : FVec Ideal S2x2048x6144 .f32 := m ((c : Thread nD τ).loc main_arg2)
abbrev Sc (c : Dev nD) : FVec Ideal S6144 .f32 := m ((c : Thread nD τ).loc main_arg3)

/-- The row of the array that row `r` of point `t`'s block is. -/
abbrev rowOf (t : Fin cfg0.N) (r : Fin 1024) : Fin 8192 :=
  ⟨t.val / 6 * 1024 + r.val, by have := t.isLt; have hN : cfg0.N = 48 := N_0; have := r.isLt; omega⟩

/-- The column of the array that column `k` of point `t`'s block is. -/
abbrev colOf (t : Fin cfg0.N) (k : Fin 1024) : Fin 6144 :=
  ⟨t.val % 6 * 1024 + k.val, by have := Nat.mod_lt t.val (show 6 > 0 by decide); have := k.isLt; omega⟩

theorem blk_x (c : Dev nD) (t : Fin cfg0.N) (r : Fin 1024) (k : Fin 2048) :
    (show FVec Ideal S1024x2048 .f32 from iblk m c 0 t) (ix2 r k) = X m c (ix2 (rowOf t r) k) := by
  blk_ext [iblk, V, idx t]

/-- The gains the call stages: the layer's row of the argument, which the host slices out. -/
theorem entry_g (c : Dev nD) (k : Fin 2048) :
    (show FVec Ideal S1x2048 .f32 from V m c main_v2) (ix2 0 k) = G m c (ix2 0 k) := by
  entry_read
  pointwise

theorem blk_g (c : Dev nD) (t : Fin cfg0.N) (k : Fin 2048) :
    (show FVec Ideal S1x2048 .f32 from iblk m c 1 t) (ix2 0 k) = G m c (ix2 0 k) := by
  rw [← entry_g m c k]
  blk_ext [iblk, idx t]

theorem blk_w (c : Dev nD) (t : Fin cfg0.N) (l : Fin 2048) (k : Fin 1024) :
    (show FVec Ideal S1x2048x1024 .f32 from iblk m c 2 t) (ix3 0 l k) = W m c (ix3 0 l (colOf t k)) := by
  blk_ext [iblk, V, idx t]

/-- The scales the call stages: the argument as one row. -/
theorem entry_s (c : Dev nD) (k : Fin 6144) :
    (show FVec Ideal S1x6144 .f32 from V m c main_v3) (ix2 0 k) = Sc m c (ix1 k) := by
  entry_read
  pointwise

theorem blk_s (c : Dev nD) (t : Fin cfg0.N) (k : Fin 1024) :
    (show FVec Ideal S1x1024 .f32 from iblk m c 3 t) (ix2 0 k) = Sc m c (ix1 (colOf t k)) := by
  rw [← entry_s m c (colOf t k)]
  blk_ext [iblk, idx t]

/-- The normalised row `R` of the argument. -/
abbrev hRow (c : Dev nD) (R : Fin 8192) : Fin 2048 → EReal :=
  rms (fun l => X m c (ix2 R l)) (fun l => G m c (ix2 0 l))

theorem norm_blk (c : Dev nD) (t : Fin cfg0.N) (r : Fin 1024) (l : Fin 2048) :
    k0_pay1 (F := Ideal) (iblk m c 0 t) (iblk m c 1 t) (ix2 r l) = hRow m c (rowOf t r) l := by
  rw [norm_apply]
  exact congrArg₂ (fun a b => rms a b l) (funext fun k => blk_x m c t r k) (funext fun k => blk_g m c t k)

/-- The result, entry by entry, from the call's arguments. -/
def layer (c : Dev nD) (i : S8192x6144.Idx) : EReal :=
  (∑ l : Fin 2048, hRow m c (i 0) l * W m c (ix3 0 l (i 1))) * Sc m c (ix1 (i 1))

theorem prod_blk (c : Dev nD) (t : Fin cfg0.N) (h : FVec Ideal S1024x2048 .bf16) (r : Fin 1024) (k : Fin 1024)
    (hh : ∀ l, h (ix2 r l) = hRow m c (rowOf t r) l) :
    k0_pay2 (F := Ideal) h (iblk m c 2 t) (iblk m c 3 t) (ix2 r k) = layer m c (ix2 (rowOf t r) (colOf t k)) := by
  rw [prod_apply]
  unfold layer
  exact Ideal.mul_congr (Finset.sum_congr rfl fun l _ => Ideal.mul_congr (hh l) (blk_w m c t l k)) (blk_s m c t k)

/-- After every point the scratch holds the normalised rows of the point's block. -/
theorem scratch_eq (c : Dev nD) : ∀ (n : ℕ) (hn : n < cfg0.N) (r : Fin 1024) (l : Fin 2048),
    (outsAt0 m c n hn).2 (ix2 r l) = hRow m c (rowOf ⟨n, hn⟩ r) l := by
  intro n
  induction n with
  | zero =>
    intro hn r l
    rw [outs_first m c ⟨0, hn⟩ rfl]; exact norm_blk m c ⟨0, hn⟩ r l
  | succ n ih =>
    intro hn r l
    by_cases h : (n + 1) % 6 = 0
    · rw [outs_first m c ⟨n + 1, hn⟩ h]; exact norm_blk m c ⟨n + 1, hn⟩ r l
    · rw [outs_next m c ⟨n + 1, hn⟩ h]
      refine (ih (Nat.lt_of_succ_lt hn) r l).trans ?_
      refine congrArg (fun R => hRow m c R l) (Fin.ext ?_)
      show n / 6 * 1024 + r.val = (n + 1) / 6 * 1024 + r.val
      rw [show n / 6 = (n + 1) / 6 by omega]

theorem block_eq (c : Dev nD) (t : Fin cfg0.N) (r : Fin 1024) (k : Fin 1024) :
    (outsAt0 m c t.val t.isLt).1 (ix2 r k) = layer m c (ix2 (rowOf t r) (colOf t k)) := by
  by_cases h : t.val % 6 = 0
  · rw [outs_first m c t h]
    exact prod_blk m c t _ r k fun l => norm_blk m c t r l
  · rw [outs_next m c t h]
    refine prod_blk m c t _ r k fun l => ?_
    refine (scratch_eq m c _ _ r l).trans (congrArg (fun R => hRow m c R l) (Fin.ext ?_))
    show (t.val - 1) / 6 * 1024 + r.val = t.val / 6 * 1024 + r.val
    rw [show (t.val - 1) / 6 = t.val / 6 by omega]

/-- The result array after the run. -/
theorem array_eq (c : Dev nD) : (dats m 0 c).arrAt 4 cfg0.N = layer m c := by
  refine (dats m 0 c).arrAt_eq_of_covers 4 _ (by decide +kernel) fun t hf y => ?_
  blk_simp
  rw [after0_4]
  idx_vars y
  have e : ((View.whole main_v4).slice (win0_4.rect t)).emb (ix2 y0 y1) = ix2 (rowOf t y0) (colOf t y1) := by
    blk_ext [idx t]
  rw [e]
  exact block_eq m c t y0 y1

end Cert.InProjIdeal.Hand

end
-- ==== Proof.InProjReference.lean ====
/- The first layer's input projection's reference, read at an index. -/
module

public import proofs.«01_k».proof.Proof.FfnMath
public import proofs.«01_k».proof.Proof.Gen.InProjRefIdeal.Run
public import Idealize.ShloMosaic.Lib.Pointwise
public import Idealize.ShloMosaic.Lib.Claim

@[expose] public section

set_option maxRecDepth 16384

noncomputable section

namespace Cert.InProjRefIdeal.Hand

open Cert.InProjRefIdeal Cert.InProjRefIdeal.Gen Cert.FfnMath Idealize.ShloMosaic Idealize.ShloMosaic.TcCoe Idealize.SL.Sem

/-- The normalised rows. -/
def normed (x : FVec Ideal S8192x2048 .f32) (g : FVec Ideal S2x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S2x2048_S1x2048_0_0) shapeCasts_S1x2048_S2048)))

/-- The reference's term. -/
def term (x : FVec Ideal S8192x2048 .f32) (g : FVec Ideal S2x2048 .f32) (w : FVec Ideal S2x2048x6144 .f32)
    (s : FVec Ideal S6144 .f32) : FVec Ideal S8192x6144 .bf16 :=
  truncf .bf16 (mulf (Host.dotGeneral dot_S8192x2048_S2048x6144_S8192x6144_1_0_0_1_n_n none (normed x g) (shapeCast _ (extractStridedSlice S1x2048x6144 ![0, 0, 0] w slices_S2x2048x6144_S1x2048x6144_0_0_0) shapeCasts_S1x2048x6144_S2048x6144)) (broadcastInDim S8192x6144 ![0, 1] bcast_S1x6144_S8192x6144_0_1 (broadcastInDim S1x6144 ![1] bcast_S6144_S1x6144_1 s))) bitsLt_bf16_f32

theorem normed_apply (x : FVec Ideal S8192x2048 .f32) (g : FVec Ideal S2x2048 .f32) (r : Fin 8192) (k : Fin 2048) :
    normed x g (ix2 r k) = rms (fun l => x (ix2 r l)) (fun l => g (ix2 0 l)) k := by
  pointwise [normed, rms]

theorem term_apply (x : FVec Ideal S8192x2048 .f32) (g : FVec Ideal S2x2048 .f32) (w : FVec Ideal S2x2048x6144 .f32)
    (s : FVec Ideal S6144 .f32) (r : Fin 8192) (k : Fin 6144) :
    term x g w s (ix2 r k) = (∑ l : Fin 2048, rms (fun l => x (ix2 r l)) (fun l => g (ix2 0 l)) l * w (ix3 0 l k)) * s (ix1 k) := by
  pointwise [term, normed_apply]

end Cert.InProjRefIdeal.Hand

end
-- ==== Proof.InProjOddKernel.lean ====
/- What the second layer's input projection leaves in its result array: at every row and column the normalised row
   against the weight's column, times the column's scale. -/
module

public import proofs.«01_k».proof.Proof.FfnMath
public import proofs.«01_k».proof.Proof.Gen.InProjOddIdeal.Value
public import Idealize.ShloMosaic.Lib.Pointwise
public import Idealize.ShloMosaic.Lib.Pipeline.ValueKit
public import Idealize.ShloMosaic.Lib.Claim

@[expose] public section

set_option maxRecDepth 16384

noncomputable section

namespace Cert.InProjOddIdeal.Hand

open Cert.InProjOddIdeal Cert.InProjOddIdeal.Gen Cert.FfnMath Idealize.ShloMosaic Idealize.ShloMosaic.TcCoe Idealize.SL.Sem

/-- The body's first payload is the normalised row. -/
theorem norm_apply (x : FVec Ideal S1024x2048 .f32) (g : FVec Ideal S1x2048 .f32) (r : Fin 1024) (k : Fin 2048) :
    k0_pay1 (F := Ideal) x g (ix2 r k) = rms (fun l => x (ix2 r l)) (fun l => g (ix2 0 l)) k := by
  pointwise [k0_pay1, rms]

/-- The body's second payload is the scaled product of a normalised row and a weight column. -/
theorem prod_apply (h : FVec Ideal S1024x2048 .bf16) (w : FVec Ideal S1x2048x1024 .f32) (s : FVec Ideal S1x1024 .f32)
    (r : Fin 1024) (k : Fin 1024) :
    k0_pay2 (F := Ideal) h w s (ix2 r k) = (∑ l : Fin 2048, h (ix2 r l) * w (ix3 0 l k)) * s (ix2 0 k) := by
  pointwise [k0_pay2]

variable (m : (ℓ : Loc nD τ sig) → Buf (Elt Ideal) ℓ)

abbrev prev (c : Dev nD) (t : Fin cfg0.N) := outsAt0 m c (t.val - 1) (Nat.lt_of_le_of_lt (Nat.sub_le _ _) t.isLt)

/-- A block row's first point normalises the rows into the scratch and stores the first block of columns. -/
theorem outs_first (c : Dev nD) (t : Fin cfg0.N) (h : t.val % 6 = 0) : outsAt0 m c t.val t.isLt =
    (k0_pay2 (k0_pay1 (iblk m c 0 t) (iblk m c 1 t)) (iblk m c 2 t) (iblk m c 3 t),
      k0_pay1 (iblk m c 0 t) (iblk m c 1 t)) := by
  rw [outsAt0_A m c t h]; refine Prod.ext ?_ ?_ <;> frame_out

/-- A later point reads the scratch and leaves it. -/
theorem outs_next (c : Dev nD) (t : Fin cfg0.N) (h : ¬t.val % 6 = 0) : outsAt0 m c t.val t.isLt =
    (k0_pay2 (prev m c t).2 (iblk m c 2 t) (iblk m c 3 t), (prev m c t).2) := by
  rw [outsAt0_B m c t h]; refine Prod.ext ?_ ?_
  · frame_out
    rw [(Memref.isWhole_whole _).read_unread]
  · unfold sout0_B_0
    rfl

/-- Where the blocks lie, decided once over the grid. -/
theorem idx : ∀ t : Fin cfg0.N,
    win0_0.index t (0 : Fin 2) = t.val / 6 ∧ win0_0.index t (1 : Fin 2) = 0
    ∧ win0_1.index t (0 : Fin 2) = 0 ∧ win0_1.index t (1 : Fin 2) = 0
    ∧ win0_2.index t (0 : Fin 3) = 1 ∧ win0_2.index t (1 : Fin 3) = 0 ∧ win0_2.index t (2 : Fin 3) = t.val % 6
    ∧ win0_3.index t (0 : Fin 2) = 0 ∧ win0_3.index t (1 : Fin 2) = t.val % 6
    ∧ win0_4.index t (0 : Fin 2) = t.val / 6 ∧ win0_4.index t (1 : Fin 2) = t.val % 6 :=
  (by decide +kernel : ∀ t : Fin grid0.N, _)

abbrev X (c : Dev nD) : FVec Ideal S8192x2048 .f32 := m ((c : Thread nD τ).loc main_arg0)
abbrev G (c : Dev nD) : FVec Ideal S2x2048 .f32 := m ((c : Thread nD τ).loc main_arg1)
abbrev W (c : Dev nD) : FVec Ideal S2x2048x6144 .f32 := m ((c : Thread nD τ).loc main_arg2)
abbrev Sc (c : Dev nD) : FVec Ideal S6144 .f32 := m ((c : Thread nD τ).loc main_arg3)

/-- The row of the array that row `r` of point `t`'s block is. -/
abbrev rowOf (t : Fin cfg0.N) (r : Fin 1024) : Fin 8192 :=
  ⟨t.val / 6 * 1024 + r.val, by have := t.isLt; have hN : cfg0.N = 48 := N_0; have := r.isLt; omega⟩

/-- The column of the array that column `k` of point `t`'s block is. -/
abbrev colOf (t : Fin cfg0.N) (k : Fin 1024) : Fin 6144 :=
  ⟨t.val % 6 * 1024 + k.val, by have := Nat.mod_lt t.val (show 6 > 0 by decide); have := k.isLt; omega⟩

theorem blk_x (c : Dev nD) (t : Fin cfg0.N) (r : Fin 1024) (k : Fin 2048) :
    (show FVec Ideal S1024x2048 .f32 from iblk m c 0 t) (ix2 r k) = X m c (ix2 (rowOf t r) k) := by
  blk_ext [iblk, V, idx t]

/-- The gains the call stages: the layer's row of the argument, which the host slices out. -/
theorem entry_g (c : Dev nD) (k : Fin 2048) :
    (show FVec Ideal S1x2048 .f32 from V m c main_v2) (ix2 0 k) = G m c (ix2 1 k) := by
  entry_read
  pointwise

theorem blk_g (c : Dev nD) (t : Fin cfg0.N) (k : Fin 2048) :
    (show FVec Ideal S1x2048 .f32 from iblk m c 1 t) (ix2 0 k) = G m c (ix2 1 k) := by
  rw [← entry_g m c k]
  blk_ext [iblk, idx t]

theorem blk_w (c : Dev nD) (t : Fin cfg0.N) (l : Fin 2048) (k : Fin 1024) :
    (show FVec Ideal S1x2048x1024 .f32 from iblk m c 2 t) (ix3 0 l k) = W m c (ix3 1 l (colOf t k)) := by
  blk_ext [iblk, V, idx t]

/-- The scales the call stages: the argument as one row. -/
theorem entry_s (c : Dev nD) (k : Fin 6144) :
    (show FVec Ideal S1x6144 .f32 from V m c main_v3) (ix2 0 k) = Sc m c (ix1 k) := by
  entry_read
  pointwise

theorem blk_s (c : Dev nD) (t : Fin cfg0.N) (k : Fin 1024) :
    (show FVec Ideal S1x1024 .f32 from iblk m c 3 t) (ix2 0 k) = Sc m c (ix1 (colOf t k)) := by
  rw [← entry_s m c (colOf t k)]
  blk_ext [iblk, idx t]

/-- The normalised row `R` of the argument. -/
abbrev hRow (c : Dev nD) (R : Fin 8192) : Fin 2048 → EReal :=
  rms (fun l => X m c (ix2 R l)) (fun l => G m c (ix2 1 l))

theorem norm_blk (c : Dev nD) (t : Fin cfg0.N) (r : Fin 1024) (l : Fin 2048) :
    k0_pay1 (F := Ideal) (iblk m c 0 t) (iblk m c 1 t) (ix2 r l) = hRow m c (rowOf t r) l := by
  rw [norm_apply]
  exact congrArg₂ (fun a b => rms a b l) (funext fun k => blk_x m c t r k) (funext fun k => blk_g m c t k)

/-- The result, entry by entry, from the call's arguments. -/
def layer (c : Dev nD) (i : S8192x6144.Idx) : EReal :=
  (∑ l : Fin 2048, hRow m c (i 0) l * W m c (ix3 1 l (i 1))) * Sc m c (ix1 (i 1))

theorem prod_blk (c : Dev nD) (t : Fin cfg0.N) (h : FVec Ideal S1024x2048 .bf16) (r : Fin 1024) (k : Fin 1024)
    (hh : ∀ l, h (ix2 r l) = hRow m c (rowOf t r) l) :
    k0_pay2 (F := Ideal) h (iblk m c 2 t) (iblk m c 3 t) (ix2 r k) = layer m c (ix2 (rowOf t r) (colOf t k)) := by
  rw [prod_apply]
  unfold layer
  exact Ideal.mul_congr (Finset.sum_congr rfl fun l _ => Ideal.mul_congr (hh l) (blk_w m c t l k)) (blk_s m c t k)

/-- After every point the scratch holds the normalised rows of the point's block. -/
theorem scratch_eq (c : Dev nD) : ∀ (n : ℕ) (hn : n < cfg0.N) (r : Fin 1024) (l : Fin 2048),
    (outsAt0 m c n hn).2 (ix2 r l) = hRow m c (rowOf ⟨n, hn⟩ r) l := by
  intro n
  induction n with
  | zero =>
    intro hn r l
    rw [outs_first m c ⟨0, hn⟩ rfl]; exact norm_blk m c ⟨0, hn⟩ r l
  | succ n ih =>
    intro hn r l
    by_cases h : (n + 1) % 6 = 0
    · rw [outs_first m c ⟨n + 1, hn⟩ h]; exact norm_blk m c ⟨n + 1, hn⟩ r l
    · rw [outs_next m c ⟨n + 1, hn⟩ h]
      refine (ih (Nat.lt_of_succ_lt hn) r l).trans ?_
      refine congrArg (fun R => hRow m c R l) (Fin.ext ?_)
      show n / 6 * 1024 + r.val = (n + 1) / 6 * 1024 + r.val
      rw [show n / 6 = (n + 1) / 6 by omega]

theorem block_eq (c : Dev nD) (t : Fin cfg0.N) (r : Fin 1024) (k : Fin 1024) :
    (outsAt0 m c t.val t.isLt).1 (ix2 r k) = layer m c (ix2 (rowOf t r) (colOf t k)) := by
  by_cases h : t.val % 6 = 0
  · rw [outs_first m c t h]
    exact prod_blk m c t _ r k fun l => norm_blk m c t r l
  · rw [outs_next m c t h]
    refine prod_blk m c t _ r k fun l => ?_
    refine (scratch_eq m c _ _ r l).trans (congrArg (fun R => hRow m c R l) (Fin.ext ?_))
    show (t.val - 1) / 6 * 1024 + r.val = t.val / 6 * 1024 + r.val
    rw [show (t.val - 1) / 6 = t.val / 6 by omega]

/-- The result array after the run. -/
theorem array_eq (c : Dev nD) : (dats m 0 c).arrAt 4 cfg0.N = layer m c := by
  refine (dats m 0 c).arrAt_eq_of_covers 4 _ (by decide +kernel) fun t hf y => ?_
  blk_simp
  rw [after0_4]
  idx_vars y
  have e : ((View.whole main_v4).slice (win0_4.rect t)).emb (ix2 y0 y1) = ix2 (rowOf t y0) (colOf t y1) := by
    blk_ext [idx t]
  rw [e]
  exact block_eq m c t y0 y1

end Cert.InProjOddIdeal.Hand

end
-- ==== Proof.InProjOddReference.lean ====
/- The second layer's input projection's reference, read at an index. -/
module

public import proofs.«01_k».proof.Proof.FfnMath
public import proofs.«01_k».proof.Proof.Gen.InProjOddRefIdeal.Run
public import Idealize.ShloMosaic.Lib.Pointwise
public import Idealize.ShloMosaic.Lib.Claim

@[expose] public section

set_option maxRecDepth 16384

noncomputable section

namespace Cert.InProjOddRefIdeal.Hand

open Cert.InProjOddRefIdeal Cert.InProjOddRefIdeal.Gen Cert.FfnMath Idealize.ShloMosaic Idealize.ShloMosaic.TcCoe Idealize.SL.Sem

/-- The normalised rows. -/
def normed (x : FVec Ideal S8192x2048 .f32) (g : FVec Ideal S2x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))

/-- The reference's term. -/
def term (x : FVec Ideal S8192x2048 .f32) (g : FVec Ideal S2x2048 .f32) (w : FVec Ideal S2x2048x6144 .f32)
    (s : FVec Ideal S6144 .f32) : FVec Ideal S8192x6144 .bf16 :=
  truncf .bf16 (mulf (Host.dotGeneral dot_S8192x2048_S2048x6144_S8192x6144_1_0_0_1_n_n none (normed x g) (shapeCast _ (extractStridedSlice S1x2048x6144 ![1, 0, 0] w slices_S2x2048x6144_S1x2048x6144_1_0_0) shapeCasts_S1x2048x6144_S2048x6144)) (broadcastInDim S8192x6144 ![0, 1] bcast_S1x6144_S8192x6144_0_1 (broadcastInDim S1x6144 ![1] bcast_S6144_S1x6144_1 s))) bitsLt_bf16_f32

theorem normed_apply (x : FVec Ideal S8192x2048 .f32) (g : FVec Ideal S2x2048 .f32) (r : Fin 8192) (k : Fin 2048) :
    normed x g (ix2 r k) = rms (fun l => x (ix2 r l)) (fun l => g (ix2 1 l)) k := by
  pointwise [normed, rms]

theorem term_apply (x : FVec Ideal S8192x2048 .f32) (g : FVec Ideal S2x2048 .f32) (w : FVec Ideal S2x2048x6144 .f32)
    (s : FVec Ideal S6144 .f32) (r : Fin 8192) (k : Fin 6144) :
    term x g w s (ix2 r k) = (∑ l : Fin 2048, rms (fun l => x (ix2 r l)) (fun l => g (ix2 1 l)) l * w (ix3 1 l k)) * s (ix1 k) := by
  pointwise [term, normed_apply]

end Cert.InProjOddRefIdeal.Hand

end
-- ==== Proof.InProjTie.lean ====
/- The input projections' equations: the reference's term is the array the call leaves. -/
module

public import proofs.«01_k».proof.Proof.InProjKernel
public import proofs.«01_k».proof.Proof.InProjReference
public import proofs.«01_k».proof.Proof.InProjOddKernel
public import proofs.«01_k».proof.Proof.InProjOddReference

@[expose] public section

set_option maxRecDepth 16384

noncomputable section

namespace Cert.InProjTie

open Idealize.ShloMosaic Idealize.SL.Sem

theorem even (m : (ℓ : Loc Cert.InProjIdeal.nD Cert.InProjIdeal.τ Cert.InProjIdeal.sig) → Buf (Elt Ideal) ℓ)
    (m' : (ℓ : Loc Cert.InProjRefIdeal.nD Cert.InProjRefIdeal.τ Cert.InProjRefIdeal.sig) → Buf (Elt Ideal) ℓ) (c : Dev Cert.InProjIdeal.nD)
    (h0 : m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0))
    (h1 : m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1))
    (h2 : m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2))
    (h3 : m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) :
    Cert.InProjRefIdeal.Hand.term (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) = Cert.InProjIdeal.Value.G4 m c := by
  rw [← Cert.InProjIdeal.Value.final4 m c]
  refine Eq.trans ?_ (Cert.InProjIdeal.Hand.array_eq m c).symm
  funext i
  obtain ⟨r, k, rfl⟩ : ∃ r k, i = ix2 r k := ⟨i 0, i 1, eq_ix2 i⟩
  rw [h0, h1, h2, h3]
  exact Cert.InProjRefIdeal.Hand.term_apply _ _ _ _ r k

theorem odd (m : (ℓ : Loc Cert.InProjOddIdeal.nD Cert.InProjOddIdeal.τ Cert.InProjOddIdeal.sig) → Buf (Elt Ideal) ℓ)
    (m' : (ℓ : Loc Cert.InProjOddRefIdeal.nD Cert.InProjOddRefIdeal.τ Cert.InProjOddRefIdeal.sig) → Buf (Elt Ideal) ℓ) (c : Dev Cert.InProjOddIdeal.nD)
    (h0 : m' ((c.tc : Thread Cert.InProjOddRefIdeal.nD Cert.InProjOddRefIdeal.τ).loc Cert.InProjOddRefIdeal.main_arg0) = m ((c.tc : Thread Cert.InProjOddIdeal.nD Cert.InProjOddIdeal.τ).loc Cert.InProjOddIdeal.main_arg0))
    (h1 : m' ((c.tc : Thread Cert.InProjOddRefIdeal.nD Cert.InProjOddRefIdeal.τ).loc Cert.InProjOddRefIdeal.main_arg1) = m ((c.tc : Thread Cert.InProjOddIdeal.nD Cert.InProjOddIdeal.τ).loc Cert.InProjOddIdeal.main_arg1))
    (h2 : m' ((c.tc : Thread Cert.InProjOddRefIdeal.nD Cert.InProjOddRefIdeal.τ).loc Cert.InProjOddRefIdeal.main_arg2) = m ((c.tc : Thread Cert.InProjOddIdeal.nD Cert.InProjOddIdeal.τ).loc Cert.InProjOddIdeal.main_arg2))
    (h3 : m' ((c.tc : Thread Cert.InProjOddRefIdeal.nD Cert.InProjOddRefIdeal.τ).loc Cert.InProjOddRefIdeal.main_arg3) = m ((c.tc : Thread Cert.InProjOddIdeal.nD Cert.InProjOddIdeal.τ).loc Cert.InProjOddIdeal.main_arg3)) :
    Cert.InProjOddRefIdeal.Hand.term (m' ((c.tc : Thread Cert.InProjOddRefIdeal.nD Cert.InProjOddRefIdeal.τ).loc Cert.InProjOddRefIdeal.main_arg0)) (m' ((c.tc : Thread Cert.InProjOddRefIdeal.nD Cert.InProjOddRefIdeal.τ).loc Cert.InProjOddRefIdeal.main_arg1)) (m' ((c.tc : Thread Cert.InProjOddRefIdeal.nD Cert.InProjOddRefIdeal.τ).loc Cert.InProjOddRefIdeal.main_arg2)) (m' ((c.tc : Thread Cert.InProjOddRefIdeal.nD Cert.InProjOddRefIdeal.τ).loc Cert.InProjOddRefIdeal.main_arg3)) = Cert.InProjOddIdeal.Value.G4 m c := by
  rw [← Cert.InProjOddIdeal.Value.final4 m c]
  refine Eq.trans ?_ (Cert.InProjOddIdeal.Hand.array_eq m c).symm
  funext i
  obtain ⟨r, k, rfl⟩ : ∃ r k, i = ix2 r k := ⟨i 0, i 1, eq_ix2 i⟩
  rw [h0, h1, h2, h3]
  exact Cert.InProjOddRefIdeal.Hand.term_apply _ _ _ _ r k

end Cert.InProjTie

end
-- ==== Proof.MemProjKernel.lean ====
/- What the first layer's memory projection leaves in its result array: at every row and column the normalised row
   against the weight's column, times the column's scale. -/
module

public import proofs.«01_k».proof.Proof.FfnMath
public import proofs.«01_k».proof.Proof.Gen.MemProjIdeal.Value
public import Idealize.ShloMosaic.Lib.Pointwise
public import Idealize.ShloMosaic.Lib.Pipeline.ValueKit
public import Idealize.ShloMosaic.Lib.Claim

@[expose] public section

set_option maxRecDepth 16384

noncomputable section

namespace Cert.MemProjIdeal.Hand

open Cert.MemProjIdeal Cert.MemProjIdeal.Gen Cert.FfnMath Idealize.ShloMosaic Idealize.ShloMosaic.TcCoe Idealize.SL.Sem

/-- The body's first payload is the normalised row. -/
theorem norm_apply (x : FVec Ideal S256x2048 .f32) (g : FVec Ideal S1x2048 .f32) (r : Fin 256) (k : Fin 2048) :
    k0_pay1 (F := Ideal) x g (ix2 r k) = rms (fun l => x (ix2 r l)) (fun l => g (ix2 0 l)) k := by
  pointwise [k0_pay1, rms]

/-- The body's second payload is the scaled product of a normalised row and a weight column. -/
theorem prod_apply (h : FVec Ideal S256x2048 .bf16) (w : FVec Ideal S1x2048x1024 .f32) (s : FVec Ideal S1x1024 .f32)
    (r : Fin 256) (k : Fin 1024) :
    k0_pay2 (F := Ideal) h w s (ix2 r k) = (∑ l : Fin 2048, h (ix2 r l) * w (ix3 0 l k)) * s (ix2 0 k) := by
  pointwise [k0_pay2]

variable (m : (ℓ : Loc nD τ sig) → Buf (Elt Ideal) ℓ)

/-- The one point normalises the rows and stores their scaled products. -/
theorem outs_eq (c : Dev nD) (t : Fin cfg0.N) : outsAt0 m c t =
    k0_pay2 (k0_pay1 (iblk m c 0 t) (iblk m c 1 t)) (iblk m c 2 t) (iblk m c 3 t) := by
  unfold outsAt0
  frame_out

/-- Where the blocks lie, decided once over the grid. -/
theorem idx : ∀ t : Fin cfg0.N,
    win0_0.index t (0 : Fin 2) = t.val / 1 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 1
    ∧ win0_3.index t (0 : Fin 2) = 0 ∧ win0_3.index t (1 : Fin 2) = t.val % 1
    ∧ win0_4.index t (0 : Fin 2) = t.val / 1 ∧ win0_4.index t (1 : Fin 2) = t.val % 1 :=
  (by decide +kernel : ∀ t : Fin grid0.N, _)

abbrev X (c : Dev nD) : FVec Ideal S256x2048 .f32 := m ((c : Thread nD τ).loc main_arg0)
abbrev G (c : Dev nD) : FVec Ideal S2x2048 .f32 := m ((c : Thread nD τ).loc main_arg1)
abbrev W (c : Dev nD) : FVec Ideal S2x2048x1024 .f32 := m ((c : Thread nD τ).loc main_arg2)
abbrev Sc (c : Dev nD) : FVec Ideal S1024 .f32 := m ((c : Thread nD τ).loc main_arg3)

/-- The row of the array that row `r` of point `t`'s block is. -/
abbrev rowOf (t : Fin cfg0.N) (r : Fin 256) : Fin 256 :=
  ⟨t.val / 1 * 256 + r.val, by have := t.isLt; have hN : cfg0.N = 1 := N_0; have := r.isLt; omega⟩

/-- The column of the array that column `k` of point `t`'s block is. -/
abbrev colOf (t : Fin cfg0.N) (k : Fin 1024) : Fin 1024 :=
  ⟨t.val % 1 * 1024 + k.val, by have := Nat.mod_lt t.val (show 1 > 0 by decide); have := k.isLt; omega⟩

theorem blk_x (c : Dev nD) (t : Fin cfg0.N) (r : Fin 256) (k : Fin 2048) :
    (show FVec Ideal S256x2048 .f32 from iblk m c 0 t) (ix2 r k) = X m c (ix2 (rowOf t r) k) := by
  blk_ext [iblk, V, idx t]

/-- The gains the call stages: the layer's row of the argument, which the host slices out. -/
theorem entry_g (c : Dev nD) (k : Fin 2048) :
    (show FVec Ideal S1x2048 .f32 from V m c main_v2) (ix2 0 k) = G m c (ix2 0 k) := by
  entry_read
  pointwise

theorem blk_g (c : Dev nD) (t : Fin cfg0.N) (k : Fin 2048) :
    (show FVec Ideal S1x2048 .f32 from iblk m c 1 t) (ix2 0 k) = G m c (ix2 0 k) := by
  rw [← entry_g m c k]
  blk_ext [iblk, idx t]

theorem blk_w (c : Dev nD) (t : Fin cfg0.N) (l : Fin 2048) (k : Fin 1024) :
    (show FVec Ideal S1x2048x1024 .f32 from iblk m c 2 t) (ix3 0 l k) = W m c (ix3 0 l (colOf t k)) := by
  blk_ext [iblk, V, idx t]

/-- The scales the call stages: the argument as one row. -/
theorem entry_s (c : Dev nD) (k : Fin 1024) :
    (show FVec Ideal S1x1024 .f32 from V m c main_v3) (ix2 0 k) = Sc m c (ix1 k) := by
  entry_read
  pointwise

theorem blk_s (c : Dev nD) (t : Fin cfg0.N) (k : Fin 1024) :
    (show FVec Ideal S1x1024 .f32 from iblk m c 3 t) (ix2 0 k) = Sc m c (ix1 (colOf t k)) := by
  rw [← entry_s m c (colOf t k)]
  blk_ext [iblk, idx t]

/-- The normalised row `R` of the argument. -/
abbrev hRow (c : Dev nD) (R : Fin 256) : Fin 2048 → EReal :=
  rms (fun l => X m c (ix2 R l)) (fun l => G m c (ix2 0 l))

theorem norm_blk (c : Dev nD) (t : Fin cfg0.N) (r : Fin 256) (l : Fin 2048) :
    k0_pay1 (F := Ideal) (iblk m c 0 t) (iblk m c 1 t) (ix2 r l) = hRow m c (rowOf t r) l := by
  rw [norm_apply]
  exact congrArg₂ (fun a b => rms a b l) (funext fun k => blk_x m c t r k) (funext fun k => blk_g m c t k)

/-- The result, entry by entry, from the call's arguments. -/
def layer (c : Dev nD) (i : S256x1024.Idx) : EReal :=
  (∑ l : Fin 2048, hRow m c (i 0) l * W m c (ix3 0 l (i 1))) * Sc m c (ix1 (i 1))

theorem prod_blk (c : Dev nD) (t : Fin cfg0.N) (h : FVec Ideal S256x2048 .bf16) (r : Fin 256) (k : Fin 1024)
    (hh : ∀ l, h (ix2 r l) = hRow m c (rowOf t r) l) :
    k0_pay2 (F := Ideal) h (iblk m c 2 t) (iblk m c 3 t) (ix2 r k) = layer m c (ix2 (rowOf t r) (colOf t k)) := by
  rw [prod_apply]
  unfold layer
  exact Ideal.mul_congr (Finset.sum_congr rfl fun l _ => Ideal.mul_congr (hh l) (blk_w m c t l k)) (blk_s m c t k)

theorem block_eq (c : Dev nD) (t : Fin cfg0.N) (r : Fin 256) (k : Fin 1024) :
    outsAt0 m c t (ix2 r k) = layer m c (ix2 (rowOf t r) (colOf t k)) := by
  rw [outs_eq m c t]
  exact prod_blk m c t _ r k fun l => norm_blk m c t r l

/-- The result array after the run. -/
theorem array_eq (c : Dev nD) : (dats m 0 c).arrAt 4 cfg0.N = layer m c := by
  refine (dats m 0 c).arrAt_eq_of_covers 4 _ (by decide +kernel) fun t hf y => ?_
  blk_simp
  rw [after0_4]
  idx_vars y
  have e : ((View.whole main_v4).slice (win0_4.rect t)).emb (ix2 y0 y1) = ix2 (rowOf t y0) (colOf t y1) := by
    blk_ext [idx t]
  rw [e]
  exact block_eq m c t y0 y1

end Cert.MemProjIdeal.Hand

end
-- ==== Proof.MemProjReference.lean ====
/- The first layer's memory projection's reference, read at an index. -/
module

public import proofs.«01_k».proof.Proof.FfnMath
public import proofs.«01_k».proof.Proof.Gen.MemProjRefIdeal.Run
public import Idealize.ShloMosaic.Lib.Pointwise
public import Idealize.ShloMosaic.Lib.Claim

@[expose] public section

set_option maxRecDepth 16384

noncomputable section

namespace Cert.MemProjRefIdeal.Hand

open Cert.MemProjRefIdeal Cert.MemProjRefIdeal.Gen Cert.FfnMath Idealize.ShloMosaic Idealize.ShloMosaic.TcCoe Idealize.SL.Sem

/-- The normalised rows. -/
def normed (x : FVec Ideal S256x2048 .f32) (g : FVec Ideal S2x2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ (extractStridedSlice S1x2048 ![0, 0] g slices_S2x2048_S1x2048_0_0) shapeCasts_S1x2048_S2048)))

/-- The reference's term. -/
def term (x : FVec Ideal S256x2048 .f32) (g : FVec Ideal S2x2048 .f32) (w : FVec Ideal S2x2048x1024 .f32)
    (s : FVec Ideal S1024 .f32) : FVec Ideal S256x1024 .bf16 :=
  truncf .bf16 (mulf (Host.dotGeneral dot_S256x2048_S2048x1024_S256x1024_1_0_0_1_n_n none (normed x g) (shapeCast _ (extractStridedSlice S1x2048x1024 ![0, 0, 0] w slices_S2x2048x1024_S1x2048x1024_0_0_0) shapeCasts_S1x2048x1024_S2048x1024)) (broadcastInDim S256x1024 ![0, 1] bcast_S1x1024_S256x1024_0_1 (broadcastInDim S1x1024 ![1] bcast_S1024_S1x1024_1 s))) bitsLt_bf16_f32

theorem normed_apply (x : FVec Ideal S256x2048 .f32) (g : FVec Ideal S2x2048 .f32) (r : Fin 256) (k : Fin 2048) :
    normed x g (ix2 r k) = rms (fun l => x (ix2 r l)) (fun l => g (ix2 0 l)) k := by
  pointwise [normed, rms]

theorem term_apply (x : FVec Ideal S256x2048 .f32) (g : FVec Ideal S2x2048 .f32) (w : FVec Ideal S2x2048x1024 .f32)
    (s : FVec Ideal S1024 .f32) (r : Fin 256) (k : Fin 1024) :
    term x g w s (ix2 r k) = (∑ l : Fin 2048, rms (fun l => x (ix2 r l)) (fun l => g (ix2 0 l)) l * w (ix3 0 l k)) * s (ix1 k) := by
  pointwise [term, normed_apply]

end Cert.MemProjRefIdeal.Hand

end
-- ==== Proof.MemProjOddKernel.lean ====
/- What the second layer's memory projection leaves in its result array: at every row and column the normalised row
   against the weight's column, times the column's scale. -/
module

public import proofs.«01_k».proof.Proof.FfnMath
public import proofs.«01_k».proof.Proof.Gen.MemProjOddIdeal.Value
public import Idealize.ShloMosaic.Lib.Pointwise
public import Idealize.ShloMosaic.Lib.Pipeline.ValueKit
public import Idealize.ShloMosaic.Lib.Claim

@[expose] public section

set_option maxRecDepth 16384

noncomputable section

namespace Cert.MemProjOddIdeal.Hand

open Cert.MemProjOddIdeal Cert.MemProjOddIdeal.Gen Cert.FfnMath Idealize.ShloMosaic Idealize.ShloMosaic.TcCoe Idealize.SL.Sem

/-- The body's first payload is the normalised row. -/
theorem norm_apply (x : FVec Ideal S256x2048 .f32) (g : FVec Ideal S1x2048 .f32) (r : Fin 256) (k : Fin 2048) :
    k0_pay1 (F := Ideal) x g (ix2 r k) = rms (fun l => x (ix2 r l)) (fun l => g (ix2 0 l)) k := by
  pointwise [k0_pay1, rms]

/-- The body's second payload is the scaled product of a normalised row and a weight column. -/
theorem prod_apply (h : FVec Ideal S256x2048 .bf16) (w : FVec Ideal S1x2048x1024 .f32) (s : FVec Ideal S1x1024 .f32)
    (r : Fin 256) (k : Fin 1024) :
    k0_pay2 (F := Ideal) h w s (ix2 r k) = (∑ l : Fin 2048, h (ix2 r l) * w (ix3 0 l k)) * s (ix2 0 k) := by
  pointwise [k0_pay2]

variable (m : (ℓ : Loc nD τ sig) → Buf (Elt Ideal) ℓ)

/-- The one point normalises the rows and stores their scaled products. -/
theorem outs_eq (c : Dev nD) (t : Fin cfg0.N) : outsAt0 m c t =
    k0_pay2 (k0_pay1 (iblk m c 0 t) (iblk m c 1 t)) (iblk m c 2 t) (iblk m c 3 t) := by
  unfold outsAt0
  frame_out

/-- Where the blocks lie, decided once over the grid. -/
theorem idx : ∀ t : Fin cfg0.N,
    win0_0.index t (0 : Fin 2) = t.val / 1 ∧ win0_0.index t (1 : Fin 2) = 0
    ∧ win0_1.index t (0 : Fin 2) = 0 ∧ win0_1.index t (1 : Fin 2) = 0
    ∧ win0_2.index t (0 : Fin 3) = 1 ∧ win0_2.index t (1 : Fin 3) = 0 ∧ win0_2.index t (2 : Fin 3) = t.val % 1
    ∧ win0_3.index t (0 : Fin 2) = 0 ∧ win0_3.index t (1 : Fin 2) = t.val % 1
    ∧ win0_4.index t (0 : Fin 2) = t.val / 1 ∧ win0_4.index t (1 : Fin 2) = t.val % 1 :=
  (by decide +kernel : ∀ t : Fin grid0.N, _)

abbrev X (c : Dev nD) : FVec Ideal S256x2048 .f32 := m ((c : Thread nD τ).loc main_arg0)
abbrev G (c : Dev nD) : FVec Ideal S2x2048 .f32 := m ((c : Thread nD τ).loc main_arg1)
abbrev W (c : Dev nD) : FVec Ideal S2x2048x1024 .f32 := m ((c : Thread nD τ).loc main_arg2)
abbrev Sc (c : Dev nD) : FVec Ideal S1024 .f32 := m ((c : Thread nD τ).loc main_arg3)

/-- The row of the array that row `r` of point `t`'s block is. -/
abbrev rowOf (t : Fin cfg0.N) (r : Fin 256) : Fin 256 :=
  ⟨t.val / 1 * 256 + r.val, by have := t.isLt; have hN : cfg0.N = 1 := N_0; have := r.isLt; omega⟩

/-- The column of the array that column `k` of point `t`'s block is. -/
abbrev colOf (t : Fin cfg0.N) (k : Fin 1024) : Fin 1024 :=
  ⟨t.val % 1 * 1024 + k.val, by have := Nat.mod_lt t.val (show 1 > 0 by decide); have := k.isLt; omega⟩

theorem blk_x (c : Dev nD) (t : Fin cfg0.N) (r : Fin 256) (k : Fin 2048) :
    (show FVec Ideal S256x2048 .f32 from iblk m c 0 t) (ix2 r k) = X m c (ix2 (rowOf t r) k) := by
  blk_ext [iblk, V, idx t]

/-- The gains the call stages: the layer's row of the argument, which the host slices out. -/
theorem entry_g (c : Dev nD) (k : Fin 2048) :
    (show FVec Ideal S1x2048 .f32 from V m c main_v2) (ix2 0 k) = G m c (ix2 1 k) := by
  entry_read
  pointwise

theorem blk_g (c : Dev nD) (t : Fin cfg0.N) (k : Fin 2048) :
    (show FVec Ideal S1x2048 .f32 from iblk m c 1 t) (ix2 0 k) = G m c (ix2 1 k) := by
  rw [← entry_g m c k]
  blk_ext [iblk, idx t]

theorem blk_w (c : Dev nD) (t : Fin cfg0.N) (l : Fin 2048) (k : Fin 1024) :
    (show FVec Ideal S1x2048x1024 .f32 from iblk m c 2 t) (ix3 0 l k) = W m c (ix3 1 l (colOf t k)) := by
  blk_ext [iblk, V, idx t]

/-- The scales the call stages: the argument as one row. -/
theorem entry_s (c : Dev nD) (k : Fin 1024) :
    (show FVec Ideal S1x1024 .f32 from V m c main_v3) (ix2 0 k) = Sc m c (ix1 k) := by
  entry_read
  pointwise

theorem blk_s (c : Dev nD) (t : Fin cfg0.N) (k : Fin 1024) :
    (show FVec Ideal S1x1024 .f32 from iblk m c 3 t) (ix2 0 k) = Sc m c (ix1 (colOf t k)) := by
  rw [← entry_s m c (colOf t k)]
  blk_ext [iblk, idx t]

/-- The normalised row `R` of the argument. -/
abbrev hRow (c : Dev nD) (R : Fin 256) : Fin 2048 → EReal :=
  rms (fun l => X m c (ix2 R l)) (fun l => G m c (ix2 1 l))

theorem norm_blk (c : Dev nD) (t : Fin cfg0.N) (r : Fin 256) (l : Fin 2048) :
    k0_pay1 (F := Ideal) (iblk m c 0 t) (iblk m c 1 t) (ix2 r l) = hRow m c (rowOf t r) l := by
  rw [norm_apply]
  exact congrArg₂ (fun a b => rms a b l) (funext fun k => blk_x m c t r k) (funext fun k => blk_g m c t k)

/-- The result, entry by entry, from the call's arguments. -/
def layer (c : Dev nD) (i : S256x1024.Idx) : EReal :=
  (∑ l : Fin 2048, hRow m c (i 0) l * W m c (ix3 1 l (i 1))) * Sc m c (ix1 (i 1))

theorem prod_blk (c : Dev nD) (t : Fin cfg0.N) (h : FVec Ideal S256x2048 .bf16) (r : Fin 256) (k : Fin 1024)
    (hh : ∀ l, h (ix2 r l) = hRow m c (rowOf t r) l) :
    k0_pay2 (F := Ideal) h (iblk m c 2 t) (iblk m c 3 t) (ix2 r k) = layer m c (ix2 (rowOf t r) (colOf t k)) := by
  rw [prod_apply]
  unfold layer
  exact Ideal.mul_congr (Finset.sum_congr rfl fun l _ => Ideal.mul_congr (hh l) (blk_w m c t l k)) (blk_s m c t k)

theorem block_eq (c : Dev nD) (t : Fin cfg0.N) (r : Fin 256) (k : Fin 1024) :
    outsAt0 m c t (ix2 r k) = layer m c (ix2 (rowOf t r) (colOf t k)) := by
  rw [outs_eq m c t]
  exact prod_blk m c t _ r k fun l => norm_blk m c t r l

/-- The result array after the run. -/
theorem array_eq (c : Dev nD) : (dats m 0 c).arrAt 4 cfg0.N = layer m c := by
  refine (dats m 0 c).arrAt_eq_of_covers 4 _ (by decide +kernel) fun t hf y => ?_
  blk_simp
  rw [after0_4]
  idx_vars y
  have e : ((View.whole main_v4).slice (win0_4.rect t)).emb (ix2 y0 y1) = ix2 (rowOf t y0) (colOf t y1) := by
    blk_ext [idx t]
  rw [e]
  exact block_eq m c t y0 y1

end Cert.MemProjOddIdeal.Hand

end
-- ==== Proof.MemProjOddReference.lean ====
/- The second layer's memory projection's reference, read at an index. -/
module

public import proofs.«01_k».proof.Proof.FfnMath
public import proofs.«01_k».proof.Proof.Gen.MemProjOddRefIdeal.Run
public import Idealize.ShloMosaic.Lib.Pointwise
public import Idealize.ShloMosaic.Lib.Claim

@[expose] public section

set_option maxRecDepth 16384

noncomputable section

namespace Cert.MemProjOddRefIdeal.Hand

open Cert.MemProjOddRefIdeal Cert.MemProjOddRefIdeal.Gen Cert.FfnMath Idealize.ShloMosaic Idealize.ShloMosaic.TcCoe Idealize.SL.Sem

/-- The normalised rows. -/
def normed (x : FVec Ideal S256x2048 .f32) (g : FVec Ideal S2x2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ (extractStridedSlice S1x2048 ![1, 0] g slices_S2x2048_S1x2048_1_0) shapeCasts_S1x2048_S2048)))

/-- The reference's term. -/
def term (x : FVec Ideal S256x2048 .f32) (g : FVec Ideal S2x2048 .f32) (w : FVec Ideal S2x2048x1024 .f32)
    (s : FVec Ideal S1024 .f32) : FVec Ideal S256x1024 .bf16 :=
  truncf .bf16 (mulf (Host.dotGeneral dot_S256x2048_S2048x1024_S256x1024_1_0_0_1_n_n none (normed x g) (shapeCast _ (extractStridedSlice S1x2048x1024 ![1, 0, 0] w slices_S2x2048x1024_S1x2048x1024_1_0_0) shapeCasts_S1x2048x1024_S2048x1024)) (broadcastInDim S256x1024 ![0, 1] bcast_S1x1024_S256x1024_0_1 (broadcastInDim S1x1024 ![1] bcast_S1024_S1x1024_1 s))) bitsLt_bf16_f32

theorem normed_apply (x : FVec Ideal S256x2048 .f32) (g : FVec Ideal S2x2048 .f32) (r : Fin 256) (k : Fin 2048) :
    normed x g (ix2 r k) = rms (fun l => x (ix2 r l)) (fun l => g (ix2 1 l)) k := by
  pointwise [normed, rms]

theorem term_apply (x : FVec Ideal S256x2048 .f32) (g : FVec Ideal S2x2048 .f32) (w : FVec Ideal S2x2048x1024 .f32)
    (s : FVec Ideal S1024 .f32) (r : Fin 256) (k : Fin 1024) :
    term x g w s (ix2 r k) = (∑ l : Fin 2048, rms (fun l => x (ix2 r l)) (fun l => g (ix2 1 l)) l * w (ix3 1 l k)) * s (ix1 k) := by
  pointwise [term, normed_apply]

end Cert.MemProjOddRefIdeal.Hand

end
-- ==== Proof.MemProjTie.lean ====
/- The memory projections' equations: the reference's term is the array the call leaves. -/
module

public import proofs.«01_k».proof.Proof.MemProjKernel
public import proofs.«01_k».proof.Proof.MemProjReference
public import proofs.«01_k».proof.Proof.MemProjOddKernel
public import proofs.«01_k».proof.Proof.MemProjOddReference

@[expose] public section

set_option maxRecDepth 16384

noncomputable section

namespace Cert.MemProjTie

open Idealize.ShloMosaic Idealize.SL.Sem

theorem even (m : (ℓ : Loc Cert.MemProjIdeal.nD Cert.MemProjIdeal.τ Cert.MemProjIdeal.sig) → Buf (Elt Ideal) ℓ)
    (m' : (ℓ : Loc Cert.MemProjRefIdeal.nD Cert.MemProjRefIdeal.τ Cert.MemProjRefIdeal.sig) → Buf (Elt Ideal) ℓ) (c : Dev Cert.MemProjIdeal.nD)
    (h0 : m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0))
    (h1 : m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1))
    (h2 : m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2))
    (h3 : m' ((c.tc : Thread Cert.MemProjRefIdeal.nD Cert.MemProjRefIdeal.τ).loc Cert.MemProjRefIdeal.main_arg3) = m ((c.tc : Thread Cert.MemProjIdeal.nD Cert.MemProjIdeal.τ).loc Cert.MemProjIdeal.main_arg3)) :
    Cert.MemProjRefIdeal.Hand.term (m' ((c.tc : Thread Cert.MemProjRefIdeal.nD Cert.MemProjRefIdeal.τ).loc Cert.MemProjRefIdeal.main_arg0)) (m' ((c.tc : Thread Cert.MemProjRefIdeal.nD Cert.MemProjRefIdeal.τ).loc Cert.MemProjRefIdeal.main_arg1)) (m' ((c.tc : Thread Cert.MemProjRefIdeal.nD Cert.MemProjRefIdeal.τ).loc Cert.MemProjRefIdeal.main_arg2)) (m' ((c.tc : Thread Cert.MemProjRefIdeal.nD Cert.MemProjRefIdeal.τ).loc Cert.MemProjRefIdeal.main_arg3)) = (Cert.MemProjIdeal.Gen.dats m 0 c).arrAt 4 Cert.MemProjIdeal.cfg0.N := by
  refine Eq.trans ?_ (Cert.MemProjIdeal.Hand.array_eq m c).symm
  funext i
  obtain ⟨r, k, rfl⟩ : ∃ r k, i = ix2 r k := ⟨i 0, i 1, eq_ix2 i⟩
  rw [h0, h1, h2, h3]
  exact Cert.MemProjRefIdeal.Hand.term_apply _ _ _ _ r k

theorem odd (m : (ℓ : Loc Cert.MemProjOddIdeal.nD Cert.MemProjOddIdeal.τ Cert.MemProjOddIdeal.sig) → Buf (Elt Ideal) ℓ)
    (m' : (ℓ : Loc Cert.MemProjOddRefIdeal.nD Cert.MemProjOddRefIdeal.τ Cert.MemProjOddRefIdeal.sig) → Buf (Elt Ideal) ℓ) (c : Dev Cert.MemProjOddIdeal.nD)
    (h0 : m' ((c.tc : Thread Cert.MemProjOddRefIdeal.nD Cert.MemProjOddRefIdeal.τ).loc Cert.MemProjOddRefIdeal.main_arg0) = m ((c.tc : Thread Cert.MemProjOddIdeal.nD Cert.MemProjOddIdeal.τ).loc Cert.MemProjOddIdeal.main_arg0))
    (h1 : m' ((c.tc : Thread Cert.MemProjOddRefIdeal.nD Cert.MemProjOddRefIdeal.τ).loc Cert.MemProjOddRefIdeal.main_arg1) = m ((c.tc : Thread Cert.MemProjOddIdeal.nD Cert.MemProjOddIdeal.τ).loc Cert.MemProjOddIdeal.main_arg1))
    (h2 : m' ((c.tc : Thread Cert.MemProjOddRefIdeal.nD Cert.MemProjOddRefIdeal.τ).loc Cert.MemProjOddRefIdeal.main_arg2) = m ((c.tc : Thread Cert.MemProjOddIdeal.nD Cert.MemProjOddIdeal.τ).loc Cert.MemProjOddIdeal.main_arg2))
    (h3 : m' ((c.tc : Thread Cert.MemProjOddRefIdeal.nD Cert.MemProjOddRefIdeal.τ).loc Cert.MemProjOddRefIdeal.main_arg3) = m ((c.tc : Thread Cert.MemProjOddIdeal.nD Cert.MemProjOddIdeal.τ).loc Cert.MemProjOddIdeal.main_arg3)) :
    Cert.MemProjOddRefIdeal.Hand.term (m' ((c.tc : Thread Cert.MemProjOddRefIdeal.nD Cert.MemProjOddRefIdeal.τ).loc Cert.MemProjOddRefIdeal.main_arg0)) (m' ((c.tc : Thread Cert.MemProjOddRefIdeal.nD Cert.MemProjOddRefIdeal.τ).loc Cert.MemProjOddRefIdeal.main_arg1)) (m' ((c.tc : Thread Cert.MemProjOddRefIdeal.nD Cert.MemProjOddRefIdeal.τ).loc Cert.MemProjOddRefIdeal.main_arg2)) (m' ((c.tc : Thread Cert.MemProjOddRefIdeal.nD Cert.MemProjOddRefIdeal.τ).loc Cert.MemProjOddRefIdeal.main_arg3)) = (Cert.MemProjOddIdeal.Gen.dats m 0 c).arrAt 4 Cert.MemProjOddIdeal.cfg0.N := by
  refine Eq.trans ?_ (Cert.MemProjOddIdeal.Hand.array_eq m c).symm
  funext i
  obtain ⟨r, k, rfl⟩ : ∃ r k, i = ix2 r k := ⟨i 0, i 1, eq_ix2 i⟩
  rw [h0, h1, h2, h3]
  exact Cert.MemProjOddRefIdeal.Hand.term_apply _ _ _ _ r k

end Cert.MemProjTie

end
-- ==== Proof.SoftmaxMath.lean ====
/- Attention to a short list of keys over the extended reals, as functions of one row: the residual with the mixer's
   output projected in, the queries, the scaled scores of a head, and the weighted mean of the values, written once with
   the division after the sum over the keys and once with every weight divided first. The two agree when the scores are
   real numbers. -/
module

public import proofs.«01_k».proof.Proof.FfnMath

@[expose] public section

set_option maxRecDepth 16384

noncomputable section

namespace Cert.SoftmaxMath

open Idealize.ShloMosaic Cert.FfnMath

/-- The scale of the scores, as both programs write it. -/
abbrev scale : EReal := Ideal.ofBits .f32 0x3DB504F3#32

/-- The word a row's greatest score is searched from: minus infinity. -/
abbrev low : EReal := Ideal.ofBits .f32 0xFF800000#32

theorem low_eq : low = ⊥ := by simp [low, Ideal.ofBits, Ideal.ieee]

/-- An extended real that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem coe_sum {n : ℕ} (f : Fin n → ℝ) : (∑ i, (f i : EReal)) = ((∑ i, f i : ℝ) : EReal) := by
  induction n with
  | zero => simp
  | succ n ih => rw [Fin.sum_univ_succ, Fin.sum_univ_succ, EReal.coe_add, ih fun i => f i.succ]

theorem IsReal.sum {n : ℕ} {f : Fin n → EReal} (h : ∀ i, IsReal (f i)) : IsReal (∑ i, f i) := by
  choose g hg using h
  exact ⟨∑ i, g i, by rw [← coe_sum]; exact Finset.sum_congr rfl fun i _ => hg i⟩

theorem isReal_scale : IsReal scale :=
  ⟨0xB504F3 * 2 ^ (-27 : ℤ), by simp [scale, Ideal.ofBits, Ideal.ieee, -EReal.coe_mul]⟩

/-- A real number is what the comparison of its absolute value with the word of infinity finds. -/
theorem isReal_of_abs {x : EReal} (h : max x (-x) < ⊤) : IsReal x := by
  induction x with
  | bot => simp at h
  | top => simp at h
  | coe r => exact ⟨r, rfl⟩

/-- A normalised row of real numbers with real gains is one of real numbers: the mean square plus the small constant is
    positive. -/
theorem isReal_rms {x g : Fin 2048 → EReal} (hx : ∀ l, IsReal (x l)) (hg : ∀ l, IsReal (g l)) (k : Fin 2048) :
    IsReal (rms x g k) := by
  unfold rms
  refine ((hx k).mul ?_).mul (hg k)
  choose f hf using hx
  have hsum : (∑ l, x l * x l) = ((∑ l, f l * f l : ℝ) : EReal) := by
    rw [← coe_sum]
    exact Finset.sum_congr rfl fun l _ => by rw [hf l, EReal.coe_mul]
  have hd : Ideal.ofBits .f32 0x45000000#32 = ((2048 : ℝ) : EReal) := by
    simp [Ideal.ofBits, Ideal.ieee, -EReal.coe_mul]; norm_num
  have he : Ideal.ofBits .f32 0x358637BD#32 = ((0x8637BD * 2 ^ (-43 : ℤ) : ℝ) : EReal) := by
    simp [Ideal.ofBits, Ideal.ieee, -EReal.coe_mul]
  have hq : Ideal.div ((∑ l, f l * f l : ℝ) : EReal) ((2048 : ℝ) : EReal) = (((∑ l, f l * f l) * 2048⁻¹ : ℝ) : EReal) := by
    unfold Ideal.div
    rw [if_neg (by exact_mod_cast (by norm_num : (2048 : ℝ) ≠ 0)), ← EReal.coe_inv, ← EReal.coe_mul]
  rw [hsum, hd, he, hq, ← EReal.coe_add, Ideal.rsqrt_coe]
  have hp : (0 : ℝ) < (∑ l, f l * f l) * 2048⁻¹ + 0x8637BD * 2 ^ (-43 : ℤ) :=
    add_pos_of_nonneg_of_pos
      (mul_nonneg (Finset.sum_nonneg fun l _ => mul_self_nonneg (f l)) (by norm_num)) (by norm_num)
  rw [if_neg (not_lt.mpr hp.le), if_neg hp.ne']
  exact ⟨_, rfl⟩

variable {n : ℕ}

/-- The greatest of the scores. -/
def top (s : Fin n → EReal) : EReal := Finset.fold max low s Finset.univ

/-- The exponential of a score, taken from the greatest one. -/
def weight (s : Fin n → EReal) (j : Fin n) : EReal := Ideal.exp (s j - top s)

/-- The weighted mean with one division after the sum. -/
def mixLate (s v : Fin n → EReal) : EReal := Ideal.div (∑ j, weight s j * v j) (∑ j, weight s j)

/-- The weighted mean with every weight divided first. -/
def mixEarly (s v : Fin n → EReal) : EReal := ∑ j, Ideal.div (weight s j) (∑ l, weight s l) * v j

theorem sum_mul_real (f : Fin n → EReal) (c : ℝ) (hc : 0 ≤ c) : (∑ i, f i) * (c : EReal) = ∑ i, f i * c := by
  induction n with
  | zero => simp
  | succ n ih =>
    rw [Fin.sum_univ_succ, Fin.sum_univ_succ,
      EReal.right_distrib_of_nonneg_of_ne_top (by exact_mod_cast hc) (EReal.coe_ne_top _), ih fun i => f i.succ]

/-- The greatest entry along an array's last axis, as a reference reads it. -/
theorem rowMax_apply {a b : ℕ} (s : FVec Ideal ⟨3, ![a, b, n]⟩ .f32)
    (h : (⟨3, ![a, b, n]⟩ : Shape).ReducesTo [2] ⟨2, ![a, b]⟩) (hu : 0 < Shape.numel ⟨0, ![]⟩) (i : Fin a) (j : Fin b) :
    Host.reduce FloatOps.maximumf s (constant ⟨0, ![]⟩ .f32 0xFF800000#32) h hu (ix2 i j) = top fun k => s (ix3 i j k) := by
  rw [Host.reduce_eq_fold]
  pointwise [top]

/-- Among real scores the greatest is one of them. -/
theorem top_eq (s : Fin n → EReal) (f : Fin n → ℝ) (hf : ∀ j, s j = (f j : EReal)) (j0 : Fin n) :
    ∃ j, top s = s j := by
  have hle : ∀ j, s j ≤ top s := fun j => Finset.le_fold_max _ |>.mpr (.inr ⟨j, Finset.mem_univ _, le_rfl⟩)
  rcases (Finset.le_fold_max (f := s) (b := low) (s := Finset.univ) (top s)).mp le_rfl with h | ⟨j, -, h⟩
  · rw [low_eq, le_bot_iff] at h
    have := hle j0
    rw [h, le_bot_iff, hf j0] at this
    exact absurd this (EReal.coe_ne_bot _)
  · exact ⟨j, le_antisymm h (hle j)⟩

/-- For real scores the division may be taken before or after the sum, whatever the values are. -/
theorem mix_eq (s v : Fin n → EReal) (hs : ∀ j, IsReal (s j)) (j0 : Fin n) : mixEarly s v = mixLate s v := by
  choose f hf using hs
  obtain ⟨j1, h1⟩ := top_eq s f hf j0
  have hw : ∀ j, weight s j = ((Real.exp (f j - f j1) : ℝ) : EReal) := fun j => by
    unfold weight
    rw [h1, hf j, hf j1, ← EReal.coe_sub, Ideal.exp_coe]
  have hl : (∑ j, weight s j) = ((∑ j, Real.exp (f j - f j1) : ℝ) : EReal) := by
    rw [← coe_sum]; exact Finset.sum_congr rfl fun j _ => hw j
  have hp : (0 : ℝ) < ∑ j, Real.exp (f j - f j1) :=
    Finset.sum_pos (fun j _ => Real.exp_pos _) ⟨j0, Finset.mem_univ _⟩
  have hdiv : ∀ x : EReal, Ideal.div x (∑ j, weight s j) = x * (((∑ j, Real.exp (f j - f j1))⁻¹ : ℝ) : EReal) := fun x => by
    rw [hl]
    unfold Ideal.div
    rw [if_neg (by exact_mod_cast hp.ne'), ← EReal.coe_inv]
  unfold mixEarly mixLate
  rw [hdiv, sum_mul_real _ _ (inv_nonneg.mpr hp.le)]
  exact Finset.sum_congr rfl fun j _ => by rw [hdiv, mul_right_comm]

/-! ## The layer's row -/

/-- The residual row with the mixer's output projected in. -/
def resid (x o : Fin 2048 → EReal) (w : Fin 2048 → Fin 2048 → EReal) (l : Fin 2048) : EReal := x l + ∑ j, o j * w j l

/-- The same row with the projection taken in two halves. -/
theorem resid_halves (x o : Fin 2048 → EReal) (w : Fin 2048 → Fin 2048 → EReal) (l : Fin 2048) :
    x l + (∑ j : Fin 1024, o ⟨j.val, by omega⟩ * w ⟨j.val, by omega⟩ l)
      + (∑ j : Fin 1024, o ⟨1024 + j.val, by omega⟩ * w ⟨1024 + j.val, by omega⟩ l) = resid x o w l := by
  unfold resid
  rw [add_assoc]
  refine congrArg (x l + ·) ?_
  exact (Fin.sum_univ_add (a := 1024) (b := 1024) fun j : Fin (1024 + 1024) => o j * w j l).symm

/-- The queries of a row. -/
def query (y g : Fin 2048 → EReal) (wq : Fin 2048 → Fin 512 → EReal) (c : Fin 512) : EReal := ∑ l, rms y g l * wq l c

/-- The scaled score of a head's query against one key; the keys of the head are 128 columns of the cache's row. -/
def score (q : Fin 512 → EReal) (kv : Fin 256 → Fin 1024 → EReal) (h : Fin 4) (j : Fin 256) : EReal :=
  (∑ d : Fin 128, q ⟨h.val * 128 + d.val, by omega⟩ * kv j ⟨h.val * 128 + d.val, by omega⟩) * scale

/-- The head a column belongs to. -/
abbrev headOf (c : Fin 512) : Fin 4 := ⟨c.val / 128, by omega⟩

/-- One column of the attention's result; the values are the cache's last 512 columns. -/
def attend (q : Fin 512 → EReal) (kv : Fin 256 → Fin 1024 → EReal) (c : Fin 512) : EReal :=
  mixLate (score q kv (headOf c)) fun j => kv j ⟨512 + c.val, by omega⟩

/-- One entry of the layer's row: the residual and the attention's result projected in. -/
def attnRow (y g : Fin 2048 → EReal) (wq : Fin 2048 → Fin 512 → EReal) (kv : Fin 256 → Fin 1024 → EReal)
    (wo : Fin 512 → Fin 2048 → EReal) (k : Fin 2048) : EReal :=
  y k + ∑ c, attend (query y g wq) kv c * wo c k

theorem isReal_score {q : Fin 512 → EReal} {kv : Fin 256 → Fin 1024 → EReal} (hq : ∀ c, IsReal (q c))
    (hk : ∀ j c, IsReal (kv j c)) (h : Fin 4) (j : Fin 256) : IsReal (score q kv h j) :=
  (IsReal.sum fun _ => (hq _).mul (hk _ _)).mul isReal_scale

theorem isReal_query {y g : Fin 2048 → EReal} {wq : Fin 2048 → Fin 512 → EReal} (hy : ∀ l, IsReal (y l))
    (hg : ∀ l, IsReal (g l)) (hw : ∀ l c, IsReal (wq l c)) (c : Fin 512) : IsReal (query y g wq c) :=
  IsReal.sum fun l => (isReal_rms hy hg l).mul (hw l c)

theorem isReal_resid {x o : Fin 2048 → EReal} {w : Fin 2048 → Fin 2048 → EReal} (hx : ∀ l, IsReal (x l))
    (ho : ∀ l, IsReal (o l)) (hw : ∀ j l, IsReal (w j l)) (l : Fin 2048) : IsReal (resid x o w l) :=
  (hx l).add (IsReal.sum fun j => (ho j).mul (hw j l))

/-- One column of the attention's result by the head's own columns: offset `a`, the value's column within the head `d`. -/
theorem attend_head (q : Fin 512 → EReal) (kv : Fin 256 → Fin 1024 → EReal) (c : Fin 512) (a : ℕ) (ha : a + 128 ≤ 512)
    (hc : c.val / 128 * 128 = a) (s v : Fin 256 → EReal)
    (hs : ∀ j, s j = (∑ d : Fin 128, q ⟨a + d.val, by omega⟩ * kv j ⟨a + d.val, by omega⟩) * scale)
    (hv : ∀ j, v j = kv j ⟨512 + c.val, by omega⟩) : mixLate s v = attend q kv c := by
  subst hc
  unfold attend
  rw [show s = score q kv (headOf c) from funext hs, show v = _ from funext hv]

end Cert.SoftmaxMath

end
-- ==== Proof.NaMath.lean ====
/- The neighbourhood attention over the extended reals, as a function of one query row: the scores of the 768 keys its
   block sees, the powers of two taken from the greatest score, and the weighted mean of the values, with the division
   after the sum over the keys or with every weight divided first. The two agree when the scores are real numbers. -/
module

public import proofs.«01_k».proof.Proof.SoftmaxMath

@[expose] public section

set_option maxRecDepth 16384

noncomputable section

namespace Cert.NaMath

open Idealize.ShloMosaic Cert.SoftmaxMath

variable {n : ℕ}

/-- The power of two of a score, taken from the greatest one. -/
def weight2 (s : Fin n → EReal) (j : Fin n) : EReal := Ideal.exp2 (s j - top s)

/-- The same power, as the reference writes it. -/
def power2 (s : Fin n → EReal) (j : Fin n) : EReal := Ideal.pow (Ideal.ofBits .f32 0x40000000#32) (s j - top s)

/-- The weighted mean with one division after the sum. -/
def mixLate2 (s v : Fin n → EReal) : EReal := Ideal.div (∑ j, v j * weight2 s j) (∑ j, weight2 s j)

/-- The weighted mean with every weight divided first. -/
def mixEarly2 (s v : Fin n → EReal) : EReal := ∑ j, v j * Ideal.div (power2 s j) (∑ l, power2 s l)

/-- Positive real weights may be divided by their sum before or after the sum with the values. -/
theorem share_eq (w : Fin n → ℝ) (hw : ∀ j, 0 < w j) (j0 : Fin n) (v : Fin n → EReal) :
    (∑ j, v j * Ideal.div ((w j : ℝ) : EReal) (∑ l, ((w l : ℝ) : EReal)))
      = Ideal.div (∑ j, v j * ((w j : ℝ) : EReal)) (∑ l, ((w l : ℝ) : EReal)) := by
  have hp : (0 : ℝ) < ∑ l, w l := Finset.sum_pos (fun l _ => hw l) ⟨j0, Finset.mem_univ _⟩
  have hdiv : ∀ x : EReal, Ideal.div x (∑ l, ((w l : ℝ) : EReal)) = x * (((∑ l, w l)⁻¹ : ℝ) : EReal) := fun x => by
    rw [coe_sum]
    unfold Ideal.div
    rw [if_neg (by exact_mod_cast hp.ne'), ← EReal.coe_inv]
  rw [hdiv, sum_mul_real _ _ (inv_nonneg.mpr hp.le)]
  exact Finset.sum_congr rfl fun j _ => by rw [hdiv, mul_assoc]

theorem two_eq : Ideal.ofBits .f32 0x40000000#32 = ((2 : ℝ) : EReal) := by
  simp [Ideal.ofBits, Ideal.ieee, -EReal.coe_mul]; norm_num

theorem mix2_eq (s v : Fin n → EReal) (hs : ∀ j, IsReal (s j)) (j0 : Fin n) : mixEarly2 s v = mixLate2 s v := by
  choose f hf using hs
  obtain ⟨j1, h1⟩ := top_eq s f hf j0
  have hw : ∀ j, weight2 s j = ((Real.rpow 2 (f j - f j1) : ℝ) : EReal) := fun j => by
    unfold weight2
    rw [h1, hf j, hf j1, ← EReal.coe_sub, Ideal.exp2_coe]
  have hq : ∀ j, power2 s j = ((Real.rpow 2 (f j - f j1) : ℝ) : EReal) := fun j => by
    unfold power2
    rw [h1, hf j, hf j1, ← EReal.coe_sub, two_eq]
    rfl
  unfold mixEarly2 mixLate2
  rw [show weight2 s = _ from funext hw, show power2 s = _ from funext hq]
  exact share_eq _ (fun j => Real.rpow_pos_of_pos (by norm_num) _) j0 v

/-- The greatest entry along the third of four axes, as a reference reads it. -/
theorem keyMax_apply {a b q : ℕ} (s : FVec Ideal ⟨4, ![a, b, n, q]⟩ .f32)
    (h : (⟨4, ![a, b, n, q]⟩ : Shape).ReducesTo [2] ⟨3, ![a, b, q]⟩) (hu : 0 < Shape.numel ⟨0, ![]⟩) (i : Fin a) (j : Fin b) (l : Fin q) :
    Host.reduce FloatOps.maximumf s (constant ⟨0, ![]⟩ .f32 0xFF800000#32) h hu (ix3 i j l) = top fun k => s (ix4 i j k l) := by
  rw [Host.reduce_eq_fold]
  pointwise [top]

/-! ## The layer's row -/

/-- The first row of the keys a block of 256 query rows sees: the block above it, kept inside the sequence. -/
def first (rb : ℕ) : ℕ := 256 * min (rb - 1) 29

theorem first_le (rb : ℕ) : first rb ≤ 7424 := by unfold first; omega

/-- The row of a block's key. -/
def keyRow (rb : ℕ) (j : Fin 768) : Fin 8192 := ⟨first rb + j.val, by have := first_le rb; omega⟩

/-- The bias table of a block: the first block's, the last block's, or the inner blocks'. -/
def table (rb : ℕ) : Fin 3 := if rb = 0 then 0 else if rb = 31 then 2 else 1

/-- The score of a query row against one key of its block, in a head. -/
def score2 (x : Fin 8192 → Fin 6144 → EReal) (b : Fin 8 → Fin 3 → Fin 768 → Fin 256 → EReal) (r : Fin 8192) (h : Fin 8) (j : Fin 768) : EReal :=
  (∑ d : Fin 128, x (keyRow (r.val / 256) j) ⟨4096 + (h.val * 128 + d.val), by omega⟩ * x r ⟨3072 + (h.val * 128 + d.val), by omega⟩)
    + b h (table (r.val / 256)) j ⟨r.val % 256, by omega⟩

/-- One column of the attention's result. -/
def attend2 (x : Fin 8192 → Fin 6144 → EReal) (b : Fin 8 → Fin 3 → Fin 768 → Fin 256 → EReal) (r : Fin 8192) (k : Fin 1024) : EReal :=
  mixLate2 (score2 x b r ⟨k.val / 128, by omega⟩) fun j => x (keyRow (r.val / 256) j) ⟨5120 + k.val, by omega⟩

theorem isReal_score2 {x : Fin 8192 → Fin 6144 → EReal} {b : Fin 8 → Fin 3 → Fin 768 → Fin 256 → EReal} (hx : ∀ r l, IsReal (x r l))
    (hb : ∀ h t j q, IsReal (b h t j q)) (r : Fin 8192) (h : Fin 8) (j : Fin 768) : IsReal (score2 x b r h j) :=
  (IsReal.sum fun _ => (hx _ _).mul (hx _ _)).add (hb _ _ _ _)

end Cert.NaMath

end
-- ==== Proof.NaIdealKernel.lean ====
/- What the neighbourhood attention leaves in its result array: at every row and column the row of `NaMath`, read from
   the call's arguments. -/
module

public import proofs.«01_k».proof.Proof.NaMath
public import proofs.«01_k».proof.Proof.NaIdealFrame
public import Idealize.ShloMosaic.Lib.Pointwise
public import Idealize.ShloMosaic.Lib.Pipeline.ValueKit
public import Idealize.ShloMosaic.Lib.Claim

@[expose] public section

set_option maxRecDepth 16384

noncomputable section

namespace Cert.NaIdeal.Hand

open Cert.NaIdeal Cert.NaIdeal.Gen Cert.SoftmaxMath Cert.NaMath Idealize.ShloMosaic Idealize.ShloMosaic.TcCoe Idealize.SL.Sem

/-! ## The payloads at an index -/

theorem scores_apply (k : FVec Ideal S768x128 .bf16) (q : FVec Ideal S256x128 .bf16) (b : FVec Ideal S1x1x768x256 .f32) (j : Fin 768) (i : Fin 256) :
    k0_pay2 (F := Ideal) k q b (ix2 j i) = (∑ d : Fin 128, k (ix2 j d) * q (ix2 i d)) + b (ix4 0 0 j i) := by
  pointwise [k0_pay2]

theorem turned_apply (v : FVec Ideal S512x128 .bf16) (d : Fin 128) (j : Fin 512) :
    k0_pay22 (F := Ideal) v (ix2 d j) = v (ix2 j d) := by
  pointwise [k0_pay22]

theorem ones_apply (i : Fin 16) (j : Fin 8192) : k0_pay23 (F := Ideal) (ix2 i j) = 1 := by
  refine Eq.trans (b := Ideal.ofBits .bf16 0x3F80#16) (by pointwise [k0_pay23]) ?_
  rw [show Ideal.ofBits .bf16 0x3F80#16 = ((1 : ℝ) : EReal) by simp [Ideal.ofBits, Ideal.ieee, -EReal.coe_mul]; norm_num]
  exact EReal.coe_one

theorem mean_apply (s : FVec Ideal S768x256 .f32) (v : FVec Ideal S144x768 .bf16) (i : Fin 256) (d : Fin 128) :
    k0_pay1 (F := Ideal) s v (ix2 i d) = Ideal.div (∑ j : Fin 768, v (ix2 ⟨d.val, by omega⟩ j) * weight2 (fun j => s (ix2 j i)) j)
      (∑ j : Fin 768, v (ix2 128 j) * weight2 (fun j => s (ix2 j i)) j) := by
  pointwise [k0_pay1, weight2, top]
  rfl

/-! ## The body's parts at an index -/

theorem kwin_apply {F : FTy → Type} [FloatOps F] (x : Vec F S8192x128 .bf16) (rb : ℕ) (j : Fin 768) (d : Fin 128) :
    kwin x rb (ix2 j d) = x (ix2 (keyRow rb j) d) := by
  refine View.ld_unit_apply_of _ _ _ _ _ _ fun i => ?_
  fin_cases i
  · rfl
  · exact (Nat.zero_add _).symm

theorem qblk_apply {F : FTy → Type} [FloatOps F] (x : Vec F S8192x128 .bf16) (rb : Fin 32) (j : Fin 256) (d : Fin 128) :
    qblk x rb.val (ix2 j d) = x (ix2 ⟨256 * rb.val + j.val, by omega⟩ d) := by
  refine View.ld_unit_apply_of _ _ _ _ _ _ fun i => ?_
  fin_cases i
  · show 256 * rb.val + j.val = 256 * min rb.val 31 + j.val
    omega
  · exact (Nat.zero_add _).symm

theorem bcase_apply {F : FTy → Type} [FloatOps F] (x : Vec F S1x3x768x256 .f32) (rb : ℕ) (j : Fin 768) (i : Fin 256) :
    bcase x rb (ix4 0 0 j i) = x (ix4 0 (table rb) j i) := by
  refine View.ld_unit_apply_of _ _ _ _ _ _ fun a => ?_
  fin_cases a
  · rfl
  · show (table rb).val = caseOf rb + 0
    unfold table caseOf
    split_ifs <;> rfl
  · exact (Nat.zero_add _).symm
  · exact (Nat.zero_add _).symm

theorem SC_apply (x0 x1 : FVec Ideal S8192x128 .bf16) (x3 : FVec Ideal S1x3x768x256 .f32) (rb : Fin 32) (j : Fin 768) (i : Fin 256) :
    SC (F := Ideal) x0 x1 x3 rb.val (ix2 j i) = (∑ d : Fin 128, x1 (ix2 (keyRow rb.val j) d) * x0 (ix2 ⟨256 * rb.val + i.val, by omega⟩ d))
      + x3 (ix4 0 (table rb.val) j i) := by
  unfold SC
  rw [scores_apply]
  exact congrArg₂ (· + ·) (Finset.sum_congr rfl fun d _ => Ideal.mul_congr (kwin_apply (F := Ideal) x1 rb.val j d) (qblk_apply (F := Ideal) x0 rb i d))
    (bcase_apply (F := Ideal) x3 rb.val j i)

theorem vchunk_apply {F : FTy → Type} [FloatOps F] (x : Vec F S8192x128 .bf16) (k : Fin 16) (j : Fin 512) (d : Fin 128) :
    vchunk x k.val (ix2 j d) = x (ix2 ⟨512 * k.val + j.val, by omega⟩ d) := by
  refine View.ld_unit_apply_of _ _ _ _ _ _ fun i => ?_
  fin_cases i
  · show 512 * k.val + j.val = 512 * min k.val 15 + j.val
    omega
  · exact (Nat.zero_add _).symm

theorem vtOf_apply (x2 : FVec Ideal S8192x128 .bf16) (d : Fin 128) (r : Fin 8192) :
    vtOf (F := Ideal) x2 (ix2 ⟨d.val, by omega⟩ r) = x2 (ix2 r d) := by
  refine (vtOf_row (F := Ideal) x2 _ (r.val / 512) (ix2 d ⟨r.val % 512, by omega⟩) rfl
    (by show r.val = 512 * (r.val / 512) + r.val % 512; omega)).trans ((turned_apply _ d ⟨r.val % 512, by omega⟩).trans ?_)
  refine (vchunk_apply (F := Ideal) x2 ⟨r.val / 512, by omega⟩ ⟨r.val % 512, by omega⟩ d).trans (congrArg (fun a => x2 (ix2 a d)) (Fin.ext ?_))
  show 512 * (r.val / 512) + r.val % 512 = r.val
  omega

theorem vtw_at {F : FTy → Type} [FloatOps F] (x2 : Vec F S8192x128 .bf16) (rb : ℕ) (a : Fin 144) (j : Fin 768) :
    vtw x2 rb (ix2 a j) = vtOf x2 (ix2 a (keyRow rb j)) := by
  refine View.ld_unit_apply_of _ _ _ _ _ _ fun i => ?_
  fin_cases i
  · exact (Nat.zero_add _).symm
  · rfl

theorem vtw_one (x2 : FVec Ideal S8192x128 .bf16) (rb : ℕ) (j : Fin 768) : vtw (F := Ideal) x2 rb (ix2 128 j) = 1 := by
  exact (vtw_at (F := Ideal) x2 rb 128 j).trans ((vtOf_one (F := Ideal) x2 _ (ix2 0 (keyRow rb j)) rfl rfl).trans (ones_apply 0 _))

theorem blk_apply (x0 x1 x2 : FVec Ideal S8192x128 .bf16) (x3 : FVec Ideal S1x3x768x256 .f32) (rb : Fin 32) (i : Fin 256) (d : Fin 128) :
    blk (F := Ideal) x0 x1 x2 x3 rb.val (ix2 i d) = mixLate2 (fun j => SC (F := Ideal) x0 x1 x3 rb.val (ix2 j i)) fun j => x2 (ix2 (keyRow rb.val j) d) := by
  unfold blk mixLate2
  rw [mean_apply]
  refine congrArg₂ Ideal.div (Finset.sum_congr rfl fun j _ => congrArg (· * _) ?_) (Finset.sum_congr rfl fun j _ => ?_)
  · exact (vtw_at (F := Ideal) x2 rb.val ⟨d.val, by omega⟩ j).trans (vtOf_apply x2 d (keyRow rb.val j))
  · rw [vtw_one, one_mul]

theorem out_apply (x0 x1 x2 : FVec Ideal S8192x128 .bf16) (x3 : FVec Ideal S1x3x768x256 .f32) (r : Fin 8192) (d : Fin 128) :
    outOf (F := Ideal) x0 x1 x2 x3 (ix2 r d) = mixLate2 (fun j => (∑ e : Fin 128, x1 (ix2 (keyRow (r.val / 256) j) e) * x0 (ix2 r e))
      + x3 (ix4 0 (table (r.val / 256)) j ⟨r.val % 256, by omega⟩)) fun j => x2 (ix2 (keyRow (r.val / 256) j) d) := by
  refine (outOf_row (F := Ideal) x0 x1 x2 x3 _ (r.val / 256) (ix2 ⟨r.val % 256, by omega⟩ d)
    (by show r.val = 256 * (r.val / 256) + r.val % 256; omega) rfl).trans ?_
  refine (blk_apply x0 x1 x2 x3 ⟨r.val / 256, by omega⟩ _ d).trans (congrArg (mixLate2 · _) (funext fun j => ?_))
  rw [SC_apply]
  refine congrArg (· + _) (Finset.sum_congr rfl fun e _ => congrArg (fun a => _ * x0 (ix2 a e)) (Fin.ext ?_))
  show 256 * (r.val / 256) + r.val % 256 = r.val
  omega

/-! ## The blocks -/

variable (m : (ℓ : Loc nD τ sig) → Buf (Elt Ideal) ℓ)

/-- Where the blocks lie, decided once over the grid. -/
theorem idx : ∀ t : Fin cfg0.N,
    win0_0.index t (0 : Fin 2) = 0 ∧ win0_0.index t (1 : Fin 2) = 24 + t.val
    ∧ win0_1.index t (0 : Fin 2) = 0 ∧ win0_1.index t (1 : Fin 2) = 32 + t.val
    ∧ win0_2.index t (0 : Fin 2) = 0 ∧ win0_2.index t (1 : Fin 2) = 40 + t.val
    ∧ win0_3.index t (0 : Fin 4) = t.val ∧ win0_3.index t (1 : Fin 4) = 0 ∧ win0_3.index t (2 : Fin 4) = 0 ∧ win0_3.index t (3 : Fin 4) = 0
    ∧ win0_4.index t (0 : Fin 2) = 0 ∧ win0_4.index t (1 : Fin 2) = t.val :=
  (by decide +kernel : ∀ t : Fin grid0.N, _)

abbrev X (c : Dev nD) : FVec Ideal S8192x6144 .bf16 := m ((c : Thread nD τ).loc main_arg0)
abbrev B (c : Dev nD) : FVec Ideal S8x3x768x256 .f32 := m ((c : Thread nD τ).loc main_arg1)

/-- The head a point works on. -/
abbrev headAt (t : Fin cfg0.N) : Fin 8 := ⟨t.val, by have := t.isLt; have hN : cfg0.N = 8 := N_0; omega⟩

theorem blk_q (c : Dev nD) (t : Fin cfg0.N) (r : Fin 8192) (d : Fin 128) :
    (show FVec Ideal S8192x128 .bf16 from iblk m c 0 t) (ix2 r d) = X m c (ix2 r ⟨(24 + (headAt t).val) * 128 + d.val, by omega⟩) := by
  blk_ext [iblk, V, idx t]

theorem blk_k (c : Dev nD) (t : Fin cfg0.N) (r : Fin 8192) (d : Fin 128) :
    (show FVec Ideal S8192x128 .bf16 from iblk m c 1 t) (ix2 r d) = X m c (ix2 r ⟨(32 + (headAt t).val) * 128 + d.val, by omega⟩) := by
  blk_ext [iblk, V, idx t]

theorem blk_v (c : Dev nD) (t : Fin cfg0.N) (r : Fin 8192) (d : Fin 128) :
    (show FVec Ideal S8192x128 .bf16 from iblk m c 2 t) (ix2 r d) = X m c (ix2 r ⟨(40 + (headAt t).val) * 128 + d.val, by omega⟩) := by
  blk_ext [iblk, V, idx t]

theorem blk_b (c : Dev nD) (t : Fin cfg0.N) (l : Fin 3) (j : Fin 768) (i : Fin 256) :
    (show FVec Ideal S1x3x768x256 .f32 from iblk m c 3 t) (ix4 0 l j i) = B m c (ix4 (headAt t) l j i) := by
  blk_ext [iblk, V, idx t]

/-- The result, entry by entry, from the call's arguments. -/
def attention (c : Dev nD) (i : S8192x1024.Idx) : EReal :=
  attend2 (fun r l => X m c (ix2 r l)) (fun h t j q => B m c (ix4 h t j q)) (i 0) (i 1)

theorem block_eq (c : Dev nD) (t : Fin cfg0.N) (r : Fin 8192) (d : Fin 128) :
    outOf (F := Ideal) (iblk m c 0 t) (iblk m c 1 t) (iblk m c 2 t) (iblk m c 3 t) (ix2 r d)
      = attention m c (ix2 r ⟨(headAt t).val * 128 + d.val, by omega⟩) := by
  rw [out_apply]
  have hh : (⟨((headAt t).val * 128 + d.val) / 128, by omega⟩ : Fin 8) = headAt t :=
    Fin.ext (by show ((headAt t).val * 128 + d.val) / 128 = (headAt t).val; omega)
  show _ = mixLate2 (score2 _ _ r ⟨((headAt t).val * 128 + d.val) / 128, _⟩) fun j => X m c (ix2 _ ⟨5120 + ((headAt t).val * 128 + d.val), _⟩)
  rw [hh]
  refine congrArg₂ mixLate2 (funext fun j => congrArg₂ (· + ·) (Finset.sum_congr rfl fun e _ => Ideal.mul_congr ?_ ?_) (blk_b m c t _ _ _)) (funext fun j => ?_)
  · refine (blk_k m c t _ e).trans (congrArg (fun l => X m c (ix2 _ l)) (Fin.ext ?_))
    show (32 + (headAt t).val) * 128 + e.val = 4096 + ((headAt t).val * 128 + e.val)
    omega
  · refine (blk_q m c t _ e).trans (congrArg (fun l => X m c (ix2 _ l)) (Fin.ext ?_))
    show (24 + (headAt t).val) * 128 + e.val = 3072 + ((headAt t).val * 128 + e.val)
    omega
  · refine (blk_v m c t _ d).trans (congrArg (fun l => X m c (ix2 _ l)) (Fin.ext ?_))
    show (40 + (headAt t).val) * 128 + d.val = 5120 + ((headAt t).val * 128 + d.val)
    omega

/-- The result array after the run. -/
theorem array_eq (c : Dev nD) : (dats m 0 c).arrAt 4 cfg0.N = attention m c := by
  refine (dats m 0 c).arrAt_eq_of_covers 4 _ (by decide +kernel) fun t hf y => ?_
  blk_simp
  rw [after0_4]
  idx_vars y
  have e : ((View.whole main_v0).slice (win0_4.rect t)).emb (ix2 y0 y1) = ix2 y0 ⟨(headAt t).val * 128 + y1.val, by omega⟩ := by
    blk_ext [idx t]
  rw [e]
  exact block_eq m c t y0 y1

end Cert.NaIdeal.Hand

end
-- ==== Proof.NaReference.lean ====
/- The neighbourhood attention: the reference, read at an index. -/
module

public import proofs.«01_k».proof.Proof.NaMath
public import proofs.«01_k».proof.Proof.Gen.NaRefIdeal.Run
public import Idealize.ShloMosaic.Lib.Pointwise
public import Idealize.ShloMosaic.Lib.Pipeline.ValueKit
public import Idealize.ShloMosaic.Lib.Claim
public import Idealize.ShloMosaic.Lib.KernelVsHost

@[expose] public section

set_option maxRecDepth 16384

noncomputable section

namespace Cert.NaRefIdeal.Hand

open Cert.NaRefIdeal Cert.NaRefIdeal.Gen Cert.SoftmaxMath Cert.NaMath Idealize.ShloMosaic Idealize.ShloMosaic.TcCoe Idealize.SL.Sem

/-- The projection's rows by block, row of the block, part, head and column. -/
def grid (x : FVec Ideal S8192x6144 .bf16) : FVec Ideal S32x256x6x8x128 .f32 :=
  shapeCast _ (extf .f32 x bitsLt_bf16_f32) shapeCasts_S8192x6144_S32x256x6x8x128

/-- The queries. -/
def queries (x : FVec Ideal S8192x6144 .bf16) : FVec Ideal S32x256x8x128 .f32 :=
  shapeCast _ (extractStridedSlice S32x256x1x8x128 ![0, 0, 3, 0, 0] (grid x) slices_S32x256x6x8x128_S32x256x1x8x128_0_0_3_0_0) shapeCasts_S32x256x1x8x128_S32x256x8x128

/-- The keys. -/
def keys (x : FVec Ideal S8192x6144 .bf16) : FVec Ideal S32x256x8x128 .f32 :=
  shapeCast _ (extractStridedSlice S32x256x1x8x128 ![0, 0, 4, 0, 0] (grid x) slices_S32x256x6x8x128_S32x256x1x8x128_0_0_4_0_0) shapeCasts_S32x256x1x8x128_S32x256x8x128

/-- The values. -/
def values (x : FVec Ideal S8192x6144 .bf16) : FVec Ideal S32x256x8x128 .f32 :=
  shapeCast _ (extractStridedSlice S32x256x1x8x128 ![0, 0, 5, 0, 0] (grid x) slices_S32x256x6x8x128_S32x256x1x8x128_0_0_5_0_0) shapeCasts_S32x256x1x8x128_S32x256x8x128

/-- The first block every block sees. -/
def part0 (y : FVec Ideal S32x256x8x128 .f32) : FVec Ideal S32x256x8x128 .f32 :=
  concatenate S32x256x8x128 0 [⟨S1x256x8x128, extractStridedSlice S1x256x8x128 ![0, 0, 0, 0] y slices_S32x256x8x128_S1x256x8x128_0_0_0_0⟩, ⟨S30x256x8x128, extractStridedSlice S30x256x8x128 ![0, 0, 0, 0] y slices_S32x256x8x128_S30x256x8x128_0_0_0_0⟩, ⟨S1x256x8x128, extractStridedSlice S1x256x8x128 ![29, 0, 0, 0] y slices_S32x256x8x128_S1x256x8x128_29_0_0_0⟩] concatenates_S1x256x8x128_S30x256x8x128_S1x256x8x128_S32x256x8x128_d0

/-- The second block every block sees. -/
def part1 (y : FVec Ideal S32x256x8x128 .f32) : FVec Ideal S32x256x8x128 .f32 :=
  concatenate S32x256x8x128 0 [⟨S1x256x8x128, extractStridedSlice S1x256x8x128 ![1, 0, 0, 0] y slices_S32x256x8x128_S1x256x8x128_1_0_0_0⟩, ⟨S30x256x8x128, extractStridedSlice S30x256x8x128 ![1, 0, 0, 0] y slices_S32x256x8x128_S30x256x8x128_1_0_0_0⟩, ⟨S1x256x8x128, extractStridedSlice S1x256x8x128 ![30, 0, 0, 0] y slices_S32x256x8x128_S1x256x8x128_30_0_0_0⟩] concatenates_S1x256x8x128_S30x256x8x128_S1x256x8x128_S32x256x8x128_d0

/-- The third block every block sees. -/
def part2 (y : FVec Ideal S32x256x8x128 .f32) : FVec Ideal S32x256x8x128 .f32 :=
  concatenate S32x256x8x128 0 [⟨S1x256x8x128, extractStridedSlice S1x256x8x128 ![2, 0, 0, 0] y slices_S32x256x8x128_S1x256x8x128_2_0_0_0⟩, ⟨S30x256x8x128, extractStridedSlice S30x256x8x128 ![2, 0, 0, 0] y slices_S32x256x8x128_S30x256x8x128_2_0_0_0⟩, ⟨S1x256x8x128, extractStridedSlice S1x256x8x128 ![31, 0, 0, 0] y slices_S32x256x8x128_S1x256x8x128_31_0_0_0⟩] concatenates_S1x256x8x128_S30x256x8x128_S1x256x8x128_S32x256x8x128_d0

/-- The 768 rows every block sees. -/
def windows (y : FVec Ideal S32x256x8x128 .f32) : FVec Ideal S32x768x8x128 .f32 :=
  concatenate S32x768x8x128 1 [⟨S32x256x8x128, part0 y⟩, ⟨S32x256x8x128, part1 y⟩, ⟨S32x256x8x128, part2 y⟩] concatenates_S32x256x8x128_S32x256x8x128_S32x256x8x128_S32x768x8x128_d1

/-- The bias of every block. -/
def biases (b : FVec Ideal S8x3x768x256 .f32) : FVec Ideal S8x32x768x256 .f32 :=
  concatenate S8x32x768x256 1 [⟨S8x1x768x256, extractStridedSlice S8x1x768x256 ![0, 0, 0, 0] b slices_S8x3x768x256_S8x1x768x256_0_0_0_0⟩, ⟨S8x30x768x256, broadcastInDim S8x30x768x256 ![0, 1, 2, 3] bcast_S8x1x768x256_S8x30x768x256_0_1_2_3 (extractStridedSlice S8x1x768x256 ![0, 1, 0, 0] b slices_S8x3x768x256_S8x1x768x256_0_1_0_0)⟩, ⟨S8x1x768x256, extractStridedSlice S8x1x768x256 ![0, 2, 0, 0] b slices_S8x3x768x256_S8x1x768x256_0_2_0_0⟩] concatenates_S8x1x768x256_S8x30x768x256_S8x1x768x256_S8x32x768x256_d1

/-- The scores. -/
def scores (k : FVec Ideal S32x768x8x128 .f32) (q : FVec Ideal S32x256x8x128 .f32) (b : FVec Ideal S8x32x768x256 .f32) : FVec Ideal S8x32x768x256 .f32 :=
  addf (Host.dotGeneral dot_S32x768x8x128_S32x256x8x128_S8x32x768x256_3_3_1_1_20_20 none k q) b

/-- Every query's greatest score. -/
def peaks (s : FVec Ideal S8x32x768x256 .f32) : FVec Ideal S8x32x256 .f32 :=
  Host.reduce FloatOps.maximumf s (constant S_ .f32 0xFF800000#32) reducesTo_S8x32x768x256_S8x32x256_d2 h_S_

/-- The powers of two of the scores, taken from each query's greatest. -/
def weights (s : FVec Ideal S8x32x768x256 .f32) : FVec Ideal S8x32x768x256 .f32 :=
  Host.powf (broadcastInDim S8x32x768x256 ![] bcast_S_S8x32x768x256 (constant S_ .f32 0x40000000#32)) (subf s (broadcastInDim S8x32x768x256 ![0, 1, 2, 3] bcast_S8x32x1x256_S8x32x768x256_0_1_2_3 (broadcastInDim S8x32x1x256 ![0, 1, 3] bcast_S8x32x256_S8x32x1x256_0_1_3 (peaks s))))

/-- Every weight over its query's sum. -/
def shares (s : FVec Ideal S8x32x768x256 .f32) : FVec Ideal S8x32x768x256 .f32 :=
  Host.divf (weights s) (broadcastInDim S8x32x768x256 ![0, 1, 2, 3] bcast_S8x32x1x256_S8x32x768x256_0_1_2_3 (broadcastInDim S8x32x1x256 ![0, 1, 3] bcast_S8x32x256_S8x32x1x256_0_1_3 (Host.reduceAdd (weights s) (constant S_ .f32 0x00000000#32) reducesTo_S8x32x768x256_S8x32x256_d2 h_S_)))

/-- The attention's result from the windows of the values and the shares. -/
def mixed (v : FVec Ideal S32x768x8x128 .f32) (p : FVec Ideal S8x32x768x256 .f32) : FVec Ideal S8192x1024 .bf16 :=
  truncf .bf16 (shapeCast _ (transpose S32x256x8x128 [0, 3, 1, 2] (Host.dotGeneral dot_S32x768x8x128_S8x32x768x256_S32x8x128x256_1_2_3_3_02_10 none v p) transposes_S32x8x128x256_S32x256x8x128_0_3_1_2) shapeCasts_S32x256x8x128_S8192x1024) bitsLt_bf16_f32

/-- The reference's term. -/
def term (x : FVec Ideal S8192x6144 .bf16) (b : FVec Ideal S8x3x768x256 .f32) : FVec Ideal S8192x1024 .bf16 :=
  mixed (windows (values x)) (shares (scores (windows (keys x)) (queries x) (biases b)))

theorem queries_apply (x : FVec Ideal S8192x6144 .bf16) (rb : Fin 32) (q : Fin 256) (h : Fin 8) (d : Fin 128) :
    queries x (ix4 rb q h d) = x (ix2 ⟨rb.val * 256 + q.val, by omega⟩ ⟨3072 + h.val * 128 + d.val, by omega⟩) := by
  pointwise [queries, grid]

theorem keys_apply (x : FVec Ideal S8192x6144 .bf16) (rb : Fin 32) (q : Fin 256) (h : Fin 8) (d : Fin 128) :
    keys x (ix4 rb q h d) = x (ix2 ⟨rb.val * 256 + q.val, by omega⟩ ⟨4096 + h.val * 128 + d.val, by omega⟩) := by
  pointwise [keys, grid]

theorem values_apply (x : FVec Ideal S8192x6144 .bf16) (rb : Fin 32) (q : Fin 256) (h : Fin 8) (d : Fin 128) :
    values x (ix4 rb q h d) = x (ix2 ⟨rb.val * 256 + q.val, by omega⟩ ⟨5120 + h.val * 128 + d.val, by omega⟩) := by
  pointwise [values, grid]

theorem part0_apply (y : FVec Ideal S32x256x8x128 .f32) (rb : Fin 32) (q : Fin 256) (h : Fin 8) (d : Fin 128) :
    part0 y (ix4 rb q h d) = y (ix4 ⟨min (rb.val - 1) 29 + 0, by omega⟩ q h d) := by
  pointwise [part0]
  split_ifs
  all_goals exact congrArg (fun l => y (ix4 l q h d)) (Fin.ext (by simp; omega))

theorem part1_apply (y : FVec Ideal S32x256x8x128 .f32) (rb : Fin 32) (q : Fin 256) (h : Fin 8) (d : Fin 128) :
    part1 y (ix4 rb q h d) = y (ix4 ⟨min (rb.val - 1) 29 + 1, by omega⟩ q h d) := by
  pointwise [part1]
  split_ifs
  all_goals exact congrArg (fun l => y (ix4 l q h d)) (Fin.ext (by simp; omega))

theorem part2_apply (y : FVec Ideal S32x256x8x128 .f32) (rb : Fin 32) (q : Fin 256) (h : Fin 8) (d : Fin 128) :
    part2 y (ix4 rb q h d) = y (ix4 ⟨min (rb.val - 1) 29 + 2, by omega⟩ q h d) := by
  pointwise [part2]
  split_ifs
  all_goals exact congrArg (fun l => y (ix4 l q h d)) (Fin.ext (by simp; omega))

theorem windows_split (y : FVec Ideal S32x256x8x128 .f32) (rb : Fin 32) (j : Fin 768) (h : Fin 8) (d : Fin 128) :
    windows y (ix4 rb j h d) = if hj : j.val < 256 then part0 y (ix4 rb ⟨j.val, hj⟩ h d)
      else if hk : j.val - 256 < 256 then part1 y (ix4 rb ⟨j.val - 256, hk⟩ h d) else part2 y (ix4 rb ⟨j.val - 256 - 256, by omega⟩ h d) := by
  pointwise [windows]

theorem windows_apply (y : FVec Ideal S32x256x8x128 .f32) (rb : Fin 32) (j : Fin 768) (h : Fin 8) (d : Fin 128) :
    windows y (ix4 rb j h d) = y (ix4 ⟨min (rb.val - 1) 29 + j.val / 256, by omega⟩ ⟨j.val % 256, by omega⟩ h d) := by
  rw [windows_split]
  by_cases h1 : j.val < 256
  · rw [dif_pos h1, part0_apply]
    exact congrArg₂ (fun l i => y (ix4 l i h d)) (Fin.ext (by simp; omega)) (Fin.ext (by simp; omega))
  rw [dif_neg h1]
  by_cases h2 : j.val - 256 < 256
  · rw [dif_pos h2, part1_apply]
    exact congrArg₂ (fun l i => y (ix4 l i h d)) (Fin.ext (by simp; omega)) (Fin.ext (by simp; omega))
  · rw [dif_neg h2, part2_apply]
    exact congrArg₂ (fun l i => y (ix4 l i h d)) (Fin.ext (by simp; omega)) (Fin.ext (by simp; omega))

theorem biases_split (b : FVec Ideal S8x3x768x256 .f32) (h : Fin 8) (rb : Fin 32) (j : Fin 768) (q : Fin 256) :
    biases b (ix4 h rb j q) = if h1 : rb.val < 1 then b (ix4 h ⟨rb.val, by omega⟩ j q)
      else if h2 : rb.val - 1 < 30 then b (ix4 h 1 j q) else b (ix4 h ⟨2 + (rb.val - 1 - 30), by omega⟩ j q) := by
  pointwise [biases]

theorem biases_apply (b : FVec Ideal S8x3x768x256 .f32) (h : Fin 8) (rb : Fin 32) (j : Fin 768) (q : Fin 256) :
    biases b (ix4 h rb j q) = b (ix4 h (table rb.val) j q) := by
  rw [biases_split]
  by_cases h1 : rb.val < 1
  · rw [dif_pos h1]
    exact congrArg (fun l => b (ix4 h l j q)) (Fin.ext (by simp [table, show rb.val = 0 by omega]))
  rw [dif_neg h1]
  by_cases h2 : rb.val - 1 < 30
  · rw [dif_pos h2]
    unfold table
    rw [if_neg (by omega), if_neg (by omega)]
  · rw [dif_neg h2]
    exact congrArg (fun l => b (ix4 h l j q)) (Fin.ext (by simp [table, show rb.val = 31 by omega]))

theorem scores_apply (k : FVec Ideal S32x768x8x128 .f32) (q : FVec Ideal S32x256x8x128 .f32) (b : FVec Ideal S8x32x768x256 .f32)
    (h : Fin 8) (rb : Fin 32) (j : Fin 768) (i : Fin 256) : scores k q b (ix4 h rb j i)
      = (∑ d : Fin 128, k (ix4 rb j h d) * q (ix4 rb i h d)) + b (ix4 h rb j i) := by
  pointwise [scores]

theorem peaks_apply (s : FVec Ideal S8x32x768x256 .f32) (h : Fin 8) (rb : Fin 32) (i : Fin 256) :
    peaks s (ix3 h rb i) = top (fun j => s (ix4 h rb j i)) :=
  keyMax_apply s reducesTo_S8x32x768x256_S8x32x256_d2 h_S_ h rb i

theorem weights_apply (s : FVec Ideal S8x32x768x256 .f32) (h : Fin 8) (rb : Fin 32) (j : Fin 768) (i : Fin 256) :
    weights s (ix4 h rb j i) = power2 (fun j => s (ix4 h rb j i)) j := by
  pointwise [weights, power2, peaks_apply]

theorem shares_apply (s : FVec Ideal S8x32x768x256 .f32) (h : Fin 8) (rb : Fin 32) (j : Fin 768) (i : Fin 256) :
    shares s (ix4 h rb j i) = Ideal.div (power2 (fun j => s (ix4 h rb j i)) j) (∑ l, power2 (fun j => s (ix4 h rb j i)) l) := by
  pointwise [shares, weights_apply]

theorem mixed_apply (v : FVec Ideal S32x768x8x128 .f32) (p : FVec Ideal S8x32x768x256 .f32) (r : Fin 8192) (k : Fin 1024) :
    mixed v p (ix2 r k) = ∑ j : Fin 768, v (ix4 ⟨r.val / 256, by omega⟩ j ⟨k.val / 128, by omega⟩ ⟨k.val % 128, by omega⟩)
      * p (ix4 ⟨k.val / 128, by omega⟩ ⟨r.val / 256, by omega⟩ j ⟨r.val % 256, by omega⟩) := by
  pointwise [mixed]

theorem score_row (x : FVec Ideal S8192x6144 .bf16) (b : FVec Ideal S8x3x768x256 .f32) (r : Fin 8192) (h : Fin 8) (j : Fin 768) :
    scores (windows (keys x)) (queries x) (biases b) (ix4 h ⟨r.val / 256, by omega⟩ j ⟨r.val % 256, by omega⟩)
      = score2 (fun r l => x (ix2 r l)) (fun h t j q => b (ix4 h t j q)) r h j := by
  rw [scores_apply, biases_apply]
  refine congrArg (· + _) (Finset.sum_congr rfl fun d _ => ?_)
  rw [windows_apply, keys_apply, queries_apply]
  refine Ideal.mul_congr (congrArg₂ (fun a l => x (ix2 a l)) (Fin.ext ?_) (Fin.ext ?_)) (congrArg₂ (fun a l => x (ix2 a l)) (Fin.ext ?_) (Fin.ext ?_))
  · show (min (r.val / 256 - 1) 29 + j.val / 256) * 256 + j.val % 256 = 256 * min (r.val / 256 - 1) 29 + j.val
    omega
  · show 4096 + h.val * 128 + d.val = 4096 + (h.val * 128 + d.val)
    omega
  · show r.val / 256 * 256 + r.val % 256 = r.val
    omega
  · show 3072 + h.val * 128 + d.val = 3072 + (h.val * 128 + d.val)
    omega

theorem term_apply (x : FVec Ideal S8192x6144 .bf16) (b : FVec Ideal S8x3x768x256 .f32)
    (hs : ∀ r h j, IsReal (score2 (fun r l => x (ix2 r l)) (fun h t j q => b (ix4 h t j q)) r h j)) (r : Fin 8192) (k : Fin 1024) :
    term x b (ix2 r k) = attend2 (fun r l => x (ix2 r l)) (fun h t j q => b (ix4 h t j q)) r k := by
  unfold term attend2
  rw [mixed_apply, ← mix2_eq _ _ (hs r _) 0]
  unfold mixEarly2
  refine Finset.sum_congr rfl fun j _ => ?_
  rw [windows_apply, values_apply, shares_apply, show (fun j => scores (windows (keys x)) (queries x) (biases b)
    (ix4 ⟨k.val / 128, _⟩ ⟨r.val / 256, _⟩ j ⟨r.val % 256, _⟩)) = _ from funext (score_row x b r ⟨k.val / 128, by omega⟩)]
  refine congrArg (· * _) (congrArg₂ (fun a l => x (ix2 a l)) (Fin.ext ?_) (Fin.ext ?_))
  · show (min (r.val / 256 - 1) 29 + j.val / 256) * 256 + j.val % 256 = 256 * min (r.val / 256 - 1) 29 + j.val
    omega
  · show 5120 + k.val / 128 * 128 + k.val % 128 = 5120 + k.val
    omega

theorem res_eq (m : (ℓ : Loc nD τ sig) → Buf (Elt Ideal) ℓ) (c : Dev nD) :
    Cert.NaRefIdeal.Value.res_main_v54 m c = term (m ((c.tc : Thread nD τ).loc main_arg0)) (m ((c.tc : Thread nD τ).loc main_arg1)) := rfl

end Cert.NaRefIdeal.Hand

end
-- ==== Proof.PostMixKernel.lean ====
/- What the first layer's output projection with memory attention leaves in its result array: at every row and column
   the row of `SoftmaxMath`, read from the call's arguments. -/
module

public import proofs.«01_k».proof.Proof.SoftmaxMath
public import proofs.«01_k».proof.Proof.Gen.PostMixIdeal.Value
public import Idealize.ShloMosaic.Lib.Pointwise
public import Idealize.ShloMosaic.Lib.Pipeline.ValueKit
public import Idealize.ShloMosaic.Lib.Claim

@[expose] public section

set_option maxRecDepth 16384

noncomputable section

namespace Cert.PostMixIdeal.Hand

open Cert.PostMixIdeal Cert.PostMixIdeal.Gen Cert.FfnMath Cert.SoftmaxMath Idealize.ShloMosaic Idealize.ShloMosaic.TcCoe Idealize.SL.Sem

/-! ## The payloads at an index -/

theorem resid_apply (x : FVec Ideal S512x2048 .f32) (a b : FVec Ideal S512x1024 .bf16) (wa wb : FVec Ideal S1x1024x2048 .bf16)
    (r : Fin 512) (k : Fin 2048) : k0_pay2 (F := Ideal) x a wa b wb (ix2 r k)
      = x (ix2 r k) + (∑ j : Fin 1024, a (ix2 r j) * wa (ix3 0 j k)) + (∑ j : Fin 1024, b (ix2 r j) * wb (ix3 0 j k)) := by
  pointwise [k0_pay2]

theorem query_apply (x : FVec Ideal S512x2048 .f32) (a b : FVec Ideal S512x1024 .bf16) (wa wb : FVec Ideal S1x1024x2048 .bf16)
    (g : FVec Ideal S1x2048 .f32) (wq : FVec Ideal S1x2048x512 .bf16) (r : Fin 512) (c : Fin 512) :
    k0_pay3 (F := Ideal) x a wa b wb g wq (ix2 r c) = query (fun l => k0_pay2 (F := Ideal) x a wa b wb (ix2 r l))
      (fun l => g (ix2 0 l)) (fun l c => wq (ix3 0 l c)) c := by
  pointwise [k0_pay3, query, rms]

/-- The first head's products, not yet scaled. -/
theorem dots_apply (x : FVec Ideal S512x2048 .f32) (a b : FVec Ideal S512x1024 .bf16) (wa wb : FVec Ideal S1x1024x2048 .bf16)
    (g : FVec Ideal S1x2048 .f32) (wq : FVec Ideal S1x2048x512 .bf16) (kk : FVec Ideal S256x128 .bf16) (r : Fin 512) (j : Fin 256) :
    k0_pay4 (F := Ideal) x a wa b wb g wq kk (ix2 r j)
      = ∑ d : Fin 128, k0_pay3 (F := Ideal) x a wa b wb g wq (ix2 r ⟨d.val, by omega⟩) * kk (ix2 j d) := by
  pointwise [k0_pay4]

/-- The first head's result from its products. -/
theorem head0_apply (s : FVec Ideal S512x256 .f32) (v : FVec Ideal S256x128 .bf16) (r : Fin 512) (d : Fin 128) :
    k0_pay5 (F := Ideal) s v (ix2 r d) = mixLate (fun j => s (ix2 r j) * scale) (fun j => v (ix2 j d)) := by
  pointwise [k0_pay5, mixLate, weight, top]

/-- The second head's result from the queries. -/
theorem head1_apply (q : FVec Ideal S512x512 .bf16) (kk v : FVec Ideal S256x128 .bf16) (r : Fin 512) (d : Fin 128) :
    k0_pay6 (F := Ideal) q kk v (ix2 r d)
      = mixLate (fun j => (∑ e : Fin 128, q (ix2 r ⟨128 + e.val, by omega⟩) * kk (ix2 j e)) * scale) (fun j => v (ix2 j d)) := by
  pointwise [k0_pay6, mixLate, weight, top]

/-- The third head's scores. -/
theorem score2_apply (q : FVec Ideal S512x512 .bf16) (kk : FVec Ideal S256x128 .bf16) (r : Fin 512) (j : Fin 256) :
    k0_pay7 (F := Ideal) q kk (ix2 r j)
      = (∑ e : Fin 128, q (ix2 r ⟨256 + e.val, by omega⟩) * kk (ix2 j e)) * scale := by
  pointwise [k0_pay7]

/-- The greatest of the third head's scores. -/
theorem top2_apply (q : FVec Ideal S512x512 .bf16) (kk : FVec Ideal S256x128 .bf16) (r : Fin 512) :
    k0_pay8 (F := Ideal) q kk (ix2 r 0) = top fun j => k0_pay7 (F := Ideal) q kk (ix2 r j) := by
  pointwise [k0_pay8, top]

/-- The residual and the four heads' results, side by side, projected in. -/
theorem out_apply (y : FVec Ideal S512x2048 .f32) (q : FVec Ideal S512x512 .bf16) (o1 o2 : FVec Ideal S512x128 .bf16)
    (s2 : FVec Ideal S512x256 .f32) (mx : FVec Ideal S512x1 .f32) (v2 k3 v3 : FVec Ideal S256x128 .bf16)
    (wo : FVec Ideal S1x512x2048 .bf16) (r : Fin 512) (k : Fin 2048) (hm : mx (ix2 r 0) = top fun j => s2 (ix2 r j)) :
    k0_pay1 (F := Ideal) y q o1 o2 s2 mx v2 k3 v3 wo (ix2 r k) = y (ix2 r k) + ∑ c : Fin 512,
      (if h : c.val < 128 then o1 (ix2 r ⟨c.val, h⟩)
        else if h : c.val - 128 < 128 then o2 (ix2 r ⟨c.val - 128, h⟩)
        else if h : c.val - 128 - 128 < 128 then
          mixLate (fun j => s2 (ix2 r j)) (fun j => v2 (ix2 j ⟨c.val - 128 - 128, h⟩))
        else mixLate (fun j => (∑ e : Fin 128, q (ix2 r ⟨384 + e.val, by omega⟩) * k3 (ix2 j e)) * scale)
          (fun j => v3 (ix2 j ⟨c.val - 128 - 128 - 128, by omega⟩))) * wo (ix3 0 c k) := by
  unfold mixLate weight
  rw [← hm]
  pointwise [k0_pay1, top]

/-- A block of the cache's columns, loaded. -/
theorem ld_kv (x : Vec Ideal S256x1024 .bf16) (a : ℕ) (h : ∀ i, (![0, a] : Fin 2 → Nat) i + S256x128.size i ≤ S256x1024.size i) (ha : a + 128 ≤ 1024)
    (j : Fin 256) (d : Fin 128) :
    (show FVec Ideal S256x128 .bf16 from View.ld x (Rect.unit (s := S256x1024) ![0, a] S256x128.size h)) (ix2 j d)
      = (show FVec Ideal S256x1024 .bf16 from x) (ix2 j ⟨a + d.val, by omega⟩) := by
  refine View.ld_unit_apply_of _ _ _ _ _ _ fun i => ?_
  fin_cases i <;> simp

/-- The whole body: the block written back is the layer's row of its own blocks. -/
theorem body_apply (x0 x1 : FVec Ideal S512x1024 .bf16) (x2 x3 : FVec Ideal S1x1024x2048 .bf16) (x4 : FVec Ideal S512x2048 .f32)
    (x5 : FVec Ideal S1x2048 .f32) (x6 : FVec Ideal S1x2048x512 .bf16) (x7 : FVec Ideal S256x1024 .bf16)
    (x8 : FVec Ideal S1x512x2048 .bf16) (r : Fin 512) (k : Fin 2048) :
    out0_9 (F := Ideal) x0 x1 x2 x3 x4 x5 x6 x7 x8 (ix2 r k)
      = attnRow (fun l => k0_pay2 (F := Ideal) x4 x0 x2 x1 x3 (ix2 r l)) (fun l => x5 (ix2 0 l)) (fun l c => x6 (ix3 0 l c))
          (fun j c => x7 (ix2 j c)) (fun c l => x8 (ix3 0 c l)) k := by
  have h9 : k0_pay9 (F := Ideal) x0 x1 x2 x3 x4 x5 x6 x7 x8 = k0_pay3 (F := Ideal) x4 x0 x2 x1 x3 x5 x6 := by
    unfold k0_pay9
    simp (disch := decide) only [View.ld_unit_lit']
  have hq : ∀ e, k0_pay3 (F := Ideal) x4 x0 x2 x1 x3 x5 x6 (ix2 r e) = query _ _ _ e := fun e => query_apply _ _ _ _ _ _ _ r e
  frame_out
  rw [h9, out_apply (hm := top2_apply _ _ r)]
  unfold attnRow
  refine congrArg (_ + ·) (Finset.sum_congr rfl fun c _ => congrArg (· * _) ?_)
  split
  · rw [head0_apply]
    refine attend_head _ _ c 0 (by omega) (by omega) _ _ (fun j => congrArg (· * scale) ?_) fun j => ?_
    · rw [dots_apply]
      refine Finset.sum_congr rfl fun d _ => Ideal.mul_congr ?_ (ld_kv x7 0 _ (by omega) j d)
      rw [hq]
      exact congrArg _ (Fin.ext (Nat.zero_add _).symm)
    · exact ld_kv x7 512 _ (by omega) j _
  split
  · rw [head1_apply]
    refine attend_head _ _ c 128 (by omega) (by omega) _ _ (fun j => congrArg (· * scale) ?_) fun j => ?_
    · exact Finset.sum_congr rfl fun d _ => Ideal.mul_congr (hq _) (ld_kv x7 128 _ (by omega) j d)
    · refine (ld_kv x7 640 _ (by omega) j _).trans (congrArg (fun l => x7 (ix2 j l)) (Fin.ext ?_))
      show 640 + (c.val - 128) = 512 + c.val
      omega
  split
  · refine attend_head _ _ c 256 (by omega) (by omega) _ _ (fun j => ?_) fun j => ?_
    · rw [score2_apply]
      exact congrArg (· * scale) (Finset.sum_congr rfl fun d _ => Ideal.mul_congr (hq _) (ld_kv x7 256 _ (by omega) j d))
    · refine (ld_kv x7 768 _ (by omega) j _).trans (congrArg (fun l => x7 (ix2 j l)) (Fin.ext ?_))
      show 768 + (c.val - 128 - 128) = 512 + c.val
      omega
  · refine attend_head _ _ c 384 (by omega) (by omega) _ _ (fun j => congrArg (· * scale) ?_) fun j => ?_
    · exact Finset.sum_congr rfl fun d _ => Ideal.mul_congr (hq _) (ld_kv x7 384 _ (by omega) j d)
    · refine (ld_kv x7 896 _ (by omega) j _).trans (congrArg (fun l => x7 (ix2 j l)) (Fin.ext ?_))
      show 896 + (c.val - 128 - 128 - 128) = 512 + c.val
      omega

/-! ## The blocks -/

variable (m : (ℓ : Loc nD τ sig) → Buf (Elt Ideal) ℓ)

/-- Where the blocks lie, decided once over the grid. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 1 ∧ win0_3.index t (2 : Fin 3) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 3) = 0 ∧ win0_8.index t (1 : Fin 3) = 0 ∧ win0_8.index t (2 : Fin 3) = 0
    ∧ win0_9.index t (0 : Fin 2) = t.val ∧ win0_9.index t (1 : Fin 2) = 0 :=
  (by decide +kernel : ∀ t : Fin grid0.N, _)

abbrev A (c : Dev nD) : FVec Ideal S8192x1024 .bf16 := m ((c : Thread nD τ).loc main_arg0)
abbrev B (c : Dev nD) : FVec Ideal S8192x1024 .bf16 := m ((c : Thread nD τ).loc main_arg1)
abbrev W (c : Dev nD) : FVec Ideal S2x2048x2048 .bf16 := m ((c : Thread nD τ).loc main_arg2)
abbrev X (c : Dev nD) : FVec Ideal S8192x2048 .f32 := m ((c : Thread nD τ).loc main_arg3)
abbrev G (c : Dev nD) : FVec Ideal S2x2048 .f32 := m ((c : Thread nD τ).loc main_arg4)
abbrev Wq (c : Dev nD) : FVec Ideal S2x2048x512 .bf16 := m ((c : Thread nD τ).loc main_arg5)
abbrev Kv (c : Dev nD) : FVec Ideal S256x1024 .bf16 := m ((c : Thread nD τ).loc main_arg6)
abbrev Wo (c : Dev nD) : FVec Ideal S2x512x2048 .bf16 := m ((c : Thread nD τ).loc main_arg7)

/-- The row of the array that row `r` of point `t`'s block is. -/
abbrev rowOf (t : Fin cfg0.N) (r : Fin 512) : Fin 8192 :=
  ⟨t.val * 512 + r.val, by have := t.isLt; have hN : cfg0.N = 16 := N_0; have := r.isLt; omega⟩

/-- The mixer's output row: the two halves side by side. -/
abbrev oRow (c : Dev nD) (R : Fin 8192) (j : Fin 2048) : EReal :=
  if h : j.val < 1024 then A m c (ix2 R ⟨j.val, h⟩) else B m c (ix2 R ⟨j.val - 1024, by omega⟩)

theorem blk_a (c : Dev nD) (t : Fin cfg0.N) (r : Fin 512) (j : Fin 1024) :
    (show FVec Ideal S512x1024 .bf16 from iblk m c 0 t) (ix2 r j) = oRow m c (rowOf t r) ⟨j.val, by omega⟩ := by
  unfold oRow
  rw [dif_pos j.isLt]
  blk_ext [iblk, V, idx t]

theorem blk_b (c : Dev nD) (t : Fin cfg0.N) (r : Fin 512) (j : Fin 1024) :
    (show FVec Ideal S512x1024 .bf16 from iblk m c 1 t) (ix2 r j) = oRow m c (rowOf t r) ⟨1024 + j.val, by omega⟩ := by
  unfold oRow
  rw [dif_neg (by simp)]
  blk_ext [iblk, V, idx t]

theorem blk_wa (c : Dev nD) (t : Fin cfg0.N) (j : Fin 1024) (l : Fin 2048) :
    (show FVec Ideal S1x1024x2048 .bf16 from iblk m c 2 t) (ix3 0 j l) = W m c (ix3 0 ⟨j.val, by omega⟩ l) := by
  blk_ext [iblk, V, idx t]

theorem blk_wb (c : Dev nD) (t : Fin cfg0.N) (j : Fin 1024) (l : Fin 2048) :
    (show FVec Ideal S1x1024x2048 .bf16 from iblk m c 3 t) (ix3 0 j l) = W m c (ix3 0 ⟨1024 + j.val, by omega⟩ l) := by
  blk_ext [iblk, V, idx t]

theorem blk_x (c : Dev nD) (t : Fin cfg0.N) (r : Fin 512) (l : Fin 2048) :
    (show FVec Ideal S512x2048 .f32 from iblk m c 4 t) (ix2 r l) = X m c (ix2 (rowOf t r) l) := by
  blk_ext [iblk, V, idx t]

/-- The gains the call stages: the layer's row of the argument, which the host slices out. -/
theorem entry_g (c : Dev nD) (k : Fin 2048) :
    (show FVec Ideal S1x2048 .f32 from V m c main_v2) (ix2 0 k) = G m c (ix2 0 k) := by
  entry_read
  pointwise

theorem blk_g (c : Dev nD) (t : Fin cfg0.N) (k : Fin 2048) :
    (show FVec Ideal S1x2048 .f32 from iblk m c 5 t) (ix2 0 k) = G m c (ix2 0 k) := by
  rw [← entry_g m c k]
  blk_ext [iblk, idx t]

theorem blk_wq (c : Dev nD) (t : Fin cfg0.N) (l : Fin 2048) (k : Fin 512) :
    (show FVec Ideal S1x2048x512 .bf16 from iblk m c 6 t) (ix3 0 l k) = Wq m c (ix3 0 l k) := by
  blk_ext [iblk, V, idx t]

theorem blk_kv (c : Dev nD) (t : Fin cfg0.N) (j : Fin 256) (k : Fin 1024) :
    (show FVec Ideal S256x1024 .bf16 from iblk m c 7 t) (ix2 j k) = Kv m c (ix2 j k) := by
  blk_ext [iblk, V, idx t]

theorem blk_wo (c : Dev nD) (t : Fin cfg0.N) (l : Fin 512) (k : Fin 2048) :
    (show FVec Ideal S1x512x2048 .bf16 from iblk m c 8 t) (ix3 0 l k) = Wo m c (ix3 0 l k) := by
  blk_ext [iblk, V, idx t]

/-- The result, entry by entry, from the call's arguments. -/
def layer (c : Dev nD) (i : S8192x2048.Idx) : EReal :=
  attnRow (resid (fun l => X m c (ix2 (i 0) l)) (oRow m c (i 0)) (fun j l => W m c (ix3 0 j l))) (fun l => G m c (ix2 0 l))
    (fun l k => Wq m c (ix3 0 l k)) (fun j k => Kv m c (ix2 j k)) (fun l k => Wo m c (ix3 0 l k)) (i 1)

theorem resid_blk (c : Dev nD) (t : Fin cfg0.N) (r : Fin 512) (l : Fin 2048) :
    k0_pay2 (F := Ideal) (iblk m c 4 t) (iblk m c 0 t) (iblk m c 2 t) (iblk m c 1 t) (iblk m c 3 t) (ix2 r l)
      = resid (fun l => X m c (ix2 (rowOf t r) l)) (oRow m c (rowOf t r)) (fun j l => W m c (ix3 0 j l)) l := by
  rw [resid_apply, ← resid_halves]
  exact congrArg₂ (· + ·) (congrArg₂ (· + ·) (blk_x m c t r l)
      (Finset.sum_congr rfl fun j _ => Ideal.mul_congr (blk_a m c t r j) (blk_wa m c t j l)))
    (Finset.sum_congr rfl fun j _ => Ideal.mul_congr (blk_b m c t r j) (blk_wb m c t j l))

theorem block_eq (c : Dev nD) (t : Fin cfg0.N) (r : Fin 512) (k : Fin 2048) :
    out0_9 (F := Ideal) (iblk m c 0 t) (iblk m c 1 t) (iblk m c 2 t) (iblk m c 3 t) (iblk m c 4 t) (iblk m c 5 t)
      (iblk m c 6 t) (iblk m c 7 t) (iblk m c 8 t) (ix2 r k) = layer m c (ix2 (rowOf t r) k) := by
  rw [body_apply]
  unfold layer
  rw [show (fun l => k0_pay2 (F := Ideal) (iblk m c 4 t) (iblk m c 0 t) (iblk m c 2 t) (iblk m c 1 t) (iblk m c 3 t) (ix2 r l))
      = _ from funext fun l => resid_blk m c t r l,
    show (fun l => (show FVec Ideal S1x2048 .f32 from iblk m c 5 t) (ix2 0 l)) = _ from funext fun l => blk_g m c t l,
    show (fun l k => (show FVec Ideal S1x2048x512 .bf16 from iblk m c 6 t) (ix3 0 l k)) = _ from
      funext fun l => funext fun k => blk_wq m c t l k,
    show (fun j k => (show FVec Ideal S256x1024 .bf16 from iblk m c 7 t) (ix2 j k)) = _ from
      funext fun j => funext fun k => blk_kv m c t j k,
    show (fun l k => (show FVec Ideal S1x512x2048 .bf16 from iblk m c 8 t) (ix3 0 l k)) = _ from
      funext fun l => funext fun k => blk_wo m c t l k]
  rfl

/-- The result array after the run. -/
theorem array_eq (c : Dev nD) : (dats m 0 c).arrAt 9 cfg0.N = layer m c := by
  refine (dats m 0 c).arrAt_eq_of_covers 9 _ (by decide +kernel) fun t hf y => ?_
  blk_simp
  rw [after0_9]
  idx_vars y
  have e : ((View.whole main_v3).slice (win0_9.rect t)).emb (ix2 y0 y1) = ix2 (rowOf t y0) y1 := by
    blk_ext [idx t]
  rw [e]
  exact block_eq m c t y0 y1

end Cert.PostMixIdeal.Hand

end
-- ==== Proof.PostMixReference.lean ====
/- The first layer's output projection with memory attention: the reference, read at an index. -/
module

public import proofs.«01_k».proof.Proof.SoftmaxMath
public import proofs.«01_k».proof.Proof.Gen.PostMixRefIdeal.Run
public import Idealize.ShloMosaic.Lib.Pointwise
public import Idealize.ShloMosaic.Lib.Pipeline.ValueKit
public import Idealize.ShloMosaic.Lib.Claim
public import Idealize.ShloMosaic.Lib.KernelVsHost

@[expose] public section

set_option maxRecDepth 16384

noncomputable section

namespace Cert.PostMixRefIdeal.Hand

open Cert.PostMixRefIdeal Cert.PostMixRefIdeal.Gen Cert.FfnMath Cert.SoftmaxMath Idealize.ShloMosaic Idealize.ShloMosaic.TcCoe Idealize.SL.Sem

/-- The residual with the mixer's output projected in. -/
def residual (a b : FVec Ideal S8192x1024 .bf16) (w : FVec Ideal S2x2048x2048 .bf16) (x : FVec Ideal S8192x2048 .f32) : FVec Ideal S8192x2048 .f32 :=
  addf x (Host.dotGeneral dot_S8192x2048_S2048x2048_S8192x2048_1_0_0_1_n_n none (extf .f32 (concatenate S8192x2048 1 [⟨S8192x1024, a⟩, ⟨S8192x1024, b⟩] concatenates_S8192x1024_S8192x1024_S8192x2048_d1) bitsLt_bf16_f32) (extf .f32 (shapeCast _ (extractStridedSlice S1x2048x2048 ![0, 0, 0] w slices_S2x2048x2048_S1x2048x2048_0_0_0) shapeCasts_S1x2048x2048_S2048x2048) bitsLt_bf16_f32))

/-- The normalised rows. -/
def normed (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S2x2048_S1x2048_0_0) shapeCasts_S1x2048_S2048)))

/-- The queries, head by head. -/
def queries (h : FVec Ideal S8192x2048 .f32) (wq : FVec Ideal S2x2048x512 .bf16) : FVec Ideal S8192x4x128 .f32 :=
  shapeCast _ (Host.dotGeneral dot_S8192x2048_S2048x512_S8192x512_1_0_0_1_n_n none h (extf .f32 (shapeCast _ (extractStridedSlice S1x2048x512 ![0, 0, 0] wq slices_S2x2048x512_S1x2048x512_0_0_0) shapeCasts_S1x2048x512_S2048x512) bitsLt_bf16_f32)) shapeCasts_S8192x512_S8192x4x128

/-- The keys of the cache, head by head. -/
def keys (kv : FVec Ideal S256x1024 .bf16) : FVec Ideal S256x4x128 .f32 :=
  shapeCast _ (extractStridedSlice S256x1x4x128 ![0, 0, 0, 0] (extf .f32 (shapeCast _ kv shapeCasts_S256x1024_S256x2x4x128) bitsLt_bf16_f32) slices_S256x2x4x128_S256x1x4x128_0_0_0_0) shapeCasts_S256x1x4x128_S256x4x128

/-- The values of the cache, head by head. -/
def values (kv : FVec Ideal S256x1024 .bf16) : FVec Ideal S256x4x128 .f32 :=
  shapeCast _ (extractStridedSlice S256x1x4x128 ![0, 1, 0, 0] (extf .f32 (shapeCast _ kv shapeCasts_S256x1024_S256x2x4x128) bitsLt_bf16_f32) slices_S256x2x4x128_S256x1x4x128_0_1_0_0) shapeCasts_S256x1x4x128_S256x4x128

/-- The scaled scores. -/
def scores (q : FVec Ideal S8192x4x128 .f32) (kv : FVec Ideal S256x1024 .bf16) : FVec Ideal S4x8192x256 .f32 :=
  mulf (Host.dotGeneral dot_S8192x4x128_S256x4x128_S4x8192x256_2_2_0_0_1_1 none q (keys kv)) (broadcastInDim S4x8192x256 ![] bcast_S_S4x8192x256 (constant S_ .f32 0x3DB504F3#32))

/-- Every row's greatest score. -/
def peaks (s : FVec Ideal S4x8192x256 .f32) : FVec Ideal S4x8192 .f32 :=
  maximumf (broadcastInDim S4x8192 ![] bcast_S_S4x8192 (constant S_ .f32 0xFF800000#32)) (Host.reduce FloatOps.maximumf s (constant S_ .f32 0xFF800000#32) reducesTo_S4x8192x256_S4x8192_d2 h_S_)

/-- The exponentials of the scores, taken from each row's greatest. -/
def weights (s : FVec Ideal S4x8192x256 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (peaks s))))

/-- Every weight over its row's sum. -/
def shares (s : FVec Ideal S4x8192x256 .f32) : FVec Ideal S4x8192x256 .f32 :=
  Host.divf (weights s) (broadcastInDim S4x8192x256 ![0, 1, 2] bcast_S4x8192x1_S4x8192x256_0_1_2 (broadcastInDim S4x8192x1 ![0, 1] bcast_S4x8192_S4x8192x1_0_1 (Host.reduceAdd (weights s) (constant S_ .f32 0x00000000#32) reducesTo_S4x8192x256_S4x8192_d2 h_S_)))

/-- The reference's term. -/
def term (a b : FVec Ideal S8192x1024 .bf16) (w : FVec Ideal S2x2048x2048 .bf16) (x : FVec Ideal S8192x2048 .f32) (g : FVec Ideal S2x2048 .f32)
    (wq : FVec Ideal S2x2048x512 .bf16) (kv : FVec Ideal S256x1024 .bf16) (wo : FVec Ideal S2x512x2048 .bf16) : FVec Ideal S8192x2048 .f32 :=
  addf (residual a b w x) (Host.dotGeneral dot_S8192x512_S512x2048_S8192x2048_1_0_0_1_n_n none (shapeCast _ (transpose S8192x4x128 [2, 0, 1] (Host.dotGeneral dot_S256x4x128_S4x8192x256_S4x128x8192_0_2_2_1_1_0 none (values kv) (shares (scores (queries (normed (residual a b w x) g) wq) kv))) transposes_S4x128x8192_S8192x4x128_2_0_1) shapeCasts_S8192x4x128_S8192x512) (extf .f32 (shapeCast _ (extractStridedSlice S1x512x2048 ![0, 0, 0] wo slices_S2x512x2048_S1x512x2048_0_0_0) shapeCasts_S1x512x2048_S512x2048) bitsLt_bf16_f32))

theorem residual_apply (a b : FVec Ideal S8192x1024 .bf16) (w : FVec Ideal S2x2048x2048 .bf16) (x : FVec Ideal S8192x2048 .f32) (r : Fin 8192) (l : Fin 2048) :
    residual a b w x (ix2 r l) = resid (fun l => x (ix2 r l)) (fun j => if h : j.val < 1024 then a (ix2 r ⟨j.val, h⟩) else b (ix2 r ⟨j.val - 1024, by omega⟩)) (fun j l => w (ix3 0 j l)) l := by
  pointwise [residual, resid]

theorem normed_apply (y : FVec Ideal S8192x2048 .f32) (g : FVec Ideal S2x2048 .f32) (r : Fin 8192) (k : Fin 2048) :
    normed y g (ix2 r k) = rms (fun l => y (ix2 r l)) (fun l => g (ix2 0 l)) k := by
  pointwise [normed, rms]

theorem queries_apply (y : FVec Ideal S8192x2048 .f32) (g : FVec Ideal S2x2048 .f32) (wq : FVec Ideal S2x2048x512 .bf16)
    (r : Fin 8192) (h : Fin 4) (d : Fin 128) : queries (normed y g) wq (ix3 r h d)
      = query (fun l => y (ix2 r l)) (fun l => g (ix2 0 l)) (fun l c => wq (ix3 0 l c)) ⟨h.val * 128 + d.val, by omega⟩ := by
  pointwise [queries, query, normed_apply]

theorem keys_apply (kv : FVec Ideal S256x1024 .bf16) (j : Fin 256) (h : Fin 4) (d : Fin 128) :
    keys kv (ix3 j h d) = kv (ix2 j ⟨h.val * 128 + d.val, by omega⟩) := by
  pointwise [keys]

theorem values_apply (kv : FVec Ideal S256x1024 .bf16) (j : Fin 256) (h : Fin 4) (d : Fin 128) :
    values kv (ix3 j h d) = kv (ix2 j ⟨512 + h.val * 128 + d.val, by omega⟩) := by
  pointwise [values]

theorem scores_apply (q : FVec Ideal S8192x4x128 .f32) (kv : FVec Ideal S256x1024 .bf16) (h : Fin 4) (r : Fin 8192) (j : Fin 256) :
    scores q kv (ix3 h r j) = (∑ d : Fin 128, q (ix3 r h d) * keys kv (ix3 j h d)) * scale := by
  pointwise [scores]

/-- The greatest of minus infinity and an entry is the entry. -/
theorem above_low (z : FVec Ideal S4x8192 .f32) (h : Fin 4) (r : Fin 8192) :
    maximumf (broadcastInDim S4x8192 ![] bcast_S_S4x8192 (constant S_ .f32 0xFF800000#32)) z (ix2 h r) = z (ix2 h r) := by
  refine Eq.trans (b := max low (z (ix2 h r))) (by pointwise) ?_
  rw [low_eq]
  exact max_eq_right bot_le

theorem peaks_apply (s : FVec Ideal S4x8192x256 .f32) (h : Fin 4) (r : Fin 8192) :
    peaks s (ix2 h r) = top (fun j => s (ix3 h r j)) :=
  (above_low _ h r).trans (rowMax_apply s reducesTo_S4x8192x256_S4x8192_d2 h_S_ h r)

theorem weights_apply (s : FVec Ideal S4x8192x256 .f32) (h : Fin 4) (r : Fin 8192) (j : Fin 256) :
    weights s (ix3 h r j) = weight (fun j => s (ix3 h r j)) j := by
  pointwise [weights, weight, peaks_apply]

theorem shares_apply (s : FVec Ideal S4x8192x256 .f32) (h : Fin 4) (r : Fin 8192) (j : Fin 256) :
    shares s (ix3 h r j) = Ideal.div (weight (fun j => s (ix3 h r j)) j) (∑ l, weight (fun j => s (ix3 h r j)) l) := by
  pointwise [shares, weights_apply]

/-- The residual row of the arguments. -/
abbrev yRow (a b : FVec Ideal S8192x1024 .bf16) (w : FVec Ideal S2x2048x2048 .bf16) (x : FVec Ideal S8192x2048 .f32) (r : Fin 8192) : Fin 2048 → EReal :=
  resid (fun l => x (ix2 r l)) (fun j => if h : j.val < 1024 then a (ix2 r ⟨j.val, h⟩) else b (ix2 r ⟨j.val - 1024, by omega⟩)) (fun j l => w (ix3 0 j l))

theorem term_apply (a b : FVec Ideal S8192x1024 .bf16) (w : FVec Ideal S2x2048x2048 .bf16) (x : FVec Ideal S8192x2048 .f32) (g : FVec Ideal S2x2048 .f32)
    (wq : FVec Ideal S2x2048x512 .bf16) (kv : FVec Ideal S256x1024 .bf16) (wo : FVec Ideal S2x512x2048 .bf16)
    (hk : ∀ (r : Fin 8192) (h : Fin 4) (j : Fin 256), IsReal (score (query (yRow a b w x r) (fun l => g (ix2 0 l)) (fun l c => wq (ix3 0 l c)))
      (fun j c => kv (ix2 j c)) h j)) (r : Fin 8192) (k : Fin 2048) :
    term a b w x g wq kv wo (ix2 r k) = attnRow (yRow a b w x r) (fun l => g (ix2 0 l)) (fun l c => wq (ix3 0 l c))
      (fun j c => kv (ix2 j c)) (fun l c => wo (ix3 0 l c)) k := by
  have hy : ∀ l, residual a b w x (ix2 r l) = yRow a b w x r l := residual_apply a b w x r
  have hs : ∀ (h : Fin 4) (j : Fin 256), scores (queries (normed (residual a b w x) g) wq) kv (ix3 h r j)
      = score (query (yRow a b w x r) (fun l => g (ix2 0 l)) (fun l c => wq (ix3 0 l c))) (fun j c => kv (ix2 j c)) h j := fun h j => by
    rw [scores_apply]
    refine congrArg (· * scale) (Finset.sum_congr rfl fun d _ => Ideal.mul_congr ?_ (keys_apply kv j h d))
    rw [queries_apply, show (fun l => residual a b w x (ix2 r l)) = _ from funext hy]
  refine Eq.trans (b := residual a b w x (ix2 r k) + ∑ c : Fin 512, (∑ j : Fin 256, values kv (ix3 j (headOf c) ⟨c.val % 128, by omega⟩)
    * shares (scores (queries (normed (residual a b w x) g) wq) kv) (ix3 (headOf c) r j)) * wo (ix3 0 c k)) ?_ ?_
  · pointwise [term]
  · unfold attnRow attend
    refine congrArg₂ (· + ·) (hy k) (Finset.sum_congr rfl fun c _ => congrArg (· * _) ?_)
    rw [← mix_eq _ _ (hk r (headOf c)) 0]
    unfold mixEarly
    refine Finset.sum_congr rfl fun j _ => ?_
    rw [mul_comm, shares_apply, show (fun j => scores (queries (normed (residual a b w x) g) wq) kv (ix3 (headOf c) r j)) = _ from
      funext (hs (headOf c)), values_apply]
    refine congrArg (fun l => _ * kv (ix2 j l)) (Fin.ext ?_)
    show 512 + c.val / 128 * 128 + c.val % 128 = 512 + c.val
    omega

end Cert.PostMixRefIdeal.Hand

end
-- ==== Proof.PostMixOddKernel.lean ====
/- What the second layer's output projection with memory attention leaves in its result array: at every row and column
   the row of `SoftmaxMath`, read from the call's arguments. -/
module

public import proofs.«01_k».proof.Proof.SoftmaxMath
public import proofs.«01_k».proof.Proof.Gen.PostMixOddIdeal.Value
public import Idealize.ShloMosaic.Lib.Pointwise
public import Idealize.ShloMosaic.Lib.Pipeline.ValueKit
public import Idealize.ShloMosaic.Lib.Claim

@[expose] public section

set_option maxRecDepth 16384

noncomputable section

namespace Cert.PostMixOddIdeal.Hand

open Cert.PostMixOddIdeal Cert.PostMixOddIdeal.Gen Cert.FfnMath Cert.SoftmaxMath Idealize.ShloMosaic Idealize.ShloMosaic.TcCoe Idealize.SL.Sem

/-! ## The payloads at an index -/

theorem resid_apply (x : FVec Ideal S512x2048 .f32) (a b : FVec Ideal S512x1024 .bf16) (wa wb : FVec Ideal S1x1024x2048 .bf16)
    (r : Fin 512) (k : Fin 2048) : k0_pay2 (F := Ideal) x a wa b wb (ix2 r k)
      = x (ix2 r k) + (∑ j : Fin 1024, a (ix2 r j) * wa (ix3 0 j k)) + (∑ j : Fin 1024, b (ix2 r j) * wb (ix3 0 j k)) := by
  pointwise [k0_pay2]

theorem query_apply (x : FVec Ideal S512x2048 .f32) (a b : FVec Ideal S512x1024 .bf16) (wa wb : FVec Ideal S1x1024x2048 .bf16)
    (g : FVec Ideal S1x2048 .f32) (wq : FVec Ideal S1x2048x512 .bf16) (r : Fin 512) (c : Fin 512) :
    k0_pay3 (F := Ideal) x a wa b wb g wq (ix2 r c) = query (fun l => k0_pay2 (F := Ideal) x a wa b wb (ix2 r l))
      (fun l => g (ix2 0 l)) (fun l c => wq (ix3 0 l c)) c := by
  pointwise [k0_pay3, query, rms]

/-- The first head's products, not yet scaled. -/
theorem dots_apply (x : FVec Ideal S512x2048 .f32) (a b : FVec Ideal S512x1024 .bf16) (wa wb : FVec Ideal S1x1024x2048 .bf16)
    (g : FVec Ideal S1x2048 .f32) (wq : FVec Ideal S1x2048x512 .bf16) (kk : FVec Ideal S256x128 .bf16) (r : Fin 512) (j : Fin 256) :
    k0_pay4 (F := Ideal) x a wa b wb g wq kk (ix2 r j)
      = ∑ d : Fin 128, k0_pay3 (F := Ideal) x a wa b wb g wq (ix2 r ⟨d.val, by omega⟩) * kk (ix2 j d) := by
  pointwise [k0_pay4]

/-- The first head's result from its products. -/
theorem head0_apply (s : FVec Ideal S512x256 .f32) (v : FVec Ideal S256x128 .bf16) (r : Fin 512) (d : Fin 128) :
    k0_pay5 (F := Ideal) s v (ix2 r d) = mixLate (fun j => s (ix2 r j) * scale) (fun j => v (ix2 j d)) := by
  pointwise [k0_pay5, mixLate, weight, top]

/-- The second head's result from the queries. -/
theorem head1_apply (q : FVec Ideal S512x512 .bf16) (kk v : FVec Ideal S256x128 .bf16) (r : Fin 512) (d : Fin 128) :
    k0_pay6 (F := Ideal) q kk v (ix2 r d)
      = mixLate (fun j => (∑ e : Fin 128, q (ix2 r ⟨128 + e.val, by omega⟩) * kk (ix2 j e)) * scale) (fun j => v (ix2 j d)) := by
  pointwise [k0_pay6, mixLate, weight, top]

/-- The third head's scores. -/
theorem score2_apply (q : FVec Ideal S512x512 .bf16) (kk : FVec Ideal S256x128 .bf16) (r : Fin 512) (j : Fin 256) :
    k0_pay7 (F := Ideal) q kk (ix2 r j)
      = (∑ e : Fin 128, q (ix2 r ⟨256 + e.val, by omega⟩) * kk (ix2 j e)) * scale := by
  pointwise [k0_pay7]

/-- The greatest of the third head's scores. -/
theorem top2_apply (q : FVec Ideal S512x512 .bf16) (kk : FVec Ideal S256x128 .bf16) (r : Fin 512) :
    k0_pay8 (F := Ideal) q kk (ix2 r 0) = top fun j => k0_pay7 (F := Ideal) q kk (ix2 r j) := by
  pointwise [k0_pay8, top]

/-- The residual and the four heads' results, side by side, projected in. -/
theorem out_apply (y : FVec Ideal S512x2048 .f32) (q : FVec Ideal S512x512 .bf16) (o1 o2 : FVec Ideal S512x128 .bf16)
    (s2 : FVec Ideal S512x256 .f32) (mx : FVec Ideal S512x1 .f32) (v2 k3 v3 : FVec Ideal S256x128 .bf16)
    (wo : FVec Ideal S1x512x2048 .bf16) (r : Fin 512) (k : Fin 2048) (hm : mx (ix2 r 0) = top fun j => s2 (ix2 r j)) :
    k0_pay1 (F := Ideal) y q o1 o2 s2 mx v2 k3 v3 wo (ix2 r k) = y (ix2 r k) + ∑ c : Fin 512,
      (if h : c.val < 128 then o1 (ix2 r ⟨c.val, h⟩)
        else if h : c.val - 128 < 128 then o2 (ix2 r ⟨c.val - 128, h⟩)
        else if h : c.val - 128 - 128 < 128 then
          mixLate (fun j => s2 (ix2 r j)) (fun j => v2 (ix2 j ⟨c.val - 128 - 128, h⟩))
        else mixLate (fun j => (∑ e : Fin 128, q (ix2 r ⟨384 + e.val, by omega⟩) * k3 (ix2 j e)) * scale)
          (fun j => v3 (ix2 j ⟨c.val - 128 - 128 - 128, by omega⟩))) * wo (ix3 0 c k) := by
  unfold mixLate weight
  rw [← hm]
  pointwise [k0_pay1, top]

/-- A block of the cache's columns, loaded. -/
theorem ld_kv (x : Vec Ideal S256x1024 .bf16) (a : ℕ) (h : ∀ i, (![0, a] : Fin 2 → Nat) i + S256x128.size i ≤ S256x1024.size i) (ha : a + 128 ≤ 1024)
    (j : Fin 256) (d : Fin 128) :
    (show FVec Ideal S256x128 .bf16 from View.ld x (Rect.unit (s := S256x1024) ![0, a] S256x128.size h)) (ix2 j d)
      = (show FVec Ideal S256x1024 .bf16 from x) (ix2 j ⟨a + d.val, by omega⟩) := by
  refine View.ld_unit_apply_of _ _ _ _ _ _ fun i => ?_
  fin_cases i <;> simp

/-- The whole body: the block written back is the layer's row of its own blocks. -/
theorem body_apply (x0 x1 : FVec Ideal S512x1024 .bf16) (x2 x3 : FVec Ideal S1x1024x2048 .bf16) (x4 : FVec Ideal S512x2048 .f32)
    (x5 : FVec Ideal S1x2048 .f32) (x6 : FVec Ideal S1x2048x512 .bf16) (x7 : FVec Ideal S256x1024 .bf16)
    (x8 : FVec Ideal S1x512x2048 .bf16) (r : Fin 512) (k : Fin 2048) :
    out0_9 (F := Ideal) x0 x1 x2 x3 x4 x5 x6 x7 x8 (ix2 r k)
      = attnRow (fun l => k0_pay2 (F := Ideal) x4 x0 x2 x1 x3 (ix2 r l)) (fun l => x5 (ix2 0 l)) (fun l c => x6 (ix3 0 l c))
          (fun j c => x7 (ix2 j c)) (fun c l => x8 (ix3 0 c l)) k := by
  have h9 : k0_pay9 (F := Ideal) x0 x1 x2 x3 x4 x5 x6 x7 x8 = k0_pay3 (F := Ideal) x4 x0 x2 x1 x3 x5 x6 := by
    unfold k0_pay9
    simp (disch := decide) only [View.ld_unit_lit']
  have hq : ∀ e, k0_pay3 (F := Ideal) x4 x0 x2 x1 x3 x5 x6 (ix2 r e) = query _ _ _ e := fun e => query_apply _ _ _ _ _ _ _ r e
  frame_out
  rw [h9, out_apply (hm := top2_apply _ _ r)]
  unfold attnRow
  refine congrArg (_ + ·) (Finset.sum_congr rfl fun c _ => congrArg (· * _) ?_)
  split
  · rw [head0_apply]
    refine attend_head _ _ c 0 (by omega) (by omega) _ _ (fun j => congrArg (· * scale) ?_) fun j => ?_
    · rw [dots_apply]
      refine Finset.sum_congr rfl fun d _ => Ideal.mul_congr ?_ (ld_kv x7 0 _ (by omega) j d)
      rw [hq]
      exact congrArg _ (Fin.ext (Nat.zero_add _).symm)
    · exact ld_kv x7 512 _ (by omega) j _
  split
  · rw [head1_apply]
    refine attend_head _ _ c 128 (by omega) (by omega) _ _ (fun j => congrArg (· * scale) ?_) fun j => ?_
    · exact Finset.sum_congr rfl fun d _ => Ideal.mul_congr (hq _) (ld_kv x7 128 _ (by omega) j d)
    · refine (ld_kv x7 640 _ (by omega) j _).trans (congrArg (fun l => x7 (ix2 j l)) (Fin.ext ?_))
      show 640 + (c.val - 128) = 512 + c.val
      omega
  split
  · refine attend_head _ _ c 256 (by omega) (by omega) _ _ (fun j => ?_) fun j => ?_
    · rw [score2_apply]
      exact congrArg (· * scale) (Finset.sum_congr rfl fun d _ => Ideal.mul_congr (hq _) (ld_kv x7 256 _ (by omega) j d))
    · refine (ld_kv x7 768 _ (by omega) j _).trans (congrArg (fun l => x7 (ix2 j l)) (Fin.ext ?_))
      show 768 + (c.val - 128 - 128) = 512 + c.val
      omega
  · refine attend_head _ _ c 384 (by omega) (by omega) _ _ (fun j => congrArg (· * scale) ?_) fun j => ?_
    · exact Finset.sum_congr rfl fun d _ => Ideal.mul_congr (hq _) (ld_kv x7 384 _ (by omega) j d)
    · refine (ld_kv x7 896 _ (by omega) j _).trans (congrArg (fun l => x7 (ix2 j l)) (Fin.ext ?_))
      show 896 + (c.val - 128 - 128 - 128) = 512 + c.val
      omega

/-! ## The blocks -/

variable (m : (ℓ : Loc nD τ sig) → Buf (Elt Ideal) ℓ)

/-- Where the blocks lie, decided once over the grid. -/
theorem idx : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 3) = 1 ∧ win0_2.index t (1 : Fin 3) = 0 ∧ win0_2.index t (2 : Fin 3) = 0
    ∧ win0_3.index t (0 : Fin 3) = 1 ∧ win0_3.index t (1 : Fin 3) = 1 ∧ win0_3.index t (2 : Fin 3) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 3) = 1 ∧ win0_6.index t (1 : Fin 3) = 0 ∧ win0_6.index t (2 : Fin 3) = 0
    ∧ win0_7.index t (0 : Fin 2) = 0 ∧ win0_7.index t (1 : Fin 2) = 0
    ∧ win0_8.index t (0 : Fin 3) = 1 ∧ win0_8.index t (1 : Fin 3) = 0 ∧ win0_8.index t (2 : Fin 3) = 0
    ∧ win0_9.index t (0 : Fin 2) = t.val ∧ win0_9.index t (1 : Fin 2) = 0 :=
  (by decide +kernel : ∀ t : Fin grid0.N, _)

abbrev O (c : Dev nD) : FVec Ideal S8192x2048 .bf16 := m ((c : Thread nD τ).loc main_arg0)
abbrev W (c : Dev nD) : FVec Ideal S2x2048x2048 .bf16 := m ((c : Thread nD τ).loc main_arg1)
abbrev X (c : Dev nD) : FVec Ideal S8192x2048 .f32 := m ((c : Thread nD τ).loc main_arg2)
abbrev G (c : Dev nD) : FVec Ideal S2x2048 .f32 := m ((c : Thread nD τ).loc main_arg3)
abbrev Wq (c : Dev nD) : FVec Ideal S2x2048x512 .bf16 := m ((c : Thread nD τ).loc main_arg4)
abbrev Kv (c : Dev nD) : FVec Ideal S256x1024 .bf16 := m ((c : Thread nD τ).loc main_arg5)
abbrev Wo (c : Dev nD) : FVec Ideal S2x512x2048 .bf16 := m ((c : Thread nD τ).loc main_arg6)

/-- The row of the array that row `r` of point `t`'s block is. -/
abbrev rowOf (t : Fin cfg0.N) (r : Fin 512) : Fin 8192 :=
  ⟨t.val * 512 + r.val, by have := t.isLt; have hN : cfg0.N = 16 := N_0; have := r.isLt; omega⟩

/-- The mixer's output row. -/
abbrev oRow (c : Dev nD) (R : Fin 8192) (j : Fin 2048) : EReal := O m c (ix2 R j)

theorem blk_a (c : Dev nD) (t : Fin cfg0.N) (r : Fin 512) (j : Fin 1024) :
    (show FVec Ideal S512x1024 .bf16 from iblk m c 0 t) (ix2 r j) = oRow m c (rowOf t r) ⟨j.val, by omega⟩ := by
  blk_ext [iblk, V, idx t]

theorem blk_b (c : Dev nD) (t : Fin cfg0.N) (r : Fin 512) (j : Fin 1024) :
    (show FVec Ideal S512x1024 .bf16 from iblk m c 1 t) (ix2 r j) = oRow m c (rowOf t r) ⟨1024 + j.val, by omega⟩ := by
  blk_ext [iblk, V, idx t]

theorem blk_wa (c : Dev nD) (t : Fin cfg0.N) (j : Fin 1024) (l : Fin 2048) :
    (show FVec Ideal S1x1024x2048 .bf16 from iblk m c 2 t) (ix3 0 j l) = W m c (ix3 1 ⟨j.val, by omega⟩ l) := by
  blk_ext [iblk, V, idx t]

theorem blk_wb (c : Dev nD) (t : Fin cfg0.N) (j : Fin 1024) (l : Fin 2048) :
    (show FVec Ideal S1x1024x2048 .bf16 from iblk m c 3 t) (ix3 0 j l) = W m c (ix3 1 ⟨1024 + j.val, by omega⟩ l) := by
  blk_ext [iblk, V, idx t]

theorem blk_x (c : Dev nD) (t : Fin cfg0.N) (r : Fin 512) (l : Fin 2048) :
    (show FVec Ideal S512x2048 .f32 from iblk m c 4 t) (ix2 r l) = X m c (ix2 (rowOf t r) l) := by
  blk_ext [iblk, V, idx t]

/-- The gains the call stages: the layer's row of the argument, which the host slices out. -/
theorem entry_g (c : Dev nD) (k : Fin 2048) :
    (show FVec Ideal S1x2048 .f32 from V m c main_v2) (ix2 0 k) = G m c (ix2 1 k) := by
  entry_read
  pointwise

theorem blk_g (c : Dev nD) (t : Fin cfg0.N) (k : Fin 2048) :
    (show FVec Ideal S1x2048 .f32 from iblk m c 5 t) (ix2 0 k) = G m c (ix2 1 k) := by
  rw [← entry_g m c k]
  blk_ext [iblk, idx t]

theorem blk_wq (c : Dev nD) (t : Fin cfg0.N) (l : Fin 2048) (k : Fin 512) :
    (show FVec Ideal S1x2048x512 .bf16 from iblk m c 6 t) (ix3 0 l k) = Wq m c (ix3 1 l k) := by
  blk_ext [iblk, V, idx t]

theorem blk_kv (c : Dev nD) (t : Fin cfg0.N) (j : Fin 256) (k : Fin 1024) :
    (show FVec Ideal S256x1024 .bf16 from iblk m c 7 t) (ix2 j k) = Kv m c (ix2 j k) := by
  blk_ext [iblk, V, idx t]

theorem blk_wo (c : Dev nD) (t : Fin cfg0.N) (l : Fin 512) (k : Fin 2048) :
    (show FVec Ideal S1x512x2048 .bf16 from iblk m c 8 t) (ix3 0 l k) = Wo m c (ix3 1 l k) := by
  blk_ext [iblk, V, idx t]

/-- The result, entry by entry, from the call's arguments. -/
def layer (c : Dev nD) (i : S8192x2048.Idx) : EReal :=
  attnRow (resid (fun l => X m c (ix2 (i 0) l)) (oRow m c (i 0)) (fun j l => W m c (ix3 1 j l))) (fun l => G m c (ix2 1 l))
    (fun l k => Wq m c (ix3 1 l k)) (fun j k => Kv m c (ix2 j k)) (fun l k => Wo m c (ix3 1 l k)) (i 1)

theorem resid_blk (c : Dev nD) (t : Fin cfg0.N) (r : Fin 512) (l : Fin 2048) :
    k0_pay2 (F := Ideal) (iblk m c 4 t) (iblk m c 0 t) (iblk m c 2 t) (iblk m c 1 t) (iblk m c 3 t) (ix2 r l)
      = resid (fun l => X m c (ix2 (rowOf t r) l)) (oRow m c (rowOf t r)) (fun j l => W m c (ix3 1 j l)) l := by
  rw [resid_apply, ← resid_halves]
  exact congrArg₂ (· + ·) (congrArg₂ (· + ·) (blk_x m c t r l)
      (Finset.sum_congr rfl fun j _ => Ideal.mul_congr (blk_a m c t r j) (blk_wa m c t j l)))
    (Finset.sum_congr rfl fun j _ => Ideal.mul_congr (blk_b m c t r j) (blk_wb m c t j l))

theorem block_eq (c : Dev nD) (t : Fin cfg0.N) (r : Fin 512) (k : Fin 2048) :
    out0_9 (F := Ideal) (iblk m c 0 t) (iblk m c 1 t) (iblk m c 2 t) (iblk m c 3 t) (iblk m c 4 t) (iblk m c 5 t)
      (iblk m c 6 t) (iblk m c 7 t) (iblk m c 8 t) (ix2 r k) = layer m c (ix2 (rowOf t r) k) := by
  rw [body_apply]
  unfold layer
  rw [show (fun l => k0_pay2 (F := Ideal) (iblk m c 4 t) (iblk m c 0 t) (iblk m c 2 t) (iblk m c 1 t) (iblk m c 3 t) (ix2 r l))
      = _ from funext fun l => resid_blk m c t r l,
    show (fun l => (show FVec Ideal S1x2048 .f32 from iblk m c 5 t) (ix2 0 l)) = _ from funext fun l => blk_g m c t l,
    show (fun l k => (show FVec Ideal S1x2048x512 .bf16 from iblk m c 6 t) (ix3 0 l k)) = _ from
      funext fun l => funext fun k => blk_wq m c t l k,
    show (fun j k => (show FVec Ideal S256x1024 .bf16 from iblk m c 7 t) (ix2 j k)) = _ from
      funext fun j => funext fun k => blk_kv m c t j k,
    show (fun l k => (show FVec Ideal S1x512x2048 .bf16 from iblk m c 8 t) (ix3 0 l k)) = _ from
      funext fun l => funext fun k => blk_wo m c t l k]
  rfl

/-- The result array after the run. -/
theorem array_eq (c : Dev nD) : (dats m 0 c).arrAt 9 cfg0.N = layer m c := by
  refine (dats m 0 c).arrAt_eq_of_covers 9 _ (by decide +kernel) fun t hf y => ?_
  blk_simp
  rw [after0_9]
  idx_vars y
  have e : ((View.whole main_v3).slice (win0_9.rect t)).emb (ix2 y0 y1) = ix2 (rowOf t y0) y1 := by
    blk_ext [idx t]
  rw [e]
  exact block_eq m c t y0 y1

end Cert.PostMixOddIdeal.Hand

end
-- ==== Proof.PostMixOddReference.lean ====
/- The second layer's output projection with memory attention: the reference, read at an index. -/
module

public import proofs.«01_k».proof.Proof.SoftmaxMath
public import proofs.«01_k».proof.Proof.Gen.PostMixOddRefIdeal.Run
public import Idealize.ShloMosaic.Lib.Pointwise
public import Idealize.ShloMosaic.Lib.Pipeline.ValueKit
public import Idealize.ShloMosaic.Lib.Claim
public import Idealize.ShloMosaic.Lib.KernelVsHost

@[expose] public section

set_option maxRecDepth 16384

noncomputable section

namespace Cert.PostMixOddRefIdeal.Hand

open Cert.PostMixOddRefIdeal Cert.PostMixOddRefIdeal.Gen Cert.FfnMath Cert.SoftmaxMath Idealize.ShloMosaic Idealize.ShloMosaic.TcCoe Idealize.SL.Sem

/-- The residual with the mixer's output projected in. -/
def residual (o : FVec Ideal S8192x2048 .bf16) (w : FVec Ideal S2x2048x2048 .bf16) (x : FVec Ideal S8192x2048 .f32) : FVec Ideal S8192x2048 .f32 :=
  addf x (Host.dotGeneral dot_S8192x2048_S2048x2048_S8192x2048_1_0_0_1_n_n none (extf .f32 o bitsLt_bf16_f32) (extf .f32 (shapeCast _ (extractStridedSlice S1x2048x2048 ![1, 0, 0] w slices_S2x2048x2048_S1x2048x2048_1_0_0) shapeCasts_S1x2048x2048_S2048x2048) bitsLt_bf16_f32))

/-- The normalised rows. -/
def normed (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))

/-- The queries, head by head. -/
def queries (h : FVec Ideal S8192x2048 .f32) (wq : FVec Ideal S2x2048x512 .bf16) : FVec Ideal S8192x4x128 .f32 :=
  shapeCast _ (Host.dotGeneral dot_S8192x2048_S2048x512_S8192x512_1_0_0_1_n_n none h (extf .f32 (shapeCast _ (extractStridedSlice S1x2048x512 ![1, 0, 0] wq slices_S2x2048x512_S1x2048x512_1_0_0) shapeCasts_S1x2048x512_S2048x512) bitsLt_bf16_f32)) shapeCasts_S8192x512_S8192x4x128

/-- The keys of the cache, head by head. -/
def keys (kv : FVec Ideal S256x1024 .bf16) : FVec Ideal S256x4x128 .f32 :=
  shapeCast _ (extractStridedSlice S256x1x4x128 ![0, 0, 0, 0] (extf .f32 (shapeCast _ kv shapeCasts_S256x1024_S256x2x4x128) bitsLt_bf16_f32) slices_S256x2x4x128_S256x1x4x128_0_0_0_0) shapeCasts_S256x1x4x128_S256x4x128

/-- The values of the cache, head by head. -/
def values (kv : FVec Ideal S256x1024 .bf16) : FVec Ideal S256x4x128 .f32 :=
  shapeCast _ (extractStridedSlice S256x1x4x128 ![0, 1, 0, 0] (extf .f32 (shapeCast _ kv shapeCasts_S256x1024_S256x2x4x128) bitsLt_bf16_f32) slices_S256x2x4x128_S256x1x4x128_0_1_0_0) shapeCasts_S256x1x4x128_S256x4x128

/-- The scaled scores. -/
def scores (q : FVec Ideal S8192x4x128 .f32) (kv : FVec Ideal S256x1024 .bf16) : FVec Ideal S4x8192x256 .f32 :=
  mulf (Host.dotGeneral dot_S8192x4x128_S256x4x128_S4x8192x256_2_2_0_0_1_1 none q (keys kv)) (broadcastInDim S4x8192x256 ![] bcast_S_S4x8192x256 (constant S_ .f32 0x3DB504F3#32))

/-- Every row's greatest score. -/
def peaks (s : FVec Ideal S4x8192x256 .f32) : FVec Ideal S4x8192 .f32 :=
  maximumf (broadcastInDim S4x8192 ![] bcast_S_S4x8192 (constant S_ .f32 0xFF800000#32)) (Host.reduce FloatOps.maximumf s (constant S_ .f32 0xFF800000#32) reducesTo_S4x8192x256_S4x8192_d2 h_S_)

/-- The exponentials of the scores, taken from each row's greatest. -/
def weights (s : FVec Ideal S4x8192x256 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (peaks s))))

/-- Every weight over its row's sum. -/
def shares (s : FVec Ideal S4x8192x256 .f32) : FVec Ideal S4x8192x256 .f32 :=
  Host.divf (weights s) (broadcastInDim S4x8192x256 ![0, 1, 2] bcast_S4x8192x1_S4x8192x256_0_1_2 (broadcastInDim S4x8192x1 ![0, 1] bcast_S4x8192_S4x8192x1_0_1 (Host.reduceAdd (weights s) (constant S_ .f32 0x00000000#32) reducesTo_S4x8192x256_S4x8192_d2 h_S_)))

/-- The reference's term. -/
def term (o : FVec Ideal S8192x2048 .bf16) (w : FVec Ideal S2x2048x2048 .bf16) (x : FVec Ideal S8192x2048 .f32) (g : FVec Ideal S2x2048 .f32)
    (wq : FVec Ideal S2x2048x512 .bf16) (kv : FVec Ideal S256x1024 .bf16) (wo : FVec Ideal S2x512x2048 .bf16) : FVec Ideal S8192x2048 .f32 :=
  addf (residual o w x) (Host.dotGeneral dot_S8192x512_S512x2048_S8192x2048_1_0_0_1_n_n none (shapeCast _ (transpose S8192x4x128 [2, 0, 1] (Host.dotGeneral dot_S256x4x128_S4x8192x256_S4x128x8192_0_2_2_1_1_0 none (values kv) (shares (scores (queries (normed (residual o w x) g) wq) kv))) transposes_S4x128x8192_S8192x4x128_2_0_1) shapeCasts_S8192x4x128_S8192x512) (extf .f32 (shapeCast _ (extractStridedSlice S1x512x2048 ![1, 0, 0] wo slices_S2x512x2048_S1x512x2048_1_0_0) shapeCasts_S1x512x2048_S512x2048) bitsLt_bf16_f32))

theorem residual_apply (o : FVec Ideal S8192x2048 .bf16) (w : FVec Ideal S2x2048x2048 .bf16) (x : FVec Ideal S8192x2048 .f32) (r : Fin 8192) (l : Fin 2048) :
    residual o w x (ix2 r l) = resid (fun l => x (ix2 r l)) (fun j => o (ix2 r j)) (fun j l => w (ix3 1 j l)) l := by
  pointwise [residual, resid]

theorem normed_apply (y : FVec Ideal S8192x2048 .f32) (g : FVec Ideal S2x2048 .f32) (r : Fin 8192) (k : Fin 2048) :
    normed y g (ix2 r k) = rms (fun l => y (ix2 r l)) (fun l => g (ix2 1 l)) k := by
  pointwise [normed, rms]

theorem queries_apply (y : FVec Ideal S8192x2048 .f32) (g : FVec Ideal S2x2048 .f32) (wq : FVec Ideal S2x2048x512 .bf16)
    (r : Fin 8192) (h : Fin 4) (d : Fin 128) : queries (normed y g) wq (ix3 r h d)
      = query (fun l => y (ix2 r l)) (fun l => g (ix2 1 l)) (fun l c => wq (ix3 1 l c)) ⟨h.val * 128 + d.val, by omega⟩ := by
  pointwise [queries, query, normed_apply]

theorem keys_apply (kv : FVec Ideal S256x1024 .bf16) (j : Fin 256) (h : Fin 4) (d : Fin 128) :
    keys kv (ix3 j h d) = kv (ix2 j ⟨h.val * 128 + d.val, by omega⟩) := by
  pointwise [keys]

theorem values_apply (kv : FVec Ideal S256x1024 .bf16) (j : Fin 256) (h : Fin 4) (d : Fin 128) :
    values kv (ix3 j h d) = kv (ix2 j ⟨512 + h.val * 128 + d.val, by omega⟩) := by
  pointwise [values]

theorem scores_apply (q : FVec Ideal S8192x4x128 .f32) (kv : FVec Ideal S256x1024 .bf16) (h : Fin 4) (r : Fin 8192) (j : Fin 256) :
    scores q kv (ix3 h r j) = (∑ d : Fin 128, q (ix3 r h d) * keys kv (ix3 j h d)) * scale := by
  pointwise [scores]

/-- The greatest of minus infinity and an entry is the entry. -/
theorem above_low (z : FVec Ideal S4x8192 .f32) (h : Fin 4) (r : Fin 8192) :
    maximumf (broadcastInDim S4x8192 ![] bcast_S_S4x8192 (constant S_ .f32 0xFF800000#32)) z (ix2 h r) = z (ix2 h r) := by
  refine Eq.trans (b := max low (z (ix2 h r))) (by pointwise) ?_
  rw [low_eq]
  exact max_eq_right bot_le

theorem peaks_apply (s : FVec Ideal S4x8192x256 .f32) (h : Fin 4) (r : Fin 8192) :
    peaks s (ix2 h r) = top (fun j => s (ix3 h r j)) :=
  (above_low _ h r).trans (rowMax_apply s reducesTo_S4x8192x256_S4x8192_d2 h_S_ h r)

theorem weights_apply (s : FVec Ideal S4x8192x256 .f32) (h : Fin 4) (r : Fin 8192) (j : Fin 256) :
    weights s (ix3 h r j) = weight (fun j => s (ix3 h r j)) j := by
  pointwise [weights, weight, peaks_apply]

theorem shares_apply (s : FVec Ideal S4x8192x256 .f32) (h : Fin 4) (r : Fin 8192) (j : Fin 256) :
    shares s (ix3 h r j) = Ideal.div (weight (fun j => s (ix3 h r j)) j) (∑ l, weight (fun j => s (ix3 h r j)) l) := by
  pointwise [shares, weights_apply]

/-- The residual row of the arguments. -/
abbrev yRow (o : FVec Ideal S8192x2048 .bf16) (w : FVec Ideal S2x2048x2048 .bf16) (x : FVec Ideal S8192x2048 .f32) (r : Fin 8192) : Fin 2048 → EReal :=
  resid (fun l => x (ix2 r l)) (fun j => o (ix2 r j)) (fun j l => w (ix3 1 j l))

theorem term_apply (o : FVec Ideal S8192x2048 .bf16) (w : FVec Ideal S2x2048x2048 .bf16) (x : FVec Ideal S8192x2048 .f32) (g : FVec Ideal S2x2048 .f32)
    (wq : FVec Ideal S2x2048x512 .bf16) (kv : FVec Ideal S256x1024 .bf16) (wo : FVec Ideal S2x512x2048 .bf16)
    (hk : ∀ (r : Fin 8192) (h : Fin 4) (j : Fin 256), IsReal (score (query (yRow o w x r) (fun l => g (ix2 1 l)) (fun l c => wq (ix3 1 l c)))
      (fun j c => kv (ix2 j c)) h j)) (r : Fin 8192) (k : Fin 2048) :
    term o w x g wq kv wo (ix2 r k) = attnRow (yRow o w x r) (fun l => g (ix2 1 l)) (fun l c => wq (ix3 1 l c))
      (fun j c => kv (ix2 j c)) (fun l c => wo (ix3 1 l c)) k := by
  have hy : ∀ l, residual o w x (ix2 r l) = yRow o w x r l := residual_apply o w x r
  have hs : ∀ (h : Fin 4) (j : Fin 256), scores (queries (normed (residual o w x) g) wq) kv (ix3 h r j)
      = score (query (yRow o w x r) (fun l => g (ix2 1 l)) (fun l c => wq (ix3 1 l c))) (fun j c => kv (ix2 j c)) h j := fun h j => by
    rw [scores_apply]
    refine congrArg (· * scale) (Finset.sum_congr rfl fun d _ => Ideal.mul_congr ?_ (keys_apply kv j h d))
    rw [queries_apply, show (fun l => residual o w x (ix2 r l)) = _ from funext hy]
  refine Eq.trans (b := residual o w x (ix2 r k) + ∑ c : Fin 512, (∑ j : Fin 256, values kv (ix3 j (headOf c) ⟨c.val % 128, by omega⟩)
    * shares (scores (queries (normed (residual o w x) g) wq) kv) (ix3 (headOf c) r j)) * wo (ix3 1 c k)) ?_ ?_
  · pointwise [term]
  · unfold attnRow attend
    refine congrArg₂ (· + ·) (hy k) (Finset.sum_congr rfl fun c _ => congrArg (· * _) ?_)
    rw [← mix_eq _ _ (hk r (headOf c)) 0]
    unfold mixEarly
    refine Finset.sum_congr rfl fun j _ => ?_
    rw [mul_comm, shares_apply, show (fun j => scores (queries (normed (residual o w x) g) wq) kv (ix3 (headOf c) r j)) = _ from
      funext (hs (headOf c)), values_apply]
    refine congrArg (fun l => _ * kv (ix2 j l)) (Fin.ext ?_)
    show 512 + c.val / 128 * 128 + c.val % 128 = 512 + c.val
    omega

end Cert.PostMixOddRefIdeal.Hand

end
-- ==== Proof.PostMixTie.lean ====
/- The equations of the two output projections with memory attention: for finite arguments the reference's term is the
   array the call leaves. -/
module

public import proofs.«01_k».proof.Proof.PostMixKernel
public import proofs.«01_k».proof.Proof.PostMixReference
public import proofs.«01_k».proof.Proof.PostMixOddKernel
public import proofs.«01_k».proof.Proof.PostMixOddReference
public import proofs.«01_k».proof.Proof.Gen.Pre_post_mix_finite
public import proofs.«01_k».proof.Proof.Gen.Pre_post_mix_odd_finite

@[expose] public section

set_option maxRecDepth 16384

noncomputable section

namespace Cert.PostMixTie

open Idealize.ShloMosaic Idealize.SL.Sem Cert.SoftmaxMath

/-- The precondition's word for one entry says that the entry is a real number. -/
theorem isReal_of_cmp {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine isReal_of_abs ?_
  by_contra hn
  simp [Ideal.cmp, hn] at h

theorem real2 {a b : ℕ} (x : FVec Ideal ⟨2, ![a, b]⟩ .f32) {h : (⟨0, ![]⟩ : Shape).BroadcastsInDim ⟨2, ![a, b]⟩ (![] : Fin 0 → Fin 2)}
    (hx : cmpf .olt (Host.absf x) (broadcastInDim ⟨2, ![a, b]⟩ ![] h (constant ⟨0, ![]⟩ .f32 0x7F800000#32)) = fun _ => 1#1)
    (i : Fin a) (j : Fin b) : IsReal (x (ix2 i j)) :=
  isReal_of_cmp (congrFun hx (ix2 i j))

theorem real3 {a b c : ℕ} (x : FVec Ideal ⟨3, ![a, b, c]⟩ .f32) {h : (⟨0, ![]⟩ : Shape).BroadcastsInDim ⟨3, ![a, b, c]⟩ (![] : Fin 0 → Fin 3)}
    (hx : cmpf .olt (Host.absf x) (broadcastInDim ⟨3, ![a, b, c]⟩ ![] h (constant ⟨0, ![]⟩ .f32 0x7F800000#32)) = fun _ => 1#1)
    (l : Fin a) (i : Fin b) (j : Fin c) : IsReal (x (ix3 l i j)) :=
  isReal_of_cmp (congrFun hx (ix3 l i j))

theorem even (m : (ℓ : Loc Cert.PostMixIdeal.nD Cert.PostMixIdeal.τ Cert.PostMixIdeal.sig) → Buf (Elt Ideal) ℓ)
    (m' : (ℓ : Loc Cert.PostMixRefIdeal.nD Cert.PostMixRefIdeal.τ Cert.PostMixRefIdeal.sig) → Buf (Elt Ideal) ℓ) (c : Dev Cert.PostMixIdeal.nD)
    (hp : (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).1 = (fun _ => 1#1)
      ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.1 = (fun _ => 1#1)
      ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.1 = (fun _ => 1#1)
      ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.1 = (fun _ => 1#1)
      ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.2.1 = (fun _ => 1#1)
      ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.2.2.1 = (fun _ => 1#1)
      ∧ (Cert.Pre_post_mix_finite.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7))).2.2.2.2.2.2 = (fun _ => 1#1))
    (h0 : m' ((c.tc : Thread Cert.PostMixRefIdeal.nD Cert.PostMixRefIdeal.τ).loc Cert.PostMixRefIdeal.main_arg0) = m ((c.tc : Thread Cert.PostMixIdeal.nD Cert.PostMixIdeal.τ).loc Cert.PostMixIdeal.main_arg0))
    (h1 : m' ((c.tc : Thread Cert.PostMixRefIdeal.nD Cert.PostMixRefIdeal.τ).loc Cert.PostMixRefIdeal.main_arg1) = m ((c.tc : Thread Cert.PostMixIdeal.nD Cert.PostMixIdeal.τ).loc Cert.PostMixIdeal.main_arg1))
    (h2 : m' ((c.tc : Thread Cert.PostMixRefIdeal.nD Cert.PostMixRefIdeal.τ).loc Cert.PostMixRefIdeal.main_arg2) = m ((c.tc : Thread Cert.PostMixIdeal.nD Cert.PostMixIdeal.τ).loc Cert.PostMixIdeal.main_arg2))
    (h3 : m' ((c.tc : Thread Cert.PostMixRefIdeal.nD Cert.PostMixRefIdeal.τ).loc Cert.PostMixRefIdeal.main_arg3) = m ((c.tc : Thread Cert.PostMixIdeal.nD Cert.PostMixIdeal.τ).loc Cert.PostMixIdeal.main_arg3))
    (h4 : m' ((c.tc : Thread Cert.PostMixRefIdeal.nD Cert.PostMixRefIdeal.τ).loc Cert.PostMixRefIdeal.main_arg4) = m ((c.tc : Thread Cert.PostMixIdeal.nD Cert.PostMixIdeal.τ).loc Cert.PostMixIdeal.main_arg4))
    (h5 : m' ((c.tc : Thread Cert.PostMixRefIdeal.nD Cert.PostMixRefIdeal.τ).loc Cert.PostMixRefIdeal.main_arg5) = m ((c.tc : Thread Cert.PostMixIdeal.nD Cert.PostMixIdeal.τ).loc Cert.PostMixIdeal.main_arg5))
    (h6 : m' ((c.tc : Thread Cert.PostMixRefIdeal.nD Cert.PostMixRefIdeal.τ).loc Cert.PostMixRefIdeal.main_arg6) = m ((c.tc : Thread Cert.PostMixIdeal.nD Cert.PostMixIdeal.τ).loc Cert.PostMixIdeal.main_arg6))
    (h7 : m' ((c.tc : Thread Cert.PostMixRefIdeal.nD Cert.PostMixRefIdeal.τ).loc Cert.PostMixRefIdeal.main_arg7) = m ((c.tc : Thread Cert.PostMixIdeal.nD Cert.PostMixIdeal.τ).loc Cert.PostMixIdeal.main_arg7)) :
    Cert.PostMixRefIdeal.Hand.term (m' ((c.tc : Thread Cert.PostMixRefIdeal.nD Cert.PostMixRefIdeal.τ).loc Cert.PostMixRefIdeal.main_arg0)) (m' ((c.tc : Thread Cert.PostMixRefIdeal.nD Cert.PostMixRefIdeal.τ).loc Cert.PostMixRefIdeal.main_arg1)) (m' ((c.tc : Thread Cert.PostMixRefIdeal.nD Cert.PostMixRefIdeal.τ).loc Cert.PostMixRefIdeal.main_arg2)) (m' ((c.tc : Thread Cert.PostMixRefIdeal.nD Cert.PostMixRefIdeal.τ).loc Cert.PostMixRefIdeal.main_arg3)) (m' ((c.tc : Thread Cert.PostMixRefIdeal.nD Cert.PostMixRefIdeal.τ).loc Cert.PostMixRefIdeal.main_arg4)) (m' ((c.tc : Thread Cert.PostMixRefIdeal.nD Cert.PostMixRefIdeal.τ).loc Cert.PostMixRefIdeal.main_arg5)) (m' ((c.tc : Thread Cert.PostMixRefIdeal.nD Cert.PostMixRefIdeal.τ).loc Cert.PostMixRefIdeal.main_arg6)) (m' ((c.tc : Thread Cert.PostMixRefIdeal.nD Cert.PostMixRefIdeal.τ).loc Cert.PostMixRefIdeal.main_arg7)) = (Cert.PostMixIdeal.Gen.dats m 0 c).arrAt 9 Cert.PostMixIdeal.cfg0.N := by
  refine Eq.trans ?_ (Cert.PostMixIdeal.Hand.array_eq m c).symm
  obtain ⟨qa, qb, qw, qx, qg, qwq, qkv⟩ := hp
  funext i
  obtain ⟨r, k, rfl⟩ : ∃ r k, i = ix2 r k := ⟨i 0, i 1, eq_ix2 i⟩
  rw [h0, h1, h2, h3, h4, h5, h6, h7]
  have ha : ∀ i j, IsReal (Cert.PostMixIdeal.Hand.A m c (ix2 i j)) := fun i j => real2 (Cert.PostMixIdeal.Hand.A m c) qa i j
  have hb : ∀ i j, IsReal (Cert.PostMixIdeal.Hand.B m c (ix2 i j)) := fun i j => real2 (Cert.PostMixIdeal.Hand.B m c) qb i j
  have hw : ∀ l i j, IsReal (Cert.PostMixIdeal.Hand.W m c (ix3 l i j)) := fun l i j => real3 (Cert.PostMixIdeal.Hand.W m c) qw l i j
  have hx : ∀ i j, IsReal (Cert.PostMixIdeal.Hand.X m c (ix2 i j)) := fun i j => real2 (Cert.PostMixIdeal.Hand.X m c) qx i j
  have hg : ∀ i j, IsReal (Cert.PostMixIdeal.Hand.G m c (ix2 i j)) := fun i j => real2 (Cert.PostMixIdeal.Hand.G m c) qg i j
  have hwq : ∀ l i j, IsReal (Cert.PostMixIdeal.Hand.Wq m c (ix3 l i j)) := fun l i j => real3 (Cert.PostMixIdeal.Hand.Wq m c) qwq l i j
  have hkv : ∀ i j, IsReal (Cert.PostMixIdeal.Hand.Kv m c (ix2 i j)) := fun i j => real2 (Cert.PostMixIdeal.Hand.Kv m c) qkv i j
  have ho : ∀ (R : Fin 8192) (j : Fin 2048), IsReal (Cert.PostMixIdeal.Hand.oRow m c R j) := fun R j => by
    unfold Cert.PostMixIdeal.Hand.oRow
    split
    · exact ha _ _
    · exact hb _ _
  refine Cert.PostMixRefIdeal.Hand.term_apply _ _ _ _ _ _ _ _ (fun R h j => ?_) r k
  exact isReal_score (isReal_query (isReal_resid (hx R) (ho R) (hw 0)) (hg 0) (hwq 0)) hkv h j

theorem odd (m : (ℓ : Loc Cert.PostMixOddIdeal.nD Cert.PostMixOddIdeal.τ Cert.PostMixOddIdeal.sig) → Buf (Elt Ideal) ℓ)
    (m' : (ℓ : Loc Cert.PostMixOddRefIdeal.nD Cert.PostMixOddRefIdeal.τ Cert.PostMixOddRefIdeal.sig) → Buf (Elt Ideal) ℓ) (c : Dev Cert.PostMixOddIdeal.nD)
    (hp : (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).1 = (fun _ => 1#1)
      ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.1 = (fun _ => 1#1)
      ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.1 = (fun _ => 1#1)
      ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.2.1 = (fun _ => 1#1)
      ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.2.2.1 = (fun _ => 1#1)
      ∧ (Cert.Pre_post_mix_odd_finite.fn (F := Ideal) (m ((c.tc : Thread Cert.PostMixOddIdeal.nD Cert.PostMixOddIdeal.τ).loc Cert.PostMixOddIdeal.main_arg0)) (m ((c.tc : Thread Cert.PostMixOddIdeal.nD Cert.PostMixOddIdeal.τ).loc Cert.PostMixOddIdeal.main_arg1)) (m ((c.tc : Thread Cert.PostMixOddIdeal.nD Cert.PostMixOddIdeal.τ).loc Cert.PostMixOddIdeal.main_arg2)) (m ((c.tc : Thread Cert.PostMixOddIdeal.nD Cert.PostMixOddIdeal.τ).loc Cert.PostMixOddIdeal.main_arg3)) (m ((c.tc : Thread Cert.PostMixOddIdeal.nD Cert.PostMixOddIdeal.τ).loc Cert.PostMixOddIdeal.main_arg4)) (m ((c.tc : Thread Cert.PostMixOddIdeal.nD Cert.PostMixOddIdeal.τ).loc Cert.PostMixOddIdeal.main_arg5)) (m ((c.tc : Thread Cert.PostMixOddIdeal.nD Cert.PostMixOddIdeal.τ).loc Cert.PostMixOddIdeal.main_arg6))).2.2.2.2.2 = (fun _ => 1#1))
    (h0 : m' ((c.tc : Thread Cert.PostMixOddRefIdeal.nD Cert.PostMixOddRefIdeal.τ).loc Cert.PostMixOddRefIdeal.main_arg0) = m ((c.tc : Thread Cert.PostMixOddIdeal.nD Cert.PostMixOddIdeal.τ).loc Cert.PostMixOddIdeal.main_arg0))
    (h1 : m' ((c.tc : Thread Cert.PostMixOddRefIdeal.nD Cert.PostMixOddRefIdeal.τ).loc Cert.PostMixOddRefIdeal.main_arg1) = m ((c.tc : Thread Cert.PostMixOddIdeal.nD Cert.PostMixOddIdeal.τ).loc Cert.PostMixOddIdeal.main_arg1))
    (h2 : m' ((c.tc : Thread Cert.PostMixOddRefIdeal.nD Cert.PostMixOddRefIdeal.τ).loc Cert.PostMixOddRefIdeal.main_arg2) = m ((c.tc : Thread Cert.PostMixOddIdeal.nD Cert.PostMixOddIdeal.τ).loc Cert.PostMixOddIdeal.main_arg2))
    (h3 : m' ((c.tc : Thread Cert.PostMixOddRefIdeal.nD Cert.PostMixOddRefIdeal.τ).loc Cert.PostMixOddRefIdeal.main_arg3) = m ((c.tc : Thread Cert.PostMixOddIdeal.nD Cert.PostMixOddIdeal.τ).loc Cert.PostMixOddIdeal.main_arg3))
    (h4 : m' ((c.tc : Thread Cert.PostMixOddRefIdeal.nD Cert.PostMixOddRefIdeal.τ).loc Cert.PostMixOddRefIdeal.main_arg4) = m ((c.tc : Thread Cert.PostMixOddIdeal.nD Cert.PostMixOddIdeal.τ).loc Cert.PostMixOddIdeal.main_arg4))
    (h5 : m' ((c.tc : Thread Cert.PostMixOddRefIdeal.nD Cert.PostMixOddRefIdeal.τ).loc Cert.PostMixOddRefIdeal.main_arg5) = m ((c.tc : Thread Cert.PostMixOddIdeal.nD Cert.PostMixOddIdeal.τ).loc Cert.PostMixOddIdeal.main_arg5))
    (h6 : m' ((c.tc : Thread Cert.PostMixOddRefIdeal.nD Cert.PostMixOddRefIdeal.τ).loc Cert.PostMixOddRefIdeal.main_arg6) = m ((c.tc : Thread Cert.PostMixOddIdeal.nD Cert.PostMixOddIdeal.τ).loc Cert.PostMixOddIdeal.main_arg6)) :
    Cert.PostMixOddRefIdeal.Hand.term (m' ((c.tc : Thread Cert.PostMixOddRefIdeal.nD Cert.PostMixOddRefIdeal.τ).loc Cert.PostMixOddRefIdeal.main_arg0)) (m' ((c.tc : Thread Cert.PostMixOddRefIdeal.nD Cert.PostMixOddRefIdeal.τ).loc Cert.PostMixOddRefIdeal.main_arg1)) (m' ((c.tc : Thread Cert.PostMixOddRefIdeal.nD Cert.PostMixOddRefIdeal.τ).loc Cert.PostMixOddRefIdeal.main_arg2)) (m' ((c.tc : Thread Cert.PostMixOddRefIdeal.nD Cert.PostMixOddRefIdeal.τ).loc Cert.PostMixOddRefIdeal.main_arg3)) (m' ((c.tc : Thread Cert.PostMixOddRefIdeal.nD Cert.PostMixOddRefIdeal.τ).loc Cert.PostMixOddRefIdeal.main_arg4)) (m' ((c.tc : Thread Cert.PostMixOddRefIdeal.nD Cert.PostMixOddRefIdeal.τ).loc Cert.PostMixOddRefIdeal.main_arg5)) (m' ((c.tc : Thread Cert.PostMixOddRefIdeal.nD Cert.PostMixOddRefIdeal.τ).loc Cert.PostMixOddRefIdeal.main_arg6)) = (Cert.PostMixOddIdeal.Gen.dats m 0 c).arrAt 9 Cert.PostMixOddIdeal.cfg0.N := by
  refine Eq.trans ?_ (Cert.PostMixOddIdeal.Hand.array_eq m c).symm
  obtain ⟨qo, qw, qx, qg, qwq, qkv⟩ := hp
  funext i
  obtain ⟨r, k, rfl⟩ : ∃ r k, i = ix2 r k := ⟨i 0, i 1, eq_ix2 i⟩
  rw [h0, h1, h2, h3, h4, h5, h6]
  have ho : ∀ i j, IsReal (Cert.PostMixOddIdeal.Hand.O m c (ix2 i j)) := fun i j => real2 (Cert.PostMixOddIdeal.Hand.O m c) qo i j
  have hw : ∀ l i j, IsReal (Cert.PostMixOddIdeal.Hand.W m c (ix3 l i j)) := fun l i j => real3 (Cert.PostMixOddIdeal.Hand.W m c) qw l i j
  have hx : ∀ i j, IsReal (Cert.PostMixOddIdeal.Hand.X m c (ix2 i j)) := fun i j => real2 (Cert.PostMixOddIdeal.Hand.X m c) qx i j
  have hg : ∀ i j, IsReal (Cert.PostMixOddIdeal.Hand.G m c (ix2 i j)) := fun i j => real2 (Cert.PostMixOddIdeal.Hand.G m c) qg i j
  have hwq : ∀ l i j, IsReal (Cert.PostMixOddIdeal.Hand.Wq m c (ix3 l i j)) := fun l i j => real3 (Cert.PostMixOddIdeal.Hand.Wq m c) qwq l i j
  have hkv : ∀ i j, IsReal (Cert.PostMixOddIdeal.Hand.Kv m c (ix2 i j)) := fun i j => real2 (Cert.PostMixOddIdeal.Hand.Kv m c) qkv i j
  refine Cert.PostMixOddRefIdeal.Hand.term_apply _ _ _ _ _ _ _ (fun R h j => ?_) r k
  exact isReal_score (isReal_query (isReal_resid (hx R) (ho R) (hw 1)) (hg 1) (hwq 1)) hkv h j

end Cert.PostMixTie

end
-- ==== Proof.NaTie.lean ====
/- The equation of the neighbourhood attention: for finite arguments the reference's term is the array the call leaves. -/
module

public import proofs.«01_k».proof.Proof.NaIdealKernel
public import proofs.«01_k».proof.Proof.NaReference
public import proofs.«01_k».proof.Proof.PostMixTie
public import proofs.«01_k».proof.Proof.Gen.Pre_na_finite

@[expose] public section

set_option maxRecDepth 16384

noncomputable section

namespace Cert.NaTie

open Idealize.ShloMosaic Idealize.SL.Sem Cert.SoftmaxMath Cert.NaMath Cert.PostMixTie

theorem real4 {a b c d : ℕ} (x : FVec Ideal ⟨4, ![a, b, c, d]⟩ .f32) {h : (⟨0, ![]⟩ : Shape).BroadcastsInDim ⟨4, ![a, b, c, d]⟩ (![] : Fin 0 → Fin 4)}
    (hx : cmpf .olt (Host.absf x) (broadcastInDim ⟨4, ![a, b, c, d]⟩ ![] h (constant ⟨0, ![]⟩ .f32 0x7F800000#32)) = fun _ => 1#1)
    (l : Fin a) (i : Fin b) (j : Fin c) (k : Fin d) : IsReal (x (ix4 l i j k)) :=
  isReal_of_cmp (congrFun hx (ix4 l i j k))

theorem na (m : (ℓ : Loc Cert.NaIdeal.nD Cert.NaIdeal.τ Cert.NaIdeal.sig) → Buf (Elt Ideal) ℓ)
    (m' : (ℓ : Loc Cert.NaRefIdeal.nD Cert.NaRefIdeal.τ Cert.NaRefIdeal.sig) → Buf (Elt Ideal) ℓ) (c : Dev Cert.NaIdeal.nD)
    (hp : (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).1 = (fun _ => 1#1)
      ∧ (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).2 = (fun _ => 1#1))
    (h0 : m' ((c.tc : Thread Cert.NaRefIdeal.nD Cert.NaRefIdeal.τ).loc Cert.NaRefIdeal.main_arg0) = m ((c.tc : Thread Cert.NaIdeal.nD Cert.NaIdeal.τ).loc Cert.NaIdeal.main_arg0))
    (h1 : m' ((c.tc : Thread Cert.NaRefIdeal.nD Cert.NaRefIdeal.τ).loc Cert.NaRefIdeal.main_arg1) = m ((c.tc : Thread Cert.NaIdeal.nD Cert.NaIdeal.τ).loc Cert.NaIdeal.main_arg1)) :
    Cert.NaRefIdeal.Value.res_main_v54 m' c = (Cert.NaIdeal.Hand.dats m 0 c).arrAt 4 Cert.NaIdeal.cfg0.N := by
  refine Eq.trans ?_ (Cert.NaIdeal.Hand.array_eq m c).symm
  obtain ⟨qx, qb⟩ := hp
  rw [Cert.NaRefIdeal.Hand.res_eq, h0, h1]
  funext i
  obtain ⟨r, k, rfl⟩ : ∃ r k, i = ix2 r k := ⟨i 0, i 1, eq_ix2 i⟩
  have hx : ∀ i j, IsReal (Cert.NaIdeal.Hand.X m c (ix2 i j)) := fun i j => real2 (Cert.NaIdeal.Hand.X m c) qx i j
  have hb : ∀ l i j k, IsReal (Cert.NaIdeal.Hand.B m c (ix4 l i j k)) := fun l i j k => real4 (Cert.NaIdeal.Hand.B m c) qb l i j k
  exact Cert.NaRefIdeal.Hand.term_apply _ _ (fun R h j => isReal_score2 hx hb R h j) r k

end Cert.NaTie

end
-- ==== Proof.lean ====
/- Every claim of the certificate: the frames, the value claims of each call against its reference, and their
   conjunction. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnOdd.Frame
public import proofs.«01_k».proof.Proof.Gen.FfnOddIdeal.Value
public import proofs.«01_k».proof.Proof.Gen.FfnOddRefIdeal.Run
public import proofs.«01_k».proof.Proof.Gen.FfnLast.Frame
public import proofs.«01_k».proof.Proof.Gen.FfnLastIdeal.Value
public import proofs.«01_k».proof.Proof.Gen.FfnLastRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.InProjOdd.Frame
public import proofs.«01_k».proof.Proof.Gen.InProjOddIdeal.Value
public import proofs.«01_k».proof.Proof.Gen.InProjOddRefIdeal.Run
public import proofs.«01_k».proof.Proof.Gen.MemProj.Frame
public import proofs.«01_k».proof.Proof.Gen.MemProjIdeal.Value
public import proofs.«01_k».proof.Proof.Gen.MemProjRefIdeal.Run
public import proofs.«01_k».proof.Proof.Gen.MemProjOdd.Frame
public import proofs.«01_k».proof.Proof.Gen.MemProjOddIdeal.Value
public import proofs.«01_k».proof.Proof.Gen.MemProjOddRefIdeal.Run
public import proofs.«01_k».proof.Proof.Gen.PostMix.Frame
public import proofs.«01_k».proof.Proof.Gen.PostMixIdeal.Value
public import proofs.«01_k».proof.Proof.Gen.PostMixRefIdeal.Run
public import proofs.«01_k».proof.Proof.Gen.PostMixOdd.Frame
public import proofs.«01_k».proof.Proof.Gen.PostMixOddIdeal.Value
public import proofs.«01_k».proof.Proof.Gen.PostMixOddRefIdeal.Run
public import proofs.«01_k».proof.Proof.Gen.Na.Frame
public import proofs.«01_k».proof.Proof.NaFrame
public import proofs.«01_k».proof.Proof.NaIdealFrame
public import proofs.«01_k».proof.Proof.Gen.NaRefIdeal.Run
public import proofs.«01_k».proof.Proof.Gen.Pre_post_mix_finite
public import proofs.«01_k».proof.Proof.Gen.Pre_post_mix_odd_finite
public import proofs.«01_k».proof.Proof.Gen.Pre_na_finite
public import proofs.«01_k».proof.Proof.FfnOddTie
public import proofs.«01_k».proof.Proof.FfnTie
public import proofs.«01_k».proof.Proof.InProjTie
public import proofs.«01_k».proof.Proof.MemProjTie
public import proofs.«01_k».proof.Proof.NaTie
public import proofs.«01_k».proof.Proof.PostMixTie
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  obtain ⟨h0, h1, h2, h3, h4⟩ := hagree c
  exact Cert.FfnTie.ffn m m' c h0 h1 h2 h3 h4

theorem quiescent_FfnOddRefIdeal : quiescent_FfnOddRefIdeal := fun m ρ _ =>
  (θ_run Cert.FfnOddRefIdeal.defs _ _).mono (fun r h => ⟨fun c => (h c).2, sem_eq_zero_of_no_sems (by decide) r.2⟩)
    (Cert.FfnOddRefIdeal.Value.run (F := Ideal) m ρ)

theorem algebraic_FfnOddIdeal_FfnOddRefIdeal : algebraic_FfnOddIdeal_FfnOddRefIdeal := by
  intro m ρ m' ρ' _ hagree
  refine ⟨_, Cert.FfnOddIdeal.Value.run (F := Ideal) m ρ, ?_⟩
  refine (θ_run Cert.FfnOddRefIdeal.defs _ _).mono (fun _ h c => ⟨?_, (h c).2⟩) (Cert.FfnOddRefIdeal.Value.run (F := Ideal) m' ρ')
  rw [(h c).1]
  obtain ⟨h0, h1, h2, h3, h4⟩ := hagree c
  exact Cert.FfnOddTie.ffn m m' c h0 h1 h2 h3 h4

theorem quiescent_FfnLastRefIdeal : quiescent_FfnLastRefIdeal := fun m ρ _ =>
  (θ_run Cert.FfnLastRefIdeal.defs _ _).mono (fun r h => ⟨fun c => (h c).2, sem_eq_zero_of_no_sems (by decide) r.2⟩)
    (Cert.FfnLastRefIdeal.Value.run (F := Ideal) m ρ)

theorem algebraic_FfnLastIdeal_FfnLastRefIdeal : algebraic_FfnLastIdeal_FfnLastRefIdeal := by
  intro m ρ m' ρ' _ hagree
  refine ⟨_, Cert.FfnLastIdeal.Value.run (F := Ideal) m ρ, ?_⟩
  refine (θ_run Cert.FfnLastRefIdeal.defs _ _).mono (fun _ h c => ⟨?_, (h c).2⟩) (Cert.FfnLastRefIdeal.Value.run (F := Ideal) m' ρ')
  rw [(h c).1]
  obtain ⟨h0, h1, h2, h3, h4, h5⟩ := hagree c
  exact Cert.FfnTie.last m m' c h0 h1 h2 h3 h4 h5

theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem algebraic_InProjIdeal_InProjRefIdeal : algebraic_InProjIdeal_InProjRefIdeal := by
  intro m ρ m' ρ' _ hagree
  refine ⟨_, Cert.InProjIdeal.Value.run (F := Ideal) m ρ, ?_⟩
  refine (θ_run Cert.InProjRefIdeal.defs _ _).mono (fun _ h c => ⟨?_, (h c).2⟩) (Cert.InProjRefIdeal.Value.run (F := Ideal) m' ρ')
  rw [(h c).1]
  obtain ⟨h0, h1, h2, h3⟩ := hagree c
  exact Cert.InProjTie.even m m' c h0 h1 h2 h3

theorem quiescent_InProjOddRefIdeal : quiescent_InProjOddRefIdeal := fun m ρ _ =>
  (θ_run Cert.InProjOddRefIdeal.defs _ _).mono (fun r h => ⟨fun c => (h c).2, sem_eq_zero_of_no_sems (by decide) r.2⟩)
    (Cert.InProjOddRefIdeal.Value.run (F := Ideal) m ρ)

theorem algebraic_InProjOddIdeal_InProjOddRefIdeal : algebraic_InProjOddIdeal_InProjOddRefIdeal := by
  intro m ρ m' ρ' _ hagree
  refine ⟨_, Cert.InProjOddIdeal.Value.run (F := Ideal) m ρ, ?_⟩
  refine (θ_run Cert.InProjOddRefIdeal.defs _ _).mono (fun _ h c => ⟨?_, (h c).2⟩) (Cert.InProjOddRefIdeal.Value.run (F := Ideal) m' ρ')
  rw [(h c).1]
  obtain ⟨h0, h1, h2, h3⟩ := hagree c
  exact Cert.InProjTie.odd m m' c h0 h1 h2 h3

theorem quiescent_MemProjRefIdeal : quiescent_MemProjRefIdeal := fun m ρ _ =>
  (θ_run Cert.MemProjRefIdeal.defs _ _).mono (fun r h => ⟨fun c => (h c).2, sem_eq_zero_of_no_sems (by decide) r.2⟩)
    (Cert.MemProjRefIdeal.Value.run (F := Ideal) m ρ)

theorem algebraic_MemProjIdeal_MemProjRefIdeal : algebraic_MemProjIdeal_MemProjRefIdeal := by
  intro m ρ m' ρ' _ hagree
  refine ⟨_, Cert.MemProjIdeal.Value.run_blocks (F := Ideal) m ρ, ?_⟩
  refine (θ_run Cert.MemProjRefIdeal.defs _ _).mono (fun _ h c => ⟨?_, (h c).2⟩) (Cert.MemProjRefIdeal.Value.run (F := Ideal) m' ρ')
  rw [(h c).1]
  obtain ⟨h0, h1, h2, h3⟩ := hagree c
  exact Cert.MemProjTie.even m m' c h0 h1 h2 h3

theorem quiescent_MemProjOddRefIdeal : quiescent_MemProjOddRefIdeal := fun m ρ _ =>
  (θ_run Cert.MemProjOddRefIdeal.defs _ _).mono (fun r h => ⟨fun c => (h c).2, sem_eq_zero_of_no_sems (by decide) r.2⟩)
    (Cert.MemProjOddRefIdeal.Value.run (F := Ideal) m ρ)

theorem algebraic_MemProjOddIdeal_MemProjOddRefIdeal : algebraic_MemProjOddIdeal_MemProjOddRefIdeal := by
  intro m ρ m' ρ' _ hagree
  refine ⟨_, Cert.MemProjOddIdeal.Value.run_blocks (F := Ideal) m ρ, ?_⟩
  refine (θ_run Cert.MemProjOddRefIdeal.defs _ _).mono (fun _ h c => ⟨?_, (h c).2⟩) (Cert.MemProjOddRefIdeal.Value.run (F := Ideal) m' ρ')
  rw [(h c).1]
  obtain ⟨h0, h1, h2, h3⟩ := hagree c
  exact Cert.MemProjTie.odd m m' c h0 h1 h2 h3

theorem quiescent_PostMixRefIdeal : quiescent_PostMixRefIdeal := fun m ρ _ =>
  (θ_run Cert.PostMixRefIdeal.defs _ _).mono (fun r h => ⟨fun c => (h c).2, sem_eq_zero_of_no_sems (by decide) r.2⟩)
    (Cert.PostMixRefIdeal.Value.run (F := Ideal) m ρ)

theorem algebraic_PostMixIdeal_PostMixRefIdeal_pre_post_mix_finite : algebraic_PostMixIdeal_PostMixRefIdeal_pre_post_mix_finite := by
  intro m ρ m' ρ' hpre hagree
  refine ⟨_, Cert.PostMixIdeal.Value.run_blocks (F := Ideal) m ρ, ?_⟩
  refine (θ_run Cert.PostMixRefIdeal.defs _ _).mono (fun _ h c => ⟨?_, (h c).2⟩) (Cert.PostMixRefIdeal.Value.run (F := Ideal) m' ρ')
  rw [(h c).1]
  obtain ⟨h0, h1, h2, h3, h4, h5, h6, h7⟩ := hagree c
  exact Cert.PostMixTie.even m m' c (hpre c) h0 h1 h2 h3 h4 h5 h6 h7

theorem quiescent_PostMixOddRefIdeal : quiescent_PostMixOddRefIdeal := fun m ρ _ =>
  (θ_run Cert.PostMixOddRefIdeal.defs _ _).mono (fun r h => ⟨fun c => (h c).2, sem_eq_zero_of_no_sems (by decide) r.2⟩)
    (Cert.PostMixOddRefIdeal.Value.run (F := Ideal) m ρ)

theorem algebraic_PostMixOddIdeal_PostMixOddRefIdeal_pre_post_mix_odd_finite : algebraic_PostMixOddIdeal_PostMixOddRefIdeal_pre_post_mix_odd_finite := by
  intro m ρ m' ρ' hpre hagree
  refine ⟨_, Cert.PostMixOddIdeal.Value.run_blocks (F := Ideal) m ρ, ?_⟩
  refine (θ_run Cert.PostMixOddRefIdeal.defs _ _).mono (fun _ h c => ⟨?_, (h c).2⟩) (Cert.PostMixOddRefIdeal.Value.run (F := Ideal) m' ρ')
  rw [(h c).1]
  obtain ⟨h0, h1, h2, h3, h4, h5, h6⟩ := hagree c
  exact Cert.PostMixTie.odd m m' c (hpre c) h0 h1 h2 h3 h4 h5 h6

theorem quiescent_NaRefIdeal : quiescent_NaRefIdeal := fun m ρ _ =>
  (θ_run Cert.NaRefIdeal.defs _ _).mono (fun r h => ⟨fun c => (h c).2, sem_eq_zero_of_no_sems (by decide) r.2⟩)
    (Cert.NaRefIdeal.Value.run (F := Ideal) m ρ)

theorem algebraic_NaIdeal_NaRefIdeal_pre_na_finite : algebraic_NaIdeal_NaRefIdeal_pre_na_finite := by
  intro m ρ m' ρ' hpre hagree
  refine ⟨_, Cert.NaIdeal.Hand.run_blocks (F := Ideal) m ρ, ?_⟩
  refine (θ_run Cert.NaRefIdeal.defs _ _).mono (fun _ h c => ⟨?_, (h c).2⟩) (Cert.NaRefIdeal.Value.run (F := Ideal) m' ρ')
  rw [(h c).1]
  obtain ⟨h0, h1⟩ := hagree c
  exact Cert.NaTie.na m m' c (hpre c) h0 h1

theorem claim : Cert.Claim := ⟨Cert.Ffn.Gen.facts,
  Cert.FfnIdeal.Gen.facts,
  Cert.FfnRefIdeal.Gen.facts,
  Cert.FfnOdd.Gen.facts,
  Cert.FfnOddIdeal.Gen.facts,
  Cert.FfnOddRefIdeal.Gen.facts,
  Cert.FfnLast.Gen.facts,
  Cert.FfnLastIdeal.Gen.facts,
  Cert.FfnLastRefIdeal.Gen.facts,
  Cert.InProj.Gen.facts,
  Cert.InProjIdeal.Gen.facts,
  Cert.InProjRefIdeal.Gen.facts,
  Cert.InProjOdd.Gen.facts,
  Cert.InProjOddIdeal.Gen.facts,
  Cert.InProjOddRefIdeal.Gen.facts,
  Cert.MemProj.Gen.facts,
  Cert.MemProjIdeal.Gen.facts,
  Cert.MemProjRefIdeal.Gen.facts,
  Cert.MemProjOdd.Gen.facts,
  Cert.MemProjOddIdeal.Gen.facts,
  Cert.MemProjOddRefIdeal.Gen.facts,
  Cert.PostMix.Gen.facts,
  Cert.PostMixIdeal.Gen.facts,
  Cert.PostMixRefIdeal.Gen.facts,
  Cert.PostMixOdd.Gen.facts,
  Cert.PostMixOddIdeal.Gen.facts,
  Cert.PostMixOddRefIdeal.Gen.facts,
  Cert.Na.Gen.facts,
  Cert.NaIdeal.Gen.facts,
  Cert.NaRefIdeal.Gen.facts,
  Cert.Pre_post_mix_finite.Gen.facts,
  Cert.Pre_post_mix_odd_finite.Gen.facts,
  Cert.Pre_na_finite.Gen.facts,
  fun m ρ _ => Cert.Ffn.Gen.frame m ρ,
  fun m ρ _ => Cert.FfnIdeal.Gen.frame m ρ,
  quiescent_FfnRefIdeal,
  fun m ρ _ => Cert.FfnOdd.Gen.frame m ρ,
  fun m ρ _ => Cert.FfnOddIdeal.Gen.frame m ρ,
  quiescent_FfnOddRefIdeal,
  fun m ρ _ => Cert.FfnLast.Gen.frame m ρ,
  fun m ρ _ => Cert.FfnLastIdeal.Gen.frame m ρ,
  quiescent_FfnLastRefIdeal,
  fun m ρ _ => Cert.InProj.Gen.frame m ρ,
  fun m ρ _ => Cert.InProjIdeal.Gen.frame m ρ,
  quiescent_InProjRefIdeal,
  fun m ρ _ => Cert.InProjOdd.Gen.frame m ρ,
  fun m ρ _ => Cert.InProjOddIdeal.Gen.frame m ρ,
  quiescent_InProjOddRefIdeal,
  fun m ρ _ => Cert.MemProj.Gen.frame m ρ,
  fun m ρ _ => Cert.MemProjIdeal.Gen.frame m ρ,
  quiescent_MemProjRefIdeal,
  fun m ρ _ => Cert.MemProjOdd.Gen.frame m ρ,
  fun m ρ _ => Cert.MemProjOddIdeal.Gen.frame m ρ,
  quiescent_MemProjOddRefIdeal,
  fun m ρ _ => Cert.PostMix.Gen.frame m ρ,
  fun m ρ _ => Cert.PostMixIdeal.Gen.frame m ρ,
  fun m ρ _ => Cert.PostMixIdeal.Gen.frame m ρ,
  quiescent_PostMixRefIdeal,
  fun m ρ _ => quiescent_PostMixRefIdeal m ρ trivial,
  fun m ρ _ => Cert.PostMixOdd.Gen.frame m ρ,
  fun m ρ _ => Cert.PostMixOddIdeal.Gen.frame m ρ,
  fun m ρ _ => Cert.PostMixOddIdeal.Gen.frame m ρ,
  quiescent_PostMixOddRefIdeal,
  fun m ρ _ => quiescent_PostMixOddRefIdeal m ρ trivial,
  fun m ρ _ => Cert.Na.Hand.frame m ρ,
  fun m ρ _ => Cert.NaIdeal.Hand.frame m ρ,
  fun m ρ _ => Cert.NaIdeal.Hand.frame m ρ,
  quiescent_NaRefIdeal,
  fun m ρ _ => quiescent_NaRefIdeal m ρ trivial,
  (trivial : preserves_Ffn_FfnIdeal),
  algebraic_FfnIdeal_FfnRefIdeal,
  (trivial : preserves_FfnOdd_FfnOddIdeal),
  algebraic_FfnOddIdeal_FfnOddRefIdeal,
  (trivial : preserves_FfnLast_FfnLastIdeal),
  algebraic_FfnLastIdeal_FfnLastRefIdeal,
  (trivial : preserves_InProj_InProjIdeal),
  algebraic_InProjIdeal_InProjRefIdeal,
  (trivial : preserves_InProjOdd_InProjOddIdeal),
  algebraic_InProjOddIdeal_InProjOddRefIdeal,
  (trivial : preserves_MemProj_MemProjIdeal),
  algebraic_MemProjIdeal_MemProjRefIdeal,
  (trivial : preserves_MemProjOdd_MemProjOddIdeal),
  algebraic_MemProjOddIdeal_MemProjOddRefIdeal,
  (trivial : preserves_PostMix_PostMixIdeal),
  algebraic_PostMixIdeal_PostMixRefIdeal_pre_post_mix_finite,
  (trivial : preserves_PostMixOdd_PostMixOddIdeal),
  algebraic_PostMixOddIdeal_PostMixOddRefIdeal_pre_post_mix_odd_finite,
  (trivial : preserves_Na_NaIdeal),
  algebraic_NaIdeal_NaRefIdeal_pre_na_finite⟩

end Cert.Proof

end
